-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_separated [hPre_separated : Cert.Pre_separated.Facts] (m : (ℓ : Loc Cert.KernelIdeal.nD Cert.KernelIdeal.τ Cert.KernelIdeal.sig) → Buf (Elt Ideal) ℓ) : Prop :=
  ∀ c : Dev Cert.KernelIdeal.nD,
    (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2.1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2.2.1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2.2.2.1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2.2.2.2.1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_separated [hPre_separated : Cert.Pre_separated.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.2.1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.2.2.1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.2.2.2.1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.2.2.2.2.1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_separated [hKernelIdeal : Cert.KernelIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_separated m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_separated [hReferenceIdeal : Cert.ReferenceIdeal.Facts] [hPre_separated : Cert.Pre_separated.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_separated m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_separated [hKernelIdeal : Cert.KernelIdeal.Facts] [hReferenceIdeal : Cert.ReferenceIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_separated m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v34)) (v1 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_v34) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v377) = v0 c
          ∧ r.2.mem ((c.tc : Thread Cert.ReferenceIdeal.nD Cert.ReferenceIdeal.τ).loc Cert.ReferenceIdeal.main_v379) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_separated : Cert.Pre_separated.Facts),
    quiescent_Kernel (hKernel := hKernel)
    ∧ quiescent_KernelIdeal (hKernelIdeal := hKernelIdeal)
    ∧ quiescent_KernelIdeal_pre_separated (hKernelIdeal := hKernelIdeal) (hPre_separated := hPre_separated)
    ∧ quiescent_ReferenceIdeal (hReferenceIdeal := hReferenceIdeal)
    ∧ quiescent_ReferenceIdeal_pre_separated (hReferenceIdeal := hReferenceIdeal) (hPre_separated := hPre_separated)
    ∧ preserves_Kernel_KernelIdeal
    ∧ algebraic_KernelIdeal_ReferenceIdeal_pre_separated (hKernelIdeal := hKernelIdeal) (hReferenceIdeal := hReferenceIdeal) (hPre_separated := hPre_separated)
-- ==== Pre_separated.lean ====
abbrev S2x128x128x128 : Shape := ⟨4, ![2, 128, 128, 128]⟩
abbrev S2x128x128 : Shape := ⟨3, ![2, 128, 128]⟩
abbrev S_ : Shape := ⟨0, ![]⟩
abbrev S2x128x16x8x16x8 : Shape := ⟨6, ![2, 128, 16, 8, 16, 8]⟩
abbrev S2x16x16x8x8x128 : Shape := ⟨6, ![2, 16, 16, 8, 8, 128]⟩
abbrev S512x64x128 : Shape := ⟨3, ![512, 64, 128]⟩
abbrev S1x128x128 : Shape := ⟨3, ![1, 128, 128]⟩
abbrev S128x128 : Shape := ⟨2, ![128, 128]⟩
abbrev S512x64x8x16 : Shape := ⟨4, ![512, 64, 8, 16]⟩
abbrev S512x8x64x16 : Shape := ⟨4, ![512, 8, 64, 16]⟩
abbrev S512x8x64x64 : Shape := ⟨4, ![512, 8, 64, 64]⟩
abbrev S512x8x64 : Shape := ⟨3, ![512, 8, 64]⟩
abbrev S512x8x64x1 : Shape := ⟨4, ![512, 8, 64, 1]⟩
abbrev S2x256x64x128 : Shape := ⟨4, ![2, 256, 64, 128]⟩
abbrev S2x256x128 : Shape := ⟨3, ![2, 256, 128]⟩
abbrev S2x256x8x16 : Shape := ⟨4, ![2, 256, 8, 16]⟩
abbrev S2x8x256x16 : Shape := ⟨4, ![2, 8, 256, 16]⟩
abbrev S2x8x256x256 : Shape := ⟨4, ![2, 8, 256, 256]⟩
abbrev S2x8x256x50 : Shape := ⟨4, ![2, 8, 256, 50]⟩
abbrev S2x8x256x1 : Shape := ⟨4, ![2, 8, 256, 1]⟩
abbrev S2x8x256 : Shape := ⟨3, ![2, 8, 256]⟩
abbrev S2x8x1x256x16 : Shape := ⟨5, ![2, 8, 1, 256, 16]⟩
abbrev S2x8x256x256x16 : Shape := ⟨5, ![2, 8, 256, 256, 16]⟩
abbrev S2x8x256x50x1 : Shape := ⟨5, ![2, 8, 256, 50, 1]⟩
abbrev S1 : Shape := ⟨1, ![1]⟩
abbrev S1x1x1x1x1 : Shape := ⟨5, ![1, 1, 1, 1, 1]⟩
abbrev S2x8x256x50x16 : Shape := ⟨5, ![2, 8, 256, 50, 16]⟩
abbrev S2x256x1x128 : Shape := ⟨4, ![2, 256, 1, 128]⟩

class Facts : Prop where
  bcast_S_S2x128x128x128 : S_.BroadcastsInDim S2x128x128x128 (![] : Fin 0 → Fin S2x128x128x128.rank)
  bcast_S_S2x128x128 : S_.BroadcastsInDim S2x128x128 (![] : Fin 0 → Fin S2x128x128.rank)
  shapeCasts_S2x128x128x128_S2x128x16x8x16x8 : S2x128x128x128.ShapeCasts S2x128x16x8x16x8
  transposes_S2x128x16x8x16x8_S2x16x16x8x8x128_0_2_4_3_5_1 : S2x128x16x8x16x8.Transposes [0, 2, 4, 3, 5, 1] S2x16x16x8x8x128
  shapeCasts_S2x16x16x8x8x128_S512x64x128 : S2x16x16x8x8x128.ShapeCasts S512x64x128
  slices_S2x128x128_S1x128x128_0_0_0 : S2x128x128.Slices ![0, 0, 0] S1x128x128
  shapeCasts_S1x128x128_S128x128 : S1x128x128.ShapeCasts S128x128
  shapeCasts_S512x64x128_S512x64x8x16 : S512x64x128.ShapeCasts S512x64x8x16
  transposes_S512x64x8x16_S512x8x64x16_0_2_1_3 : S512x64x8x16.Transposes [0, 2, 1, 3] S512x8x64x16
  bcast_S_S512x8x64x64 : S_.BroadcastsInDim S512x8x64x64 (![] : Fin 0 → Fin S512x8x64x64.rank)
  reducesTo_S512x8x64x64_S512x8x64_d3 : S512x8x64x64.ReducesTo [3] S512x8x64
  h_S_ : 0 < S_.numel
  bcast_S_S512x8x64 : S_.BroadcastsInDim S512x8x64 (![] : Fin 0 → Fin S512x8x64.rank)
  bcast_S512x8x64_S512x8x64x1_0_1_2 : S512x8x64.BroadcastsInDim S512x8x64x1 (![0, 1, 2] : Fin 3 → Fin S512x8x64x1.rank)
  bcast_S512x8x64x1_S512x8x64x64_0_1_2_3 : S512x8x64x1.BroadcastsInDim S512x8x64x64 (![0, 1, 2, 3] : Fin 4 → Fin S512x8x64x64.rank)
  transposes_S512x8x64x16_S512x64x8x16_0_2_1_3 : S512x8x64x16.Transposes [0, 2, 1, 3] S512x64x8x16
  shapeCasts_S512x64x8x16_S512x64x128 : S512x64x8x16.ShapeCasts S512x64x128
  shapeCasts_S512x64x128_S2x256x64x128 : S512x64x128.ShapeCasts S2x256x64x128
  reducesTo_S2x256x64x128_S2x256x128_d2 : S2x256x64x128.ReducesTo [2] S2x256x128
  bcast_S_S2x256x128 : S_.BroadcastsInDim S2x256x128 (![] : Fin 0 → Fin S2x256x128.rank)
  shapeCasts_S2x256x128_S2x256x8x16 : S2x256x128.ShapeCasts S2x256x8x16
  transposes_S2x256x8x16_S2x8x256x16_0_2_1_3 : S2x256x8x16.Transposes [0, 2, 1, 3] S2x8x256x16
  bcast_S_S2x8x256x256 : S_.BroadcastsInDim S2x8x256x256 (![] : Fin 0 → Fin S2x8x256x256.rank)
  sliceFits_S2x8x256x256_S2x8x256x50 : S2x8x256x256.Slices (fun _ => 0) S2x8x256x50
  slices_S2x8x256x50_S2x8x256x1_0_0_0_49 : S2x8x256x50.Slices ![0, 0, 0, 49] S2x8x256x1
  bcast_S_S2x8x256x1 : S_.BroadcastsInDim S2x8x256x1 (![] : Fin 0 → Fin S2x8x256x1.rank)
  bcast_S2x8x256x1_S2x8x256x256_0_1_2_3 : S2x8x256x1.BroadcastsInDim S2x8x256x256 (![0, 1, 2, 3] : Fin 4 → Fin S2x8x256x256.rank)
  reducesTo_S2x8x256x256_S2x8x256_d3 : S2x8x256x256.ReducesTo [3] S2x8x256
  bcast_S_S2x8x256 : S_.BroadcastsInDim S2x8x256 (![] : Fin 0 → Fin S2x8x256.rank)
  shapeCasts_S2x8x256x1_S2x8x256 : S2x8x256x1.ShapeCasts S2x8x256
  reducesTo_S2x8x256x50_S2x8x256_d3 : S2x8x256x50.ReducesTo [3] S2x8x256
  bcast_S2x8x256_S2x8x256x1_0_1_2 : S2x8x256.BroadcastsInDim S2x8x256x1 (![0, 1, 2] : Fin 3 → Fin S2x8x256x1.rank)
  bcast_S2x8x256x1_S2x8x256x50_0_1_2_3 : S2x8x256x1.BroadcastsInDim S2x8x256x50 (![0, 1, 2, 3] : Fin 4 → Fin S2x8x256x50.rank)
  bcast_S2x8x256x16_S2x8x1x256x16_0_1_3_4 : S2x8x256x16.BroadcastsInDim S2x8x1x256x16 (![0, 1, 3, 4] : Fin 4 → Fin S2x8x1x256x16.rank)
  bcast_S2x8x1x256x16_S2x8x256x256x16_0_1_2_3_4 : S2x8x1x256x16.BroadcastsInDim S2x8x256x256x16 (![0, 1, 2, 3, 4] : Fin 5 → Fin S2x8x256x256x16.rank)
  bcast_S2x8x256x50_S2x8x256x50x1_0_1_2_3 : S2x8x256x50.BroadcastsInDim S2x8x256x50x1 (![0, 1, 2, 3] : Fin 4 → Fin S2x8x256x50x1.rank)
  bcast_S_S2x8x256x50x1 : S_.BroadcastsInDim S2x8x256x50x1 (![] : Fin 0 → Fin S2x8x256x50x1.rank)
  bcast_S1_S1x1x1x1x1_4 : S1.BroadcastsInDim S1x1x1x1x1 (![4] : Fin 1 → Fin S1x1x1x1x1.rank)
  bcast_S1x1x1x1x1_S2x8x256x50x1_0_1_2_3_4 : S1x1x1x1x1.BroadcastsInDim S2x8x256x50x1 (![0, 1, 2, 3, 4] : Fin 5 → Fin S2x8x256x50x1.rank)
  reducesTo_S2x8x256x50x1_S2x8x256x50_d4 : S2x8x256x50x1.ReducesTo [4] S2x8x256x50
  bcast_S2x8x256x50_S2x8x256x50x16_0_1_2_3 : S2x8x256x50.BroadcastsInDim S2x8x256x50x16 (![0, 1, 2, 3] : Fin 4 → Fin S2x8x256x50x16.rank)
  bcast_S_S2x8x256x50x16 : S_.BroadcastsInDim S2x8x256x50x16 (![] : Fin 0 → Fin S2x8x256x50x16.rank)
  transposes_S2x8x256x16_S2x256x8x16_0_2_1_3 : S2x8x256x16.Transposes [0, 2, 1, 3] S2x256x8x16
  shapeCasts_S2x256x8x16_S2x256x128 : S2x256x8x16.ShapeCasts S2x256x128
  bcast_S2x256x128_S2x256x1x128_0_1_3 : S2x256x128.BroadcastsInDim S2x256x1x128 (![0, 1, 3] : Fin 3 → Fin S2x256x1x128.rank)
  bcast_S2x256x1x128_S2x256x64x128_0_1_2_3 : S2x256x1x128.BroadcastsInDim S2x256x64x128 (![0, 1, 2, 3] : Fin 4 → Fin S2x256x64x128.rank)
  shapeCasts_S2x256x64x128_S512x64x128 : S2x256x64x128.ShapeCasts S512x64x128
  shapeCasts_S512x64x128_S2x16x16x8x8x128 : S512x64x128.ShapeCasts S2x16x16x8x8x128
  transposes_S2x16x16x8x8x128_S2x128x16x8x16x8_0_5_1_3_2_4 : S2x16x16x8x8x128.Transposes [0, 5, 1, 3, 2, 4] S2x128x16x8x16x8
  shapeCasts_S2x128x16x8x16x8_S2x128x128x128 : S2x128x16x8x16x8.ShapeCasts S2x128x128x128
  slices_S2x128x128_S1x128x128_1_0_0 : S2x128x128.Slices ![1, 0, 0] S1x128x128
  dot_S512x64x128_S128x128_S512x64x128_2_0_01_1_n_n_wf : DotDims.WF S512x64x128 S128x128 S512x64x128 [2] [0] [0, 1] [1] [] []
  dot_S512x8x64x16_S512x8x64x16_S512x8x64x64_3_3_2_2_01_01_wf : DotDims.WF S512x8x64x16 S512x8x64x16 S512x8x64x64 [3] [3] [2] [2] [0, 1] [0, 1]
  dot_S512x8x64x64_S512x8x64x16_S512x8x64x16_3_2_2_3_01_01_wf : DotDims.WF S512x8x64x64 S512x8x64x16 S512x8x64x16 [3] [2] [2] [3] [0, 1] [0, 1]
  dot_S2x256x128_S128x128_S2x256x128_2_0_01_1_n_n_wf : DotDims.WF S2x256x128 S128x128 S2x256x128 [2] [0] [0, 1] [1] [] []
  dot_S2x8x256x16_S2x8x256x16_S2x8x256x256_3_3_2_2_01_01_wf : DotDims.WF S2x8x256x16 S2x8x256x16 S2x8x256x256 [3] [3] [2] [2] [0, 1] [0, 1]
  gather_S2x8x256x256x16_S2x8x256x50x1_S2x8x256x50x16_4_3_012_012_3_4_111116_wf : GatherDims.WF S2x8x256x256x16 S2x8x256x50x1 S2x8x256x50x16 [4] [3] [0, 1, 2] [3] [0, 1, 2] 4 ![1, 1, 1, 1, 16]
  dot_S2x8x256x50_S2x8x256x50x16_S2x8x256x16_3_3_n_4_012_012_wf : DotDims.WF S2x8x256x50 S2x8x256x50x16 S2x8x256x16 [3] [3] [] [4] [0, 1, 2] [0, 1, 2]

variable [Facts]

def dot_S512x64x128_S128x128_S512x64x128_2_0_01_1_n_n : DotDims S512x64x128 S128x128 S512x64x128 where
  lhsContracting := [2]
  rhsContracting := [0]
  lhsNonContracting := [0, 1]
  rhsNonContracting := [1]
  lhsBatch := []
  rhsBatch := []
  wf := dot_S512x64x128_S128x128_S512x64x128_2_0_01_1_n_n_wf
def dot_S512x8x64x16_S512x8x64x16_S512x8x64x64_3_3_2_2_01_01 : DotDims S512x8x64x16 S512x8x64x16 S512x8x64x64 where
  lhsContracting := [3]
  rhsContracting := [3]
  lhsNonContracting := [2]
  rhsNonContracting := [2]
  lhsBatch := [0, 1]
  rhsBatch := [0, 1]
  wf := dot_S512x8x64x16_S512x8x64x16_S512x8x64x64_3_3_2_2_01_01_wf
def dot_S512x8x64x64_S512x8x64x16_S512x8x64x16_3_2_2_3_01_01 : DotDims S512x8x64x64 S512x8x64x16 S512x8x64x16 where
  lhsContracting := [3]
  rhsContracting := [2]
  lhsNonContracting := [2]
  rhsNonContracting := [3]
  lhsBatch := [0, 1]
  rhsBatch := [0, 1]
  wf := dot_S512x8x64x64_S512x8x64x16_S512x8x64x16_3_2_2_3_01_01_wf
def dot_S2x256x128_S128x128_S2x256x128_2_0_01_1_n_n : DotDims S2x256x128 S128x128 S2x256x128 where
  lhsContracting := [2]
  rhsContracting := [0]
  lhsNonContracting := [0, 1]
  rhsNonContracting := [1]
  lhsBatch := []
  rhsBatch := []
  wf := dot_S2x256x128_S128x128_S2x256x128_2_0_01_1_n_n_wf
def dot_S2x8x256x16_S2x8x256x16_S2x8x256x256_3_3_2_2_01_01 : DotDims S2x8x256x16 S2x8x256x16 S2x8x256x256 where
  lhsContracting := [3]
  rhsContracting := [3]
  lhsNonContracting := [2]
  rhsNonContracting := [2]
  lhsBatch := [0, 1]
  rhsBatch := [0, 1]
  wf := dot_S2x8x256x16_S2x8x256x16_S2x8x256x256_3_3_2_2_01_01_wf
def gather_S2x8x256x256x16_S2x8x256x50x1_S2x8x256x50x16_4_3_012_012_3_4_111116 : GatherDims S2x8x256x256x16 S2x8x256x50x1 S2x8x256x50x16 where
  offsetDims := [4]
  collapsedSliceDims := [3]
  operandBatchingDims := [0, 1, 2]
  startIndicesBatchingDims := [0, 1, 2]
  startIndexMap := [3]
  indexVectorDim := 4
  sliceSizes := ![1, 1, 1, 1, 16]
  wf := gather_S2x8x256x256x16_S2x8x256x50x1_S2x8x256x50x16_4_3_012_012_3_4_111116_wf
def dot_S2x8x256x50_S2x8x256x50x16_S2x8x256x16_3_3_n_4_012_012 : DotDims S2x8x256x50 S2x8x256x50x16 S2x8x256x16 where
  lhsContracting := [3]
  rhsContracting := [3]
  lhsNonContracting := []
  rhsNonContracting := [4]
  lhsBatch := [0, 1, 2]
  rhsBatch := [0, 1, 2]
  wf := dot_S2x8x256x50_S2x8x256x50x16_S2x8x256x16_3_3_n_4_012_012_wf
def fn_part11 {F : FTy → Type} [FloatOps F] (main_v2 : IVec S2x128x128x128 1) (main_v5 : IVec S2x128x128 1) (main_v8 : IVec S2x128x128 1) (main_v11 : IVec S2x128x128 1) (main_v14 : IVec S2x128x128 1) (main_v17 : IVec S2x128x128 1) (main_v20 : IVec S2x128x128 1) (main_v23 : IVec S2x128x128 1) (main_v26 : IVec S2x128x128 1) (main_v96 : IVec S2x8x256 1) (main_v101 : IVec S2x8x256 1) (main_v215 : IVec S2x8x256 1) (main_v218 : FVec F S2x8x256 .f32) : IVec S2x128x128x128 1 × IVec S2x128x128 1 × IVec S2x128x128 1 × IVec S2x128x128 1 × IVec S2x128x128 1 × IVec S2x128x128 1 × IVec S2x128x128 1 × IVec S2x128x128 1 × IVec S2x128x128 1 × IVec S2x8x256 1 × IVec S2x8x256 1 × IVec S2x8x256 1 × IVec S2x8x256 1 :=
  let main_cst_41 : FVec F S_ .f32 := constant S_ .f32 0x41F00000#32
  let main_v219 : FVec F S2x8x256 .f32 := broadcastInDim S2x8x256 ![] bcast_S_S2x8x256 main_cst_41
  let main_v220 : IVec S2x8x256 1 := cmpf .ole main_v218 main_v219
  (main_v2, main_v5, main_v8, main_v11, main_v14, main_v17, main_v20, main_v23, main_v26, main_v96, main_v101, main_v215, main_v220)

def fn_part10 {F : FTy → Type} [FloatOps F] (main_v2 : IVec S2x128x128x128 1) (main_v5 : IVec S2x128x128 1) (main_v8 : IVec S2x128x128 1) (main_v11 : IVec S2x128x128 1) (main_v14 : IVec S2x128x128 1) (main_v17 : IVec S2x128x128 1) (main_v20 : IVec S2x128x128 1) (main_v23 : IVec S2x128x128 1) (main_v26 : IVec S2x128x128 1) (main_v96 : IVec S2x8x256 1) (main_v101 : IVec S2x8x256 1) (main_v193 : FVec F S2x8x256x16 .f32) (main_v198 : FVec F S2x8x256x16 .f32) (main_v201 : FVec F S2x256x128 .f32) : IVec S2x128x128x128 1 × IVec S2x128x128 1 × IVec S2x128x128 1 × IVec S2x128x128 1 × IVec S2x128x128 1 × IVec S2x128x128 1 × IVec S2x128x128 1 × IVec S2x128x128 1 × IVec S2x128x128 1 × IVec S2x8x256 1 × IVec S2x8x256 1 × IVec S2x8x256 1 × IVec S2x8x256 1 :=
  let main_v202 : FVec F S2x256x8x16 .f32 := shapeCast S2x256x8x16 main_v201 shapeCasts_S2x256x128_S2x256x8x16
  let main_v203 : FVec F S2x8x256x16 .f32 := (transpose S2x8x256x16 [0, 2, 1, 3] · transposes_S2x256x8x16_S2x8x256x16_0_2_1_3) main_v202
  let main_v204 : FVec F S2x8x256x256 .f32 := (fun l r => Host.dotGeneral dot_S2x8x256x16_S2x8x256x16_S2x8x256x256_3_3_2_2_01_01 none l r) main_v193 main_v198
  let main_cst_34 : FVec F S_ .f32 := constant S_ .f32 0x40800000#32
  let main_v205 : FVec F S2x8x256x256 .f32 := broadcastInDim S2x8x256x256 ![] bcast_S_S2x8x256x256 main_cst_34
  let main_v206 : FVec F S2x8x256x256 .f32 := Host.divf main_v204 main_v205
  let main_values_35 : FVec F S2x8x256x50 .f32 := (fun x => (Host.topK S2x8x256x50 3 (FloatOps.cmpfTotal .gt) x sliceFits_S2x8x256x256_S2x8x256x50).1) main_v206
  let main_indices_36 : IVec S2x8x256x50 32 := (fun x => (Host.topK S2x8x256x50 3 (FloatOps.cmpfTotal .gt) x sliceFits_S2x8x256x256_S2x8x256x50).2) main_v206
  let main_v207 : FVec F S2x8x256x1 .f32 := (extractStridedSlice S2x8x256x1 ![0, 0, 0, 49] · slices_S2x8x256x50_S2x8x256x1_0_0_0_49) main_values_35
  let main_cst_37 : FVec F S_ .f32 := constant S_ .f32 0x36F00000#32
  let main_v208 : FVec F S2x8x256x1 .f32 := broadcastInDim S2x8x256x1 ![] bcast_S_S2x8x256x1 main_cst_37
  let main_v209 : FVec F S2x8x256x1 .f32 := subf main_v207 main_v208
  let main_v210 : FVec F S2x8x256x256 .f32 := broadcastInDim S2x8x256x256 ![0, 1, 2, 3] bcast_S2x8x256x1_S2x8x256x256_0_1_2_3 main_v209
  let main_v211 : IVec S2x8x256x256 1 := cmpf .oge main_v206 main_v210
  let main_v212 : FVec F S2x8x256x256 .f32 := uitofp .f32 main_v211
  let main_cst_38 : FVec F S_ .f32 := constant S_ .f32 0x00000000#32
  let main_v213 : FVec F S2x8x256 .f32 := (fun x v => Host.reduceAdd x v reducesTo_S2x8x256x256_S2x8x256_d3 h_S_) main_v212 main_cst_38
  let main_cst_39 : FVec F S_ .f32 := constant S_ .f32 0x42480000#32
  let main_v214 : FVec F S2x8x256 .f32 := broadcastInDim S2x8x256 ![] bcast_S_S2x8x256 main_cst_39
  let main_v215 : IVec S2x8x256 1 := cmpf .ole main_v213 main_v214
  let main_cst_40 : FVec F S_ .f32 := constant S_ .f32 0xFF800000#32
  let main_v216 : FVec F S2x8x256 .f32 := (fun x v => Host.reduce FloatOps.maximumf x v reducesTo_S2x8x256x256_S2x8x256_d3 h_S_) main_v206 main_cst_40
  let main_v217 : FVec F S2x8x256 .f32 := shapeCast S2x8x256 main_v207 shapeCasts_S2x8x256x1_S2x8x256
  let main_v218 : FVec F S2x8x256 .f32 := subf main_v216 main_v217
  fn_part11 (F := F) main_v2 main_v5 main_v8 main_v11 main_v14 main_v17 main_v20 main_v23 main_v26 main_v96 main_v101 main_v215 main_v218

def fn_part9 {F : FTy → Type} [FloatOps F] (main_arg6 : FVec F S2x128x128 .f32) (main_arg7 : FVec F S2x128x128 .f32) (main_arg8 : FVec F S2x128x128 .f32) (main_v2 : IVec S2x128x128x128 1) (main_v5 : IVec S2x128x128 1) (main_v8 : IVec S2x128x128 1) (main_v11 : IVec S2x128x128 1) (main_v14 : IVec S2x128x128 1) (main_v17 : IVec S2x128x128 1) (main_v20 : IVec S2x128x128 1) (main_v23 : IVec S2x128x128 1) (main_v26 : IVec S2x128x128 1) (main_v96 : IVec S2x8x256 1) (main_v101 : IVec S2x8x256 1) (main_v148 : FVec F S512x64x128 .f32) (main_v156 : FVec F S128x128 .f32) (main_v165 : FVec F S512x8x64x16 .f32) (main_v179 : FVec F S512x8x64x64 .f32) : IVec S2x128x128x128 1 × IVec S2x128x128 1 × IVec S2x128x128 1 × IVec S2x128x128 1 × IVec S2x128x128 1 × IVec S2x128x128 1 × IVec S2x128x128 1 × IVec S2x128x128 1 × IVec S2x128x128 1 × IVec S2x8x256 1 × IVec S2x8x256 1 × IVec S2x8x256 1 × IVec S2x8x256 1 :=
  let main_v180 : FVec F S512x8x64x16 .f32 := (fun l r => Host.dotGeneral dot_S512x8x64x64_S512x8x64x16_S512x8x64x16_3_2_2_3_01_01 none l r) main_v179 main_v165
  let main_v181 : FVec F S512x64x8x16 .f32 := (transpose S512x64x8x16 [0, 2, 1, 3] · transposes_S512x8x64x16_S512x64x8x16_0_2_1_3) main_v180
  let main_v182 : FVec F S512x64x128 .f32 := shapeCast S512x64x128 main_v181 shapeCasts_S512x64x8x16_S512x64x128
  let main_v183 : FVec F S512x64x128 .f32 := (fun l r => Host.dotGeneral dot_S512x64x128_S128x128_S512x64x128_2_0_01_1_n_n none l r) main_v182 main_v156
  let main_v184 : FVec F S512x64x128 .f32 := addf main_v148 main_v183
  let main_v185 : FVec F S2x256x64x128 .f32 := shapeCast S2x256x64x128 main_v184 shapeCasts_S512x64x128_S2x256x64x128
  let main_cst_32 : FVec F S_ .f32 := constant S_ .f32 0x00000000#32
  let main_v186 : FVec F S2x256x128 .f32 := (fun x v => Host.reduceAdd x v reducesTo_S2x256x64x128_S2x256x128_d2 h_S_) main_v185 main_cst_32
  let main_cst_33 : FVec F S_ .f32 := constant S_ .f32 0x42800000#32
  let main_v187 : FVec F S2x256x128 .f32 := broadcastInDim S2x256x128 ![] bcast_S_S2x256x128 main_cst_33
  let main_v188 : FVec F S2x256x128 .f32 := Host.divf main_v186 main_v187
  let main_v189 : FVec F S1x128x128 .f32 := (extractStridedSlice S1x128x128 ![1, 0, 0] · slices_S2x128x128_S1x128x128_1_0_0) main_arg6
  let main_v190 : FVec F S128x128 .f32 := shapeCast S128x128 main_v189 shapeCasts_S1x128x128_S128x128
  let main_v191 : FVec F S2x256x128 .f32 := (fun l r => Host.dotGeneral dot_S2x256x128_S128x128_S2x256x128_2_0_01_1_n_n none l r) main_v188 main_v190
  let main_v192 : FVec F S2x256x8x16 .f32 := shapeCast S2x256x8x16 main_v191 shapeCasts_S2x256x128_S2x256x8x16
  let main_v193 : FVec F S2x8x256x16 .f32 := (transpose S2x8x256x16 [0, 2, 1, 3] · transposes_S2x256x8x16_S2x8x256x16_0_2_1_3) main_v192
  let main_v194 : FVec F S1x128x128 .f32 := (extractStridedSlice S1x128x128 ![1, 0, 0] · slices_S2x128x128_S1x128x128_1_0_0) main_arg7
  let main_v195 : FVec F S128x128 .f32 := shapeCast S128x128 main_v194 shapeCasts_S1x128x128_S128x128
  let main_v196 : FVec F S2x256x128 .f32 := (fun l r => Host.dotGeneral dot_S2x256x128_S128x128_S2x256x128_2_0_01_1_n_n none l r) main_v188 main_v195
  let main_v197 : FVec F S2x256x8x16 .f32 := shapeCast S2x256x8x16 main_v196 shapeCasts_S2x256x128_S2x256x8x16
  let main_v198 : FVec F S2x8x256x16 .f32 := (transpose S2x8x256x16 [0, 2, 1, 3] · transposes_S2x256x8x16_S2x8x256x16_0_2_1_3) main_v197
  let main_v199 : FVec F S1x128x128 .f32 := (extractStridedSlice S1x128x128 ![1, 0, 0] · slices_S2x128x128_S1x128x128_1_0_0) main_arg8
  let main_v200 : FVec F S128x128 .f32 := shapeCast S128x128 main_v199 shapeCasts_S1x128x128_S128x128
  let main_v201 : FVec F S2x256x128 .f32 := (fun l r => Host.dotGeneral dot_S2x256x128_S128x128_S2x256x128_2_0_01_1_n_n none l r) main_v188 main_v200
  fn_part10 (F := F) main_v2 main_v5 main_v8 main_v11 main_v14 main_v17 main_v20 main_v23 main_v26 main_v96 main_v101 main_v193 main_v198 main_v201

def fn_part8 {F : FTy → Type} [FloatOps F] (main_arg6 : FVec F S2x128x128 .f32) (main_arg7 : FVec F S2x128x128 .f32) (main_arg8 : FVec F S2x128x128 .f32) (main_v2 : IVec S2x128x128x128 1) (main_v5 : IVec S2x128x128 1) (main_v8 : IVec S2x128x128 1) (main_v11 : IVec S2x128x128 1) (main_v14 : IVec S2x128x128 1) (main_v17 : IVec S2x128x128 1) (main_v20 : IVec S2x128x128 1) (main_v23 : IVec S2x128x128 1) (main_v26 : IVec S2x128x128 1) (main_v96 : IVec S2x8x256 1) (main_v101 : IVec S2x8x256 1) (main_v148 : FVec F S512x64x128 .f32) (main_v152 : FVec F S128x128 .f32) (main_v154 : FVec F S128x128 .f32) (main_v156 : FVec F S128x128 .f32) (main_v159 : FVec F S512x8x64x16 .f32) : IVec S2x128x128x128 1 × IVec S2x128x128 1 × IVec S2x128x128 1 × IVec S2x128x128 1 × IVec S2x128x128 1 × IVec S2x128x128 1 × IVec S2x128x128 1 × IVec S2x128x128 1 × IVec S2x128x128 1 × IVec S2x8x256 1 × IVec S2x8x256 1 × IVec S2x8x256 1 × IVec S2x8x256 1 :=
  let main_v160 : FVec F S512x64x128 .f32 := (fun l r => Host.dotGeneral dot_S512x64x128_S128x128_S512x64x128_2_0_01_1_n_n none l r) main_v148 main_v152
  let main_v161 : FVec F S512x64x8x16 .f32 := shapeCast S512x64x8x16 main_v160 shapeCasts_S512x64x128_S512x64x8x16
  let main_v162 : FVec F S512x8x64x16 .f32 := (transpose S512x8x64x16 [0, 2, 1, 3] · transposes_S512x64x8x16_S512x8x64x16_0_2_1_3) main_v161
  let main_v163 : FVec F S512x64x128 .f32 := (fun l r => Host.dotGeneral dot_S512x64x128_S128x128_S512x64x128_2_0_01_1_n_n none l r) main_v148 main_v154
  let main_v164 : FVec F S512x64x8x16 .f32 := shapeCast S512x64x8x16 main_v163 shapeCasts_S512x64x128_S512x64x8x16
  let main_v165 : FVec F S512x8x64x16 .f32 := (transpose S512x8x64x16 [0, 2, 1, 3] · transposes_S512x64x8x16_S512x8x64x16_0_2_1_3) main_v164
  let main_v166 : FVec F S512x8x64x64 .f32 := (fun l r => Host.dotGeneral dot_S512x8x64x16_S512x8x64x16_S512x8x64x64_3_3_2_2_01_01 none l r) main_v159 main_v162
  let main_cst_28 : FVec F S_ .f32 := constant S_ .f32 0x40800000#32
  let main_v167 : FVec F S512x8x64x64 .f32 := broadcastInDim S512x8x64x64 ![] bcast_S_S512x8x64x64 main_cst_28
  let main_v168 : FVec F S512x8x64x64 .f32 := Host.divf main_v166 main_v167
  let main_cst_29 : FVec F S_ .f32 := constant S_ .f32 0xFF800000#32
  let main_v169 : FVec F S512x8x64 .f32 := (fun x v => Host.reduce FloatOps.maximumf x v reducesTo_S512x8x64x64_S512x8x64_d3 h_S_) main_v168 main_cst_29
  let main_cst_30 : FVec F S_ .f32 := constant S_ .f32 0xFF800000#32
  let main_v170 : FVec F S512x8x64 .f32 := broadcastInDim S512x8x64 ![] bcast_S_S512x8x64 main_cst_30
  let main_v171 : FVec F S512x8x64 .f32 := maximumf main_v170 main_v169
  let main_v172 : FVec F S512x8x64x1 .f32 := broadcastInDim S512x8x64x1 ![0, 1, 2] bcast_S512x8x64_S512x8x64x1_0_1_2 main_v171
  let main_v173 : FVec F S512x8x64x64 .f32 := broadcastInDim S512x8x64x64 ![0, 1, 2, 3] bcast_S512x8x64x1_S512x8x64x64_0_1_2_3 main_v172
  let main_v174 : FVec F S512x8x64x64 .f32 := subf main_v168 main_v173
  let main_v175 : FVec F S512x8x64x64 .f32 := Host.exp main_v174
  let main_cst_31 : FVec F S_ .f32 := constant S_ .f32 0x00000000#32
  let main_v176 : FVec F S512x8x64 .f32 := (fun x v => Host.reduceAdd x v reducesTo_S512x8x64x64_S512x8x64_d3 h_S_) main_v175 main_cst_31
  let main_v177 : FVec F S512x8x64x1 .f32 := broadcastInDim S512x8x64x1 ![0, 1, 2] bcast_S512x8x64_S512x8x64x1_0_1_2 main_v176
  let main_v178 : FVec F S512x8x64x64 .f32 := broadcastInDim S512x8x64x64 ![0, 1, 2, 3] bcast_S512x8x64x1_S512x8x64x64_0_1_2_3 main_v177
  let main_v179 : FVec F S512x8x64x64 .f32 := Host.divf main_v175 main_v178
  fn_part9 (F := F) main_arg6 main_arg7 main_arg8 main_v2 main_v5 main_v8 main_v11 main_v14 main_v17 main_v20 main_v23 main_v26 main_v96 main_v101 main_v148 main_v156 main_v165 main_v179

def fn_part7 {F : FTy → Type} [FloatOps F] (main_arg2 : FVec F S2x128x128 .f32) (main_arg3 : FVec F S2x128x128 .f32) (main_arg4 : FVec F S2x128x128 .f32) (main_arg5 : FVec F S2x128x128 .f32) (main_arg6 : FVec F S2x128x128 .f32) (main_arg7 : FVec F S2x128x128 .f32) (main_arg8 : FVec F S2x128x128 .f32) (main_v2 : IVec S2x128x128x128 1) (main_v5 : IVec S2x128x128 1) (main_v8 : IVec S2x128x128 1) (main_v11 : IVec S2x128x128 1) (main_v14 : IVec S2x128x128 1) (main_v17 : IVec S2x128x128 1) (main_v20 : IVec S2x128x128 1) (main_v23 : IVec S2x128x128 1) (main_v26 : IVec S2x128x128 1) (main_v65 : FVec F S512x64x128 .f32) (main_v96 : IVec S2x8x256 1) (main_v101 : IVec S2x8x256 1) (main_v134 : FVec F S2x256x128 .f32) (main_v135 : FVec F S1x128x128 .f32) : IVec S2x128x128x128 1 × IVec S2x128x128 1 × IVec S2x128x128 1 × IVec S2x128x128 1 × IVec S2x128x128 1 × IVec S2x128x128 1 × IVec S2x128x128 1 × IVec S2x128x128 1 × IVec S2x128x128 1 × IVec S2x8x256 1 × IVec S2x8x256 1 × IVec S2x8x256 1 × IVec S2x8x256 1 :=
  let main_v136 : FVec F S128x128 .f32 := shapeCast S128x128 main_v135 shapeCasts_S1x128x128_S128x128
  let main_v137 : FVec F S2x256x128 .f32 := (fun l r => Host.dotGeneral dot_S2x256x128_S128x128_S2x256x128_2_0_01_1_n_n none l r) main_v134 main_v136
  let main_v138 : FVec F S2x256x64x128 .f32 := shapeCast S2x256x64x128 main_v65 shapeCasts_S512x64x128_S2x256x64x128
  let main_v139 : FVec F S2x256x1x128 .f32 := broadcastInDim S2x256x1x128 ![0, 1, 3] bcast_S2x256x128_S2x256x1x128_0_1_3 main_v137
  let main_v140 : FVec F S2x256x64x128 .f32 := broadcastInDim S2x256x64x128 ![0, 1, 2, 3] bcast_S2x256x1x128_S2x256x64x128_0_1_2_3 main_v139
  let main_v141 : FVec F S2x256x64x128 .f32 := addf main_v138 main_v140
  let main_v142 : FVec F S512x64x128 .f32 := shapeCast S512x64x128 main_v141 shapeCasts_S2x256x64x128_S512x64x128
  let main_v143 : FVec F S2x16x16x8x8x128 .f32 := shapeCast S2x16x16x8x8x128 main_v142 shapeCasts_S512x64x128_S2x16x16x8x8x128
  let main_v144 : FVec F S2x128x16x8x16x8 .f32 := (transpose S2x128x16x8x16x8 [0, 5, 1, 3, 2, 4] · transposes_S2x16x16x8x8x128_S2x128x16x8x16x8_0_5_1_3_2_4) main_v143
  let main_v145 : FVec F S2x128x128x128 .f32 := shapeCast S2x128x128x128 main_v144 shapeCasts_S2x128x16x8x16x8_S2x128x128x128
  let main_v146 : FVec F S2x128x16x8x16x8 .f32 := shapeCast S2x128x16x8x16x8 main_v145 shapeCasts_S2x128x128x128_S2x128x16x8x16x8
  let main_v147 : FVec F S2x16x16x8x8x128 .f32 := (transpose S2x16x16x8x8x128 [0, 2, 4, 3, 5, 1] · transposes_S2x128x16x8x16x8_S2x16x16x8x8x128_0_2_4_3_5_1) main_v146
  let main_v148 : FVec F S512x64x128 .f32 := shapeCast S512x64x128 main_v147 shapeCasts_S2x16x16x8x8x128_S512x64x128
  let main_v149 : FVec F S1x128x128 .f32 := (extractStridedSlice S1x128x128 ![1, 0, 0] · slices_S2x128x128_S1x128x128_1_0_0) main_arg2
  let main_v150 : FVec F S128x128 .f32 := shapeCast S128x128 main_v149 shapeCasts_S1x128x128_S128x128
  let main_v151 : FVec F S1x128x128 .f32 := (extractStridedSlice S1x128x128 ![1, 0, 0] · slices_S2x128x128_S1x128x128_1_0_0) main_arg3
  let main_v152 : FVec F S128x128 .f32 := shapeCast S128x128 main_v151 shapeCasts_S1x128x128_S128x128
  let main_v153 : FVec F S1x128x128 .f32 := (extractStridedSlice S1x128x128 ![1, 0, 0] · slices_S2x128x128_S1x128x128_1_0_0) main_arg4
  let main_v154 : FVec F S128x128 .f32 := shapeCast S128x128 main_v153 shapeCasts_S1x128x128_S128x128
  let main_v155 : FVec F S1x128x128 .f32 := (extractStridedSlice S1x128x128 ![1, 0, 0] · slices_S2x128x128_S1x128x128_1_0_0) main_arg5
  let main_v156 : FVec F S128x128 .f32 := shapeCast S128x128 main_v155 shapeCasts_S1x128x128_S128x128
  let main_v157 : FVec F S512x64x128 .f32 := (fun l r => Host.dotGeneral dot_S512x64x128_S128x128_S512x64x128_2_0_01_1_n_n none l r) main_v148 main_v150
  let main_v158 : FVec F S512x64x8x16 .f32 := shapeCast S512x64x8x16 main_v157 shapeCasts_S512x64x128_S512x64x8x16
  let main_v159 : FVec F S512x8x64x16 .f32 := (transpose S512x8x64x16 [0, 2, 1, 3] · transposes_S512x64x8x16_S512x8x64x16_0_2_1_3) main_v158
  fn_part8 (F := F) main_arg6 main_arg7 main_arg8 main_v2 main_v5 main_v8 main_v11 main_v14 main_v17 main_v20 main_v23 main_v26 main_v96 main_v101 main_v148 main_v152 main_v154 main_v156 main_v159

def fn_part6 {F : FTy → Type} [FloatOps F] (main_arg2 : FVec F S2x128x128 .f32) (main_arg3 : FVec F S2x128x128 .f32) (main_arg4 : FVec F S2x128x128 .f32) (main_arg5 : FVec F S2x128x128 .f32) (main_arg6 : FVec F S2x128x128 .f32) (main_arg7 : FVec F S2x128x128 .f32) (main_arg8 : FVec F S2x128x128 .f32) (main_arg9 : FVec F S2x128x128 .f32) (main_v2 : IVec S2x128x128x128 1) (main_v5 : IVec S2x128x128 1) (main_v8 : IVec S2x128x128 1) (main_v11 : IVec S2x128x128 1) (main_v14 : IVec S2x128x128 1) (main_v17 : IVec S2x128x128 1) (main_v20 : IVec S2x128x128 1) (main_v23 : IVec S2x128x128 1) (main_v26 : IVec S2x128x128 1) (main_v65 : FVec F S512x64x128 .f32) (main_v96 : IVec S2x8x256 1) (main_v101 : IVec S2x8x256 1) (main_v112 : FVec F S2x8x256x50 .f32) (main_v114 : FVec F S2x8x256x256x16 .f32) (main_v115 : IVec S2x8x256x50x1 32) (main_v116 : IVec S2x8x256x50x1 32) : IVec S2x128x128x128 1 × IVec S2x128x128 1 × IVec S2x128x128 1 × IVec S2x128x128 1 × IVec S2x128x128 1 × IVec S2x128x128 1 × IVec S2x128x128 1 × IVec S2x128x128 1 × IVec S2x128x128 1 × IVec S2x8x256 1 × IVec S2x8x256 1 × IVec S2x8x256 1 × IVec S2x8x256 1 :=
  let main_v117 : IVec S2x8x256x50x1 1 := cmpi .slt main_v115 main_v116
  let main_c_23 : IVec S_ 32 := constantI S_ 32 256#32
  let main_v118 : IVec S2x8x256x50x1 32 := broadcastInDim S2x8x256x50x1 ![] bcast_S_S2x8x256x50x1 main_c_23
  let main_v119 : IVec S2x8x256x50x1 32 := addi main_v115 main_v118
  let main_v120 : IVec S2x8x256x50x1 32 := select main_v117 main_v119 main_v115
  let main_c_24 : IVec S1 32 := constantI S1 32 255#32
  let main_c_25 : IVec S_ 32 := constantI S_ 32 0#32
  let main_v121 : IVec S2x8x256x50x1 32 := broadcastInDim S2x8x256x50x1 ![] bcast_S_S2x8x256x50x1 main_c_25
  let main_v122 : IVec S2x8x256x50x1 1 := cmpi .sge main_v120 main_v121
  let main_v123 : IVec S1x1x1x1x1 32 := broadcastInDim S1x1x1x1x1 ![4] bcast_S1_S1x1x1x1x1_4 main_c_24
  let main_v124 : IVec S2x8x256x50x1 32 := broadcastInDim S2x8x256x50x1 ![0, 1, 2, 3, 4] bcast_S1x1x1x1x1_S2x8x256x50x1_0_1_2_3_4 main_v123
  let main_v125 : IVec S2x8x256x50x1 1 := cmpi .sle main_v120 main_v124
  let main_v126 : IVec S2x8x256x50x1 1 := andi main_v122 main_v125
  let main_c_26 : IVec S_ 1 := constantI S_ 1 1#1
  let main_v127 : IVec S2x8x256x50 1 := (fun x v => Host.reduce IntOp.andi x v reducesTo_S2x8x256x50x1_S2x8x256x50_d4 h_S_) main_v126 main_c_26
  let main_v128 : FVec F S2x8x256x50x16 .f32 := (fun x i => Host.gather gather_S2x8x256x256x16_S2x8x256x50x1_S2x8x256x50x16_4_3_012_012_3_4_111116 x i) main_v114 main_v120
  let main_v129 : IVec S2x8x256x50x16 1 := broadcastInDim S2x8x256x50x16 ![0, 1, 2, 3] bcast_S2x8x256x50_S2x8x256x50x16_0_1_2_3 main_v127
  let main_cst_27 : FVec F S_ .f32 := constant S_ .f32 0x7FC00000#32
  let main_v130 : FVec F S2x8x256x50x16 .f32 := broadcastInDim S2x8x256x50x16 ![] bcast_S_S2x8x256x50x16 main_cst_27
  let main_v131 : FVec F S2x8x256x50x16 .f32 := select main_v129 main_v128 main_v130
  let main_v132 : FVec F S2x8x256x16 .f32 := (fun l r => Host.dotGeneral dot_S2x8x256x50_S2x8x256x50x16_S2x8x256x16_3_3_n_4_012_012 none l r) main_v112 main_v131
  let main_v133 : FVec F S2x256x8x16 .f32 := (transpose S2x256x8x16 [0, 2, 1, 3] · transposes_S2x8x256x16_S2x256x8x16_0_2_1_3) main_v132
  let main_v134 : FVec F S2x256x128 .f32 := shapeCast S2x256x128 main_v133 shapeCasts_S2x256x8x16_S2x256x128
  let main_v135 : FVec F S1x128x128 .f32 := (extractStridedSlice S1x128x128 ![0, 0, 0] · slices_S2x128x128_S1x128x128_0_0_0) main_arg9
  fn_part7 (F := F) main_arg2 main_arg3 main_arg4 main_arg5 main_arg6 main_arg7 main_arg8 main_v2 main_v5 main_v8 main_v11 main_v14 main_v17 main_v20 main_v23 main_v26 main_v65 main_v96 main_v101 main_v134 main_v135

def fn_part5 {F : FTy → Type} [FloatOps F] (main_arg2 : FVec F S2x128x128 .f32) (main_arg3 : FVec F S2x128x128 .f32) (main_arg4 : FVec F S2x128x128 .f32) (main_arg5 : FVec F S2x128x128 .f32) (main_arg6 : FVec F S2x128x128 .f32) (main_arg7 : FVec F S2x128x128 .f32) (main_arg8 : FVec F S2x128x128 .f32) (main_arg9 : FVec F S2x128x128 .f32) (main_v2 : IVec S2x128x128x128 1) (main_v5 : IVec S2x128x128 1) (main_v8 : IVec S2x128x128 1) (main_v11 : IVec S2x128x128 1) (main_v14 : IVec S2x128x128 1) (main_v17 : IVec S2x128x128 1) (main_v20 : IVec S2x128x128 1) (main_v23 : IVec S2x128x128 1) (main_v26 : IVec S2x128x128 1) (main_v65 : FVec F S512x64x128 .f32) (main_v84 : FVec F S2x8x256x16 .f32) (main_values : FVec F S2x8x256x50 .f32) (main_indices : IVec S2x8x256x50 32) (main_v88 : FVec F S2x8x256x1 .f32) (main_v96 : IVec S2x8x256 1) (main_v97 : FVec F S2x8x256 .f32) : IVec S2x128x128x128 1 × IVec S2x128x128 1 × IVec S2x128x128 1 × IVec S2x128x128 1 × IVec S2x128x128 1 × IVec S2x128x128 1 × IVec S2x128x128 1 × IVec S2x128x128 1 × IVec S2x128x128 1 × IVec S2x8x256 1 × IVec S2x8x256 1 × IVec S2x8x256 1 × IVec S2x8x256 1 :=
  let main_v98 : FVec F S2x8x256 .f32 := shapeCast S2x8x256 main_v88 shapeCasts_S2x8x256x1_S2x8x256
  let main_v99 : FVec F S2x8x256 .f32 := subf main_v97 main_v98
  let main_cst_19 : FVec F S_ .f32 := constant S_ .f32 0x41F00000#32
  let main_v100 : FVec F S2x8x256 .f32 := broadcastInDim S2x8x256 ![] bcast_S_S2x8x256 main_cst_19
  let main_v101 : IVec S2x8x256 1 := cmpf .ole main_v99 main_v100
  let main_cst_20 : FVec F S_ .f32 := constant S_ .f32 0xFF800000#32
  let main_v102 : FVec F S2x8x256 .f32 := (fun x v => Host.reduce FloatOps.maximumf x v reducesTo_S2x8x256x50_S2x8x256_d3 h_S_) main_values main_cst_20
  let main_cst_21 : FVec F S_ .f32 := constant S_ .f32 0xFF800000#32
  let main_v103 : FVec F S2x8x256 .f32 := broadcastInDim S2x8x256 ![] bcast_S_S2x8x256 main_cst_21
  let main_v104 : FVec F S2x8x256 .f32 := maximumf main_v103 main_v102
  let main_v105 : FVec F S2x8x256x1 .f32 := broadcastInDim S2x8x256x1 ![0, 1, 2] bcast_S2x8x256_S2x8x256x1_0_1_2 main_v104
  let main_v106 : FVec F S2x8x256x50 .f32 := broadcastInDim S2x8x256x50 ![0, 1, 2, 3] bcast_S2x8x256x1_S2x8x256x50_0_1_2_3 main_v105
  let main_v107 : FVec F S2x8x256x50 .f32 := subf main_values main_v106
  let main_v108 : FVec F S2x8x256x50 .f32 := Host.exp main_v107
  let main_cst_22 : FVec F S_ .f32 := constant S_ .f32 0x00000000#32
  let main_v109 : FVec F S2x8x256 .f32 := (fun x v => Host.reduceAdd x v reducesTo_S2x8x256x50_S2x8x256_d3 h_S_) main_v108 main_cst_22
  let main_v110 : FVec F S2x8x256x1 .f32 := broadcastInDim S2x8x256x1 ![0, 1, 2] bcast_S2x8x256_S2x8x256x1_0_1_2 main_v109
  let main_v111 : FVec F S2x8x256x50 .f32 := broadcastInDim S2x8x256x50 ![0, 1, 2, 3] bcast_S2x8x256x1_S2x8x256x50_0_1_2_3 main_v110
  let main_v112 : FVec F S2x8x256x50 .f32 := Host.divf main_v108 main_v111
  let main_v113 : FVec F S2x8x1x256x16 .f32 := broadcastInDim S2x8x1x256x16 ![0, 1, 3, 4] bcast_S2x8x256x16_S2x8x1x256x16_0_1_3_4 main_v84
  let main_v114 : FVec F S2x8x256x256x16 .f32 := broadcastInDim S2x8x256x256x16 ![0, 1, 2, 3, 4] bcast_S2x8x1x256x16_S2x8x256x256x16_0_1_2_3_4 main_v113
  let main_v115 : IVec S2x8x256x50x1 32 := broadcastInDim S2x8x256x50x1 ![0, 1, 2, 3] bcast_S2x8x256x50_S2x8x256x50x1_0_1_2_3 main_indices
  let main_c : IVec S_ 32 := constantI S_ 32 0#32
  let main_v116 : IVec S2x8x256x50x1 32 := broadcastInDim S2x8x256x50x1 ![] bcast_S_S2x8x256x50x1 main_c
  fn_part6 (F := F) main_arg2 main_arg3 main_arg4 main_arg5 main_arg6 main_arg7 main_arg8 main_arg9 main_v2 main_v5 main_v8 main_v11 main_v14 main_v17 main_v20 main_v23 main_v26 main_v65 main_v96 main_v101 main_v112 main_v114 main_v115 main_v116

def fn_part4 {F : FTy → Type} [FloatOps F] (main_arg2 : FVec F S2x128x128 .f32) (main_arg3 : FVec F S2x128x128 .f32) (main_arg4 : FVec F S2x128x128 .f32) (main_arg5 : FVec F S2x128x128 .f32) (main_arg6 : FVec F S2x128x128 .f32) (main_arg7 : FVec F S2x128x128 .f32) (main_arg8 : FVec F S2x128x128 .f32) (main_arg9 : FVec F S2x128x128 .f32) (main_v2 : IVec S2x128x128x128 1) (main_v5 : IVec S2x128x128 1) (main_v8 : IVec S2x128x128 1) (main_v11 : IVec S2x128x128 1) (main_v14 : IVec S2x128x128 1) (main_v17 : IVec S2x128x128 1) (main_v20 : IVec S2x128x128 1) (main_v23 : IVec S2x128x128 1) (main_v26 : IVec S2x128x128 1) (main_v65 : FVec F S512x64x128 .f32) (main_v69 : FVec F S2x256x128 .f32) (main_v74 : FVec F S2x8x256x16 .f32) (main_v79 : FVec F S2x8x256x16 .f32) (main_v80 : FVec F S1x128x128 .f32) : IVec S2x128x128x128 1 × IVec S2x128x128 1 × IVec S2x128x128 1 × IVec S2x128x128 1 × IVec S2x128x128 1 × IVec S2x128x128 1 × IVec S2x128x128 1 × IVec S2x128x128 1 × IVec S2x128x128 1 × IVec S2x8x256 1 × IVec S2x8x256 1 × IVec S2x8x256 1 × IVec S2x8x256 1 :=
  let main_v81 : FVec F S128x128 .f32 := shapeCast S128x128 main_v80 shapeCasts_S1x128x128_S128x128
  let main_v82 : FVec F S2x256x128 .f32 := (fun l r => Host.dotGeneral dot_S2x256x128_S128x128_S2x256x128_2_0_01_1_n_n none l r) main_v69 main_v81
  let main_v83 : FVec F S2x256x8x16 .f32 := shapeCast S2x256x8x16 main_v82 shapeCasts_S2x256x128_S2x256x8x16
  let main_v84 : FVec F S2x8x256x16 .f32 := (transpose S2x8x256x16 [0, 2, 1, 3] · transposes_S2x256x8x16_S2x8x256x16_0_2_1_3) main_v83
  let main_v85 : FVec F S2x8x256x256 .f32 := (fun l r => Host.dotGeneral dot_S2x8x256x16_S2x8x256x16_S2x8x256x256_3_3_2_2_01_01 none l r) main_v74 main_v79
  let main_cst_14 : FVec F S_ .f32 := constant S_ .f32 0x40800000#32
  let main_v86 : FVec F S2x8x256x256 .f32 := broadcastInDim S2x8x256x256 ![] bcast_S_S2x8x256x256 main_cst_14
  let main_v87 : FVec F S2x8x256x256 .f32 := Host.divf main_v85 main_v86
  let main_values : FVec F S2x8x256x50 .f32 := (fun x => (Host.topK S2x8x256x50 3 (FloatOps.cmpfTotal .gt) x sliceFits_S2x8x256x256_S2x8x256x50).1) main_v87
  let main_indices : IVec S2x8x256x50 32 := (fun x => (Host.topK S2x8x256x50 3 (FloatOps.cmpfTotal .gt) x sliceFits_S2x8x256x256_S2x8x256x50).2) main_v87
  let main_v88 : FVec F S2x8x256x1 .f32 := (extractStridedSlice S2x8x256x1 ![0, 0, 0, 49] · slices_S2x8x256x50_S2x8x256x1_0_0_0_49) main_values
  let main_cst_15 : FVec F S_ .f32 := constant S_ .f32 0x36F00000#32
  let main_v89 : FVec F S2x8x256x1 .f32 := broadcastInDim S2x8x256x1 ![] bcast_S_S2x8x256x1 main_cst_15
  let main_v90 : FVec F S2x8x256x1 .f32 := subf main_v88 main_v89
  let main_v91 : FVec F S2x8x256x256 .f32 := broadcastInDim S2x8x256x256 ![0, 1, 2, 3] bcast_S2x8x256x1_S2x8x256x256_0_1_2_3 main_v90
  let main_v92 : IVec S2x8x256x256 1 := cmpf .oge main_v87 main_v91
  let main_v93 : FVec F S2x8x256x256 .f32 := uitofp .f32 main_v92
  let main_cst_16 : FVec F S_ .f32 := constant S_ .f32 0x00000000#32
  let main_v94 : FVec F S2x8x256 .f32 := (fun x v => Host.reduceAdd x v reducesTo_S2x8x256x256_S2x8x256_d3 h_S_) main_v93 main_cst_16
  let main_cst_17 : FVec F S_ .f32 := constant S_ .f32 0x42480000#32
  let main_v95 : FVec F S2x8x256 .f32 := broadcastInDim S2x8x256 ![] bcast_S_S2x8x256 main_cst_17
  let main_v96 : IVec S2x8x256 1 := cmpf .ole main_v94 main_v95
  let main_cst_18 : FVec F S_ .f32 := constant S_ .f32 0xFF800000#32
  let main_v97 : FVec F S2x8x256 .f32 := (fun x v => Host.reduce FloatOps.maximumf x v reducesTo_S2x8x256x256_S2x8x256_d3 h_S_) main_v87 main_cst_18
  fn_part5 (F := F) main_arg2 main_arg3 main_arg4 main_arg5 main_arg6 main_arg7 main_arg8 main_arg9 main_v2 main_v5 main_v8 main_v11 main_v14 main_v17 main_v20 main_v23 main_v26 main_v65 main_v84 main_values main_indices main_v88 main_v96 main_v97

def fn_part3 {F : FTy → Type} [FloatOps F] (main_arg2 : FVec F S2x128x128 .f32) (main_arg3 : FVec F S2x128x128 .f32) (main_arg4 : FVec F S2x128x128 .f32) (main_arg5 : FVec F S2x128x128 .f32) (main_arg6 : FVec F S2x128x128 .f32) (main_arg7 : FVec F S2x128x128 .f32) (main_arg8 : FVec F S2x128x128 .f32) (main_arg9 : FVec F S2x128x128 .f32) (main_v2 : IVec S2x128x128x128 1) (main_v5 : IVec S2x128x128 1) (main_v8 : IVec S2x128x128 1) (main_v11 : IVec S2x128x128 1) (main_v14 : IVec S2x128x128 1) (main_v17 : IVec S2x128x128 1) (main_v20 : IVec S2x128x128 1) (main_v23 : IVec S2x128x128 1) (main_v26 : IVec S2x128x128 1) (main_v29 : FVec F S512x64x128 .f32) (main_v37 : FVec F S128x128 .f32) (main_v46 : FVec F S512x8x64x16 .f32) (main_v56 : FVec F S512x8x64x64 .f32) (main_v58 : FVec F S512x8x64x1 .f32) : IVec S2x128x128x128 1 × IVec S2x128x128 1 × IVec S2x128x128 1 × IVec S2x128x128 1 × IVec S2x128x128 1 × IVec S2x128x128 1 × IVec S2x128x128 1 × IVec S2x128x128 1 × IVec S2x128x128 1 × IVec S2x8x256 1 × IVec S2x8x256 1 × IVec S2x8x256 1 × IVec S2x8x256 1 :=
  let main_v59 : FVec F S512x8x64x64 .f32 := broadcastInDim S512x8x64x64 ![0, 1, 2, 3] bcast_S512x8x64x1_S512x8x64x64_0_1_2_3 main_v58
  let main_v60 : FVec F S512x8x64x64 .f32 := Host.divf main_v56 main_v59
  let main_v61 : FVec F S512x8x64x16 .f32 := (fun l r => Host.dotGeneral dot_S512x8x64x64_S512x8x64x16_S512x8x64x16_3_2_2_3_01_01 none l r) main_v60 main_v46
  let main_v62 : FVec F S512x64x8x16 .f32 := (transpose S512x64x8x16 [0, 2, 1, 3] · transposes_S512x8x64x16_S512x64x8x16_0_2_1_3) main_v61
  let main_v63 : FVec F S512x64x128 .f32 := shapeCast S512x64x128 main_v62 shapeCasts_S512x64x8x16_S512x64x128
  let main_v64 : FVec F S512x64x128 .f32 := (fun l r => Host.dotGeneral dot_S512x64x128_S128x128_S512x64x128_2_0_01_1_n_n none l r) main_v63 main_v37
  let main_v65 : FVec F S512x64x128 .f32 := addf main_v29 main_v64
  let main_v66 : FVec F S2x256x64x128 .f32 := shapeCast S2x256x64x128 main_v65 shapeCasts_S512x64x128_S2x256x64x128
  let main_cst_12 : FVec F S_ .f32 := constant S_ .f32 0x00000000#32
  let main_v67 : FVec F S2x256x128 .f32 := (fun x v => Host.reduceAdd x v reducesTo_S2x256x64x128_S2x256x128_d2 h_S_) main_v66 main_cst_12
  let main_cst_13 : FVec F S_ .f32 := constant S_ .f32 0x42800000#32
  let main_v68 : FVec F S2x256x128 .f32 := broadcastInDim S2x256x128 ![] bcast_S_S2x256x128 main_cst_13
  let main_v69 : FVec F S2x256x128 .f32 := Host.divf main_v67 main_v68
  let main_v70 : FVec F S1x128x128 .f32 := (extractStridedSlice S1x128x128 ![0, 0, 0] · slices_S2x128x128_S1x128x128_0_0_0) main_arg6
  let main_v71 : FVec F S128x128 .f32 := shapeCast S128x128 main_v70 shapeCasts_S1x128x128_S128x128
  let main_v72 : FVec F S2x256x128 .f32 := (fun l r => Host.dotGeneral dot_S2x256x128_S128x128_S2x256x128_2_0_01_1_n_n none l r) main_v69 main_v71
  let main_v73 : FVec F S2x256x8x16 .f32 := shapeCast S2x256x8x16 main_v72 shapeCasts_S2x256x128_S2x256x8x16
  let main_v74 : FVec F S2x8x256x16 .f32 := (transpose S2x8x256x16 [0, 2, 1, 3] · transposes_S2x256x8x16_S2x8x256x16_0_2_1_3) main_v73
  let main_v75 : FVec F S1x128x128 .f32 := (extractStridedSlice S1x128x128 ![0, 0, 0] · slices_S2x128x128_S1x128x128_0_0_0) main_arg7
  let main_v76 : FVec F S128x128 .f32 := shapeCast S128x128 main_v75 shapeCasts_S1x128x128_S128x128
  let main_v77 : FVec F S2x256x128 .f32 := (fun l r => Host.dotGeneral dot_S2x256x128_S128x128_S2x256x128_2_0_01_1_n_n none l r) main_v69 main_v76
  let main_v78 : FVec F S2x256x8x16 .f32 := shapeCast S2x256x8x16 main_v77 shapeCasts_S2x256x128_S2x256x8x16
  let main_v79 : FVec F S2x8x256x16 .f32 := (transpose S2x8x256x16 [0, 2, 1, 3] · transposes_S2x256x8x16_S2x8x256x16_0_2_1_3) main_v78
  let main_v80 : FVec F S1x128x128 .f32 := (extractStridedSlice S1x128x128 ![0, 0, 0] · slices_S2x128x128_S1x128x128_0_0_0) main_arg8
  fn_part4 (F := F) main_arg2 main_arg3 main_arg4 main_arg5 main_arg6 main_arg7 main_arg8 main_arg9 main_v2 main_v5 main_v8 main_v11 main_v14 main_v17 main_v20 main_v23 main_v26 main_v65 main_v69 main_v74 main_v79 main_v80

def fn_part2 {F : FTy → Type} [FloatOps F] (main_arg2 : FVec F S2x128x128 .f32) (main_arg3 : FVec F S2x128x128 .f32) (main_arg4 : FVec F S2x128x128 .f32) (main_arg5 : FVec F S2x128x128 .f32) (main_arg6 : FVec F S2x128x128 .f32) (main_arg7 : FVec F S2x128x128 .f32) (main_arg8 : FVec F S2x128x128 .f32) (main_arg9 : FVec F S2x128x128 .f32) (main_v2 : IVec S2x128x128x128 1) (main_v5 : IVec S2x128x128 1) (main_v8 : IVec S2x128x128 1) (main_v11 : IVec S2x128x128 1) (main_v14 : IVec S2x128x128 1) (main_v17 : IVec S2x128x128 1) (main_v20 : IVec S2x128x128 1) (main_v23 : IVec S2x128x128 1) (main_v26 : IVec S2x128x128 1) (main_v29 : FVec F S512x64x128 .f32) (main_v33 : FVec F S128x128 .f32) (main_v35 : FVec F S128x128 .f32) (main_v37 : FVec F S128x128 .f32) (main_v38 : FVec F S512x64x128 .f32) : IVec S2x128x128x128 1 × IVec S2x128x128 1 × IVec S2x128x128 1 × IVec S2x128x128 1 × IVec S2x128x128 1 × IVec S2x128x128 1 × IVec S2x128x128 1 × IVec S2x128x128 1 × IVec S2x128x128 1 × IVec S2x8x256 1 × IVec S2x8x256 1 × IVec S2x8x256 1 × IVec S2x8x256 1 :=
  let main_v39 : FVec F S512x64x8x16 .f32 := shapeCast S512x64x8x16 main_v38 shapeCasts_S512x64x128_S512x64x8x16
  let main_v40 : FVec F S512x8x64x16 .f32 := (transpose S512x8x64x16 [0, 2, 1, 3] · transposes_S512x64x8x16_S512x8x64x16_0_2_1_3) main_v39
  let main_v41 : FVec F S512x64x128 .f32 := (fun l r => Host.dotGeneral dot_S512x64x128_S128x128_S512x64x128_2_0_01_1_n_n none l r) main_v29 main_v33
  let main_v42 : FVec F S512x64x8x16 .f32 := shapeCast S512x64x8x16 main_v41 shapeCasts_S512x64x128_S512x64x8x16
  let main_v43 : FVec F S512x8x64x16 .f32 := (transpose S512x8x64x16 [0, 2, 1, 3] · transposes_S512x64x8x16_S512x8x64x16_0_2_1_3) main_v42
  let main_v44 : FVec F S512x64x128 .f32 := (fun l r => Host.dotGeneral dot_S512x64x128_S128x128_S512x64x128_2_0_01_1_n_n none l r) main_v29 main_v35
  let main_v45 : FVec F S512x64x8x16 .f32 := shapeCast S512x64x8x16 main_v44 shapeCasts_S512x64x128_S512x64x8x16
  let main_v46 : FVec F S512x8x64x16 .f32 := (transpose S512x8x64x16 [0, 2, 1, 3] · transposes_S512x64x8x16_S512x8x64x16_0_2_1_3) main_v45
  let main_v47 : FVec F S512x8x64x64 .f32 := (fun l r => Host.dotGeneral dot_S512x8x64x16_S512x8x64x16_S512x8x64x64_3_3_2_2_01_01 none l r) main_v40 main_v43
  let main_cst_8 : FVec F S_ .f32 := constant S_ .f32 0x40800000#32
  let main_v48 : FVec F S512x8x64x64 .f32 := broadcastInDim S512x8x64x64 ![] bcast_S_S512x8x64x64 main_cst_8
  let main_v49 : FVec F S512x8x64x64 .f32 := Host.divf main_v47 main_v48
  let main_cst_9 : FVec F S_ .f32 := constant S_ .f32 0xFF800000#32
  let main_v50 : FVec F S512x8x64 .f32 := (fun x v => Host.reduce FloatOps.maximumf x v reducesTo_S512x8x64x64_S512x8x64_d3 h_S_) main_v49 main_cst_9
  let main_cst_10 : FVec F S_ .f32 := constant S_ .f32 0xFF800000#32
  let main_v51 : FVec F S512x8x64 .f32 := broadcastInDim S512x8x64 ![] bcast_S_S512x8x64 main_cst_10
  let main_v52 : FVec F S512x8x64 .f32 := maximumf main_v51 main_v50
  let main_v53 : FVec F S512x8x64x1 .f32 := broadcastInDim S512x8x64x1 ![0, 1, 2] bcast_S512x8x64_S512x8x64x1_0_1_2 main_v52
  let main_v54 : FVec F S512x8x64x64 .f32 := broadcastInDim S512x8x64x64 ![0, 1, 2, 3] bcast_S512x8x64x1_S512x8x64x64_0_1_2_3 main_v53
  let main_v55 : FVec F S512x8x64x64 .f32 := subf main_v49 main_v54
  let main_v56 : FVec F S512x8x64x64 .f32 := Host.exp main_v55
  let main_cst_11 : FVec F S_ .f32 := constant S_ .f32 0x00000000#32
  let main_v57 : FVec F S512x8x64 .f32 := (fun x v => Host.reduceAdd x v reducesTo_S512x8x64x64_S512x8x64_d3 h_S_) main_v56 main_cst_11
  let main_v58 : FVec F S512x8x64x1 .f32 := broadcastInDim S512x8x64x1 ![0, 1, 2] bcast_S512x8x64_S512x8x64x1_0_1_2 main_v57
  fn_part3 (F := F) main_arg2 main_arg3 main_arg4 main_arg5 main_arg6 main_arg7 main_arg8 main_arg9 main_v2 main_v5 main_v8 main_v11 main_v14 main_v17 main_v20 main_v23 main_v26 main_v29 main_v37 main_v46 main_v56 main_v58

def fn_part1 {F : FTy → Type} [FloatOps F] (main_arg0 : FVec F S2x128x128x128 .f32) (main_arg2 : FVec F S2x128x128 .f32) (main_arg3 : FVec F S2x128x128 .f32) (main_arg4 : FVec F S2x128x128 .f32) (main_arg5 : FVec F S2x128x128 .f32) (main_arg6 : FVec F S2x128x128 .f32) (main_arg7 : FVec F S2x128x128 .f32) (main_arg8 : FVec F S2x128x128 .f32) (main_arg9 : FVec F S2x128x128 .f32) (main_v2 : IVec S2x128x128x128 1) (main_v5 : IVec S2x128x128 1) (main_v8 : IVec S2x128x128 1) (main_v11 : IVec S2x128x128 1) (main_v14 : IVec S2x128x128 1) (main_v17 : IVec S2x128x128 1) : IVec S2x128x128x128 1 × IVec S2x128x128 1 × IVec S2x128x128 1 × IVec S2x128x128 1 × IVec S2x128x128 1 × IVec S2x128x128 1 × IVec S2x128x128 1 × IVec S2x128x128 1 × IVec S2x128x128 1 × IVec S2x8x256 1 × IVec S2x8x256 1 × IVec S2x8x256 1 × IVec S2x8x256 1 :=
  let main_v18 : FVec F S2x128x128 .f32 := Host.absf main_arg7
  let main_cst_5 : FVec F S_ .f32 := constant S_ .f32 0x7F800000#32
  let main_v19 : FVec F S2x128x128 .f32 := broadcastInDim S2x128x128 ![] bcast_S_S2x128x128 main_cst_5
  let main_v20 : IVec S2x128x128 1 := cmpf .olt main_v18 main_v19
  let main_v21 : FVec F S2x128x128 .f32 := Host.absf main_arg8
  let main_cst_6 : FVec F S_ .f32 := constant S_ .f32 0x7F800000#32
  let main_v22 : FVec F S2x128x128 .f32 := broadcastInDim S2x128x128 ![] bcast_S_S2x128x128 main_cst_6
  let main_v23 : IVec S2x128x128 1 := cmpf .olt main_v21 main_v22
  let main_v24 : FVec F S2x128x128 .f32 := Host.absf main_arg9
  let main_cst_7 : FVec F S_ .f32 := constant S_ .f32 0x7F800000#32
  let main_v25 : FVec F S2x128x128 .f32 := broadcastInDim S2x128x128 ![] bcast_S_S2x128x128 main_cst_7
  let main_v26 : IVec S2x128x128 1 := cmpf .olt main_v24 main_v25
  let main_v27 : FVec F S2x128x16x8x16x8 .f32 := shapeCast S2x128x16x8x16x8 main_arg0 shapeCasts_S2x128x128x128_S2x128x16x8x16x8
  let main_v28 : FVec F S2x16x16x8x8x128 .f32 := (transpose S2x16x16x8x8x128 [0, 2, 4, 3, 5, 1] · transposes_S2x128x16x8x16x8_S2x16x16x8x8x128_0_2_4_3_5_1) main_v27
  let main_v29 : FVec F S512x64x128 .f32 := shapeCast S512x64x128 main_v28 shapeCasts_S2x16x16x8x8x128_S512x64x128
  let main_v30 : FVec F S1x128x128 .f32 := (extractStridedSlice S1x128x128 ![0, 0, 0] · slices_S2x128x128_S1x128x128_0_0_0) main_arg2
  let main_v31 : FVec F S128x128 .f32 := shapeCast S128x128 main_v30 shapeCasts_S1x128x128_S128x128
  let main_v32 : FVec F S1x128x128 .f32 := (extractStridedSlice S1x128x128 ![0, 0, 0] · slices_S2x128x128_S1x128x128_0_0_0) main_arg3
  let main_v33 : FVec F S128x128 .f32 := shapeCast S128x128 main_v32 shapeCasts_S1x128x128_S128x128
  let main_v34 : FVec F S1x128x128 .f32 := (extractStridedSlice S1x128x128 ![0, 0, 0] · slices_S2x128x128_S1x128x128_0_0_0) main_arg4
  let main_v35 : FVec F S128x128 .f32 := shapeCast S128x128 main_v34 shapeCasts_S1x128x128_S128x128
  let main_v36 : FVec F S1x128x128 .f32 := (extractStridedSlice S1x128x128 ![0, 0, 0] · slices_S2x128x128_S1x128x128_0_0_0) main_arg5
  let main_v37 : FVec F S128x128 .f32 := shapeCast S128x128 main_v36 shapeCasts_S1x128x128_S128x128
  let main_v38 : FVec F S512x64x128 .f32 := (fun l r => Host.dotGeneral dot_S512x64x128_S128x128_S512x64x128_2_0_01_1_n_n none l r) main_v29 main_v31
  fn_part2 (F := F) main_arg2 main_arg3 main_arg4 main_arg5 main_arg6 main_arg7 main_arg8 main_arg9 main_v2 main_v5 main_v8 main_v11 main_v14 main_v17 main_v20 main_v23 main_v26 main_v29 main_v33 main_v35 main_v37 main_v38

def fn {F : FTy → Type} [FloatOps F] (main_arg0 : FVec F S2x128x128x128 .f32) (main_arg1 : FVec F S2x128x128x128 .f32) (main_arg2 : FVec F S2x128x128 .f32) (main_arg3 : FVec F S2x128x128 .f32) (main_arg4 : FVec F S2x128x128 .f32) (main_arg5 : FVec F S2x128x128 .f32) (main_arg6 : FVec F S2x128x128 .f32) (main_arg7 : FVec F S2x128x128 .f32) (main_arg8 : FVec F S2x128x128 .f32) (main_arg9 : FVec F S2x128x128 .f32) : IVec S2x128x128x128 1 × IVec S2x128x128 1 × IVec S2x128x128 1 × IVec S2x128x128 1 × IVec S2x128x128 1 × IVec S2x128x128 1 × IVec S2x128x128 1 × IVec S2x128x128 1 × IVec S2x128x128 1 × IVec S2x8x256 1 × IVec S2x8x256 1 × IVec S2x8x256 1 × IVec S2x8x256 1 :=
  let main_v0 : FVec F S2x128x128x128 .f32 := Host.absf main_arg0
  let main_cst : FVec F S_ .f32 := constant S_ .f32 0x7F800000#32
  let main_v1 : FVec F S2x128x128x128 .f32 := broadcastInDim S2x128x128x128 ![] bcast_S_S2x128x128x128 main_cst
  let main_v2 : IVec S2x128x128x128 1 := cmpf .olt main_v0 main_v1
  let main_v3 : FVec F S2x128x128 .f32 := Host.absf main_arg2
  let main_cst_0 : FVec F S_ .f32 := constant S_ .f32 0x7F800000#32
  let main_v4 : FVec F S2x128x128 .f32 := broadcastInDim S2x128x128 ![] bcast_S_S2x128x128 main_cst_0
  let main_v5 : IVec S2x128x128 1 := cmpf .olt main_v3 main_v4
  let main_v6 : FVec F S2x128x128 .f32 := Host.absf main_arg3
  let main_cst_1 : FVec F S_ .f32 := constant S_ .f32 0x7F800000#32
  let main_v7 : FVec F S2x128x128 .f32 := broadcastInDim S2x128x128 ![] bcast_S_S2x128x128 main_cst_1
  let main_v8 : IVec S2x128x128 1 := cmpf .olt main_v6 main_v7
  let main_v9 : FVec F S2x128x128 .f32 := Host.absf main_arg4
  let main_cst_2 : FVec F S_ .f32 := constant S_ .f32 0x7F800000#32
  let main_v10 : FVec F S2x128x128 .f32 := broadcastInDim S2x128x128 ![] bcast_S_S2x128x128 main_cst_2
  let main_v11 : IVec S2x128x128 1 := cmpf .olt main_v9 main_v10
  let main_v12 : FVec F S2x128x128 .f32 := Host.absf main_arg5
  let main_cst_3 : FVec F S_ .f32 := constant S_ .f32 0x7F800000#32
  let main_v13 : FVec F S2x128x128 .f32 := broadcastInDim S2x128x128 ![] bcast_S_S2x128x128 main_cst_3
  let main_v14 : IVec S2x128x128 1 := cmpf .olt main_v12 main_v13
  let main_v15 : FVec F S2x128x128 .f32 := Host.absf main_arg6
  let main_cst_4 : FVec F S_ .f32 := constant S_ .f32 0x7F800000#32
  let main_v16 : FVec F S2x128x128 .f32 := broadcastInDim S2x128x128 ![] bcast_S_S2x128x128 main_cst_4
  let main_v17 : IVec S2x128x128 1 := cmpf .olt main_v15 main_v16
  fn_part1 (F := F) main_arg0 main_arg2 main_arg3 main_arg4 main_arg5 main_arg6 main_arg7 main_arg8 main_arg9 main_v2 main_v5 main_v8 main_v11 main_v14 main_v17
-- ==== Kernel.lean ====
abbrev S2x128x128x128 : Shape := ⟨4, ![2, 128, 128, 128]⟩
abbrev S2x128x128 : Shape := ⟨3, ![2, 128, 128]⟩
abbrev S1x128x128 : Shape := ⟨3, ![1, 128, 128]⟩
abbrev S128x128 : Shape := ⟨2, ![128, 128]⟩
abbrev S2x16x8x2x64x128 : Shape := ⟨6, ![2, 16, 8, 2, 64, 128]⟩
abbrev S1x16x128x128 : Shape := ⟨4, ![1, 16, 128, 128]⟩
abbrev S1x2x8x2x64x128 : Shape := ⟨6, ![1, 2, 8, 2, 64, 128]⟩
abbrev S512x64x128 : Shape := ⟨3, ![512, 64, 128]⟩
abbrev S512x128 : Shape := ⟨2, ![512, 128]⟩
abbrev S16x128x128 : Shape := ⟨3, ![16, 128, 128]⟩
abbrev S2x8x16x8x128 : Shape := ⟨5, ![2, 8, 16, 8, 128]⟩
abbrev S2x16x8x8x128 : Shape := ⟨5, ![2, 16, 8, 8, 128]⟩
abbrev S2048x128 : Shape := ⟨2, ![2048, 128]⟩
abbrev S64x128 : Shape := ⟨2, ![64, 128]⟩
abbrev S512x64 : Shape := ⟨2, ![512, 64]⟩
abbrev S512 : Shape := ⟨1, ![512]⟩
abbrev S512x1 : Shape := ⟨2, ![512, 1]⟩
abbrev S32x64x128 : Shape := ⟨3, ![32, 64, 128]⟩
abbrev S32x2048 : Shape := ⟨2, ![32, 2048]⟩
abbrev S32x128 : Shape := ⟨2, ![32, 128]⟩
abbrev S256x128 : Shape := ⟨2, ![256, 128]⟩
abbrev S2048x256 : Shape := ⟨2, ![2048, 256]⟩
abbrev S2048 : Shape := ⟨1, ![2048]⟩
abbrev S2048x1 : Shape := ⟨2, ![2048, 1]⟩
abbrev S2048x32 : Shape := ⟨2, ![2048, 32]⟩
abbrev S2x2x8x8x8x128 : Shape := ⟨6, ![2, 2, 8, 8, 8, 128]⟩
abbrev S2x8x2x8x8x128 : Shape := ⟨6, ![2, 8, 2, 8, 8, 128]⟩
abbrev S2x16384x128 : Shape := ⟨3, ![2, 16384, 128]⟩

abbrev nBuf : Space → Nat
  | .hbm => 45
  | .vmem => 24
  | .smem => 0
  | _ => 0

abbrev bufTy : (tb : Table) → Fin (tcTables nBuf tb) → BufTy
  | .hbm, ⟨0, _⟩ => ⟨S2x128x128x128, .f32⟩
  | .hbm, ⟨1, _⟩ => ⟨S2x128x128x128, .f32⟩
  | .hbm, ⟨2, _⟩ => ⟨S2x128x128, .f32⟩
  | .hbm, ⟨3, _⟩ => ⟨S2x128x128, .f32⟩
  | .hbm, ⟨4, _⟩ => ⟨S2x128x128, .f32⟩
  | .hbm, ⟨5, _⟩ => ⟨S2x128x128, .f32⟩
  | .hbm, ⟨6, _⟩ => ⟨S2x128x128, .f32⟩
  | .hbm, ⟨7, _⟩ => ⟨S2x128x128, .f32⟩
  | .hbm, ⟨8, _⟩ => ⟨S2x128x128, .f32⟩
  | .hbm, ⟨9, _⟩ => ⟨S2x128x128, .f32⟩
  | .hbm, ⟨10, _⟩ => ⟨S2x128x128x128, .f32⟩
  | .hbm, ⟨11, _⟩ => ⟨S1x128x128, .f32⟩
  | .hbm, ⟨12, _⟩ => ⟨S128x128, .f32⟩
  | .hbm, ⟨13, _⟩ => ⟨S1x128x128, .f32⟩
  | .hbm, ⟨14, _⟩ => ⟨S128x128, .f32⟩
  | .hbm, ⟨15, _⟩ => ⟨S1x128x128, .f32⟩
  | .hbm, ⟨16, _⟩ => ⟨S128x128, .f32⟩
  | .hbm, ⟨17, _⟩ => ⟨S1x128x128, .f32⟩
  | .hbm, ⟨18, _⟩ => ⟨S128x128, .f32⟩
  | .hbm, ⟨19, _⟩ => ⟨S1x128x128, .f32⟩
  | .hbm, ⟨20, _⟩ => ⟨S128x128, .f32⟩
  | .hbm, ⟨21, _⟩ => ⟨S1x128x128, .f32⟩
  | .hbm, ⟨22, _⟩ => ⟨S128x128, .f32⟩
  | .hbm, ⟨23, _⟩ => ⟨S1x128x128, .f32⟩
  | .hbm, ⟨24, _⟩ => ⟨S128x128, .f32⟩
  | .hbm, ⟨25, _⟩ => ⟨S1x128x128, .f32⟩
  | .hbm, ⟨26, _⟩ => ⟨S128x128, .f32⟩
  | .hbm, ⟨27, _⟩ => ⟨S1x128x128, .f32⟩
  | .hbm, ⟨28, _⟩ => ⟨S128x128, .f32⟩
  | .hbm, ⟨29, _⟩ => ⟨S1x128x128, .f32⟩
  | .hbm, ⟨30, _⟩ => ⟨S128x128, .f32⟩
  | .hbm, ⟨31, _⟩ => ⟨S1x128x128, .f32⟩
  | .hbm, ⟨32, _⟩ => ⟨S128x128, .f32⟩
  | .hbm, ⟨33, _⟩ => ⟨S1x128x128, .f32⟩
  | .hbm, ⟨34, _⟩ => ⟨S128x128, .f32⟩
  | .hbm, ⟨35, _⟩ => ⟨S1x128x128, .f32⟩
  | .hbm, ⟨36, _⟩ => ⟨S128x128, .f32⟩
  | .hbm, ⟨37, _⟩ => ⟨S1x128x128, .f32⟩
  | .hbm, ⟨38, _⟩ => ⟨S128x128, .f32⟩
  | .hbm, ⟨39, _⟩ => ⟨S1x128x128, .f32⟩
  | .hbm, ⟨40, _⟩ => ⟨S128x128, .f32⟩
  | .hbm, ⟨41, _⟩ => ⟨S1x128x128, .f32⟩
  | .hbm, ⟨42, _⟩ => ⟨S128x128, .f32⟩
  | .hbm, ⟨43, _⟩ => ⟨S2x16x8x2x64x128, .f32⟩
  | .hbm, ⟨44, _⟩ => ⟨S2x16384x128, .f32⟩
  | .local _ .vmem, ⟨0, _⟩ => ⟨S1x16x128x128, .f32⟩
  | .local _ .vmem, ⟨1, _⟩ => ⟨S1x16x128x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | .local _ .vmem, ⟨16, _⟩ => ⟨S128x128, .f32⟩
  | .local _ .vmem, ⟨17, _⟩ => ⟨S128x128, .f32⟩
  | .local _ .vmem, ⟨18, _⟩ => ⟨S1x2x8x2x64x128, .f32⟩
  | .local _ .vmem, ⟨19, _⟩ => ⟨S1x2x8x2x64x128, .f32⟩
  | .local _ .vmem, ⟨20, _⟩ => ⟨S512x64x128, .f32⟩
  | .local _ .vmem, ⟨21, _⟩ => ⟨S512x128, .f32⟩
  | .local _ .vmem, ⟨22, _⟩ => ⟨S512x128, .f32⟩
  | .local _ .vmem, ⟨23, _⟩ => ⟨S512x128, .f32⟩
  | _, _ => ⟨S2x128x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg17_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem17_1 : DmaSem sig := 19

abbrev nD : Nat := 1
abbrev τ : Topo := Topo.v7x

variable {F : FTy → Type} [FloatOps F]

abbrev grid0 : Pipeline.Grid := ⟨1, ![50], ![false]⟩

def k0_cond1 (i : grid0.Coords) : BitVec 1 :=
  let arg0 : BitVec 32 := BitVec.ofNat 32 (i 0).val
  let c16_i32 : BitVec 32 := 16#32
  let v0 : BitVec 1 := Scalar.cmpi .slt arg0 c16_i32
  let v1 : BitVec 32 := Scalar.extui v0
  let c0_i32 : BitVec 32 := 0#32
  let v2 : BitVec 1 := Scalar.cmpi .ne v1 c0_i32
  v2

def k0_off1 (i : grid0.Coords) : Fin 3 → Nat :=
  let arg0 : BitVec 32 := BitVec.ofNat 32 (i 0).val
  let c32_i32 : BitVec 32 := 32#32
  let v1050 : BitVec 32 := Scalar.muli arg0 c32_i32
  let v1051 : Index := Scalar.indexCast v1050
  let c0_162 : Index := 0#32
  let c0_163 : Index := 0#32
  ![v1051.toNat, 0, 0]
def k0_off2 (i : grid0.Coords) : Fin 2 → Nat :=
  let arg0 : BitVec 32 := BitVec.ofNat 32 (i 0).val
  let c32_i32_173 : BitVec 32 := 32#32
  let v1087 : BitVec 32 := Scalar.muli arg0 c32_i32_173
  let v1088 : Index := Scalar.indexCast v1087
  let c0_174 : Index := 0#32
  ![v1088.toNat, 0]
def k0_cond2 (i : grid0.Coords) : BitVec 1 :=
  let arg0 : BitVec 32 := BitVec.ofNat 32 (i 0).val
  let c16_i32_0 : BitVec 32 := 16#32
  let v3 : BitVec 1 := Scalar.cmpi .eq arg0 c16_i32_0
  let v4 : BitVec 32 := Scalar.extui v3
  let c0_i32_1 : BitVec 32 := 0#32
  let v5 : BitVec 1 := Scalar.cmpi .ne v4 c0_i32_1
  v5

@[reducible] def k0_t1_loop : Scf.Loop 32 :=
  let c0_i32_37 : BitVec 32 := 0#32
  let c22_i32 : BitVec 32 := 22#32
  let v93 : BitVec 32 := Scalar.addi c0_i32_37 c22_i32
  let c1_i32_38 : BitVec 32 := 1#32
  ⟨c0_i32_37, v93, c1_i32_38⟩
@[reducible] def k0_t2_loop : Scf.Loop 32 :=
  let c0_i32_77 : BitVec 32 := 0#32
  let c22_i32_78 : BitVec 32 := 22#32
  let v203 : BitVec 32 := Scalar.addi c0_i32_77 c22_i32_78
  let c1_i32_79 : BitVec 32 := 1#32
  ⟨c0_i32_77, v203, c1_i32_79⟩
def k0_cond3 (i : grid0.Coords) : BitVec 1 :=
  let arg0 : BitVec 32 := BitVec.ofNat 32 (i 0).val
  let c16_i32_2 : BitVec 32 := 16#32
  let v6 : BitVec 1 := Scalar.cmpi .sgt arg0 c16_i32_2
  let c33_i32 : BitVec 32 := 33#32
  let v7 : BitVec 1 := Scalar.cmpi .slt arg0 c33_i32
  let v8 : BitVec 1 := Scalar.andi v6 v7
  let v9 : BitVec 32 := Scalar.extui v8
  let c0_i32_3 : BitVec 32 := 0#32
  let v10 : BitVec 1 := Scalar.cmpi .ne v9 c0_i32_3
  v10

def k0_off3 (i : grid0.Coords) : Fin 3 → Nat :=
  let arg0 : BitVec 32 := BitVec.ofNat 32 (i 0).val
  let c17_i32 : BitVec 32 := 17#32
  let v17 : BitVec 32 := Scalar.subi arg0 c17_i32
  let c32_i32 : BitVec 32 := 32#32
  let v18 : BitVec 32 := Scalar.muli v17 c32_i32
  let v19 : Index := Scalar.indexCast v18
  let c0 : Index := 0#32
  let c0_8 : Index := 0#32
  ![v19.toNat, 0, 0]
def k0_off4 (i : grid0.Coords) : Fin 2 → Nat :=
  let arg0 : BitVec 32 := BitVec.ofNat 32 (i 0).val
  let c17_i32 : BitVec 32 := 17#32
  let v17 : BitVec 32 := Scalar.subi arg0 c17_i32
  let c32_i32 : BitVec 32 := 32#32
  let v18 : BitVec 32 := Scalar.muli v17 c32_i32
  let v51 : Index := Scalar.indexCast v18
  let c0_14 : Index := 0#32
  ![v51.toNat, 0]
def k0_cond4 (i : grid0.Coords) : BitVec 1 :=
  let arg0 : BitVec 32 := BitVec.ofNat 32 (i 0).val
  let c33_i32_4 : BitVec 32 := 33#32
  let v11 : BitVec 1 := Scalar.cmpi .eq arg0 c33_i32_4
  let v12 : BitVec 32 := Scalar.extui v11
  let c0_i32_5 : BitVec 32 := 0#32
  let v13 : BitVec 1 := Scalar.cmpi .ne v12 c0_i32_5
  v13

@[reducible] def k0_t3_loop : Scf.Loop 32 :=
  let c0_i32_37 : BitVec 32 := 0#32
  let c22_i32 : BitVec 32 := 22#32
  let v93 : BitVec 32 := Scalar.addi c0_i32_37 c22_i32
  let c1_i32_38 : BitVec 32 := 1#32
  ⟨c0_i32_37, v93, c1_i32_38⟩
@[reducible] def k0_t4_loop : Scf.Loop 32 :=
  let c0_i32_77 : BitVec 32 := 0#32
  let c22_i32_78 : BitVec 32 := 22#32
  let v203 : BitVec 32 := Scalar.addi c0_i32_77 c22_i32_78
  let c1_i32_79 : BitVec 32 := 1#32
  ⟨c0_i32_77, v203, c1_i32_79⟩
def k0_cond5 (i : grid0.Coords) : BitVec 1 :=
  let arg0 : BitVec 32 := BitVec.ofNat 32 (i 0).val
  let c33_i32_6 : BitVec 32 := 33#32
  let v14 : BitVec 1 := Scalar.cmpi .sgt arg0 c33_i32_6
  let v15 : BitVec 32 := Scalar.extui v14
  let c0_i32_7 : BitVec 32 := 0#32
  let v16 : BitVec 1 := Scalar.cmpi .ne v15 c0_i32_7
  v16

def k0_off5 (i : grid0.Coords) : Fin 3 → Nat :=
  let arg0 : BitVec 32 := BitVec.ofNat 32 (i 0).val
  let c34_i32 : BitVec 32 := 34#32
  let v17 : BitVec 32 := Scalar.subi arg0 c34_i32
  let c32_i32 : BitVec 32 := 32#32
  let v18 : BitVec 32 := Scalar.muli v17 c32_i32
  let v19 : Index := Scalar.indexCast v18
  let c0 : Index := 0#32
  let c0_8 : Index := 0#32
  ![v19.toNat, 0, 0]
def k0_off6 (i : grid0.Coords) : Fin 2 → Nat :=
  let arg0 : BitVec 32 := BitVec.ofNat 32 (i 0).val
  let c34_i32 : BitVec 32 := 34#32
  let v17 : BitVec 32 := Scalar.subi arg0 c34_i32
  let c32_i32 : BitVec 32 := 32#32
  let v18 : BitVec 32 := Scalar.muli v17 c32_i32
  let v51 : Index := Scalar.indexCast v18
  let c0_14 : Index := 0#32
  ![v51.toNat, 0]
def cc0_transform_0 (i : grid0.Coords) : Fin 4 → Nat :=
  let arg0 : BitVec 32 := BitVec.ofNat 32 (i 0).val
  let c15_i32 : BitVec 32 := 15#32
  let v0 : BitVec 32 := Scalar.minsi arg0 c15_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32_4 : BitVec 32 := 8#32
  let c0_i32_5 : BitVec 32 := 0#32
  let v18 : BitVec 1 := Scalar.cmpi .eq c8_i32_4 c0_i32_5
  let c1_i32_6 : BitVec 32 := 1#32
  let v19 : BitVec 32 := Scalar.select v18 c1_i32_6 c8_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  let c0_i32_12 : BitVec 32 := 0#32
  ![v17.toNat, v27.toNat, c0_i32_10.toNat, c0_i32_11.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 6 → Nat :=
  let arg0 : BitVec 32 := BitVec.ofNat 32 (i 0).val
  let c34_i32 : BitVec 32 := 34#32
  let v0 : BitVec 32 := Scalar.subi arg0 c34_i32
  let c0_i32 : BitVec 32 := 0#32
  let c15_i32 : BitVec 32 := 15#32
  let v1 : BitVec 32 := Scalar.maxsi c0_i32 v0
  let v2 : BitVec 32 := Scalar.minsi c15_i32 v1
  let c8_i32 : BitVec 32 := 8#32
  let v3 : BitVec 32 := Scalar.divsi v2 c8_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c8_i32 c0_i32_2
  let v10 : BitVec 32 := Scalar.extui v9
  let c0_i32_3 : BitVec 32 := 0#32
  let v11 : BitVec 1 := Scalar.cmpi .slt c8_i32 c0_i32_3
  let v12 : BitVec 32 := Scalar.extui v11
  let v13 : BitVec 32 := Scalar.subi v10 v12
  let v14 : BitVec 1 := Scalar.cmpi .ne v8 v13
  let v15 : BitVec 32 := Scalar.remsi v2 c8_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_8 : BitVec 32 := 0#32
  let v23 : BitVec 1 := Scalar.cmpi .ne v22 c0_i32_8
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let v27 : BitVec 1 := Scalar.andi v26 v23
  let v28 : BitVec 32 := Scalar.addi v22 v21
  let v29 : BitVec 32 := Scalar.select v27 v28 v22
  let c0_i32_11 : BitVec 32 := 0#32
  let c0_i32_12 : BitVec 32 := 0#32
  let c0_i32_13 : BitVec 32 := 0#32
  let c0_i32_14 : BitVec 32 := 0#32
  let c0_i32_15 : BitVec 32 := 0#32
  ![v19.toNat, v29.toNat, c0_i32_11.toNat, c0_i32_12.toNat, c0_i32_13.toNat, c0_i32_14.toNat]

abbrev stage0_0 : Fin 2 → Memref sig .tc .vmem S1x16x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S1x2x8x2x64x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== ReferenceIdeal.lean ====
abbrev S2x128x128x128 : Shape := ⟨4, ![2, 128, 128, 128]⟩
abbrev S2x128x128 : Shape := ⟨3, ![2, 128, 128]⟩
abbrev S2x128x16x8x16x8 : Shape := ⟨6, ![2, 128, 16, 8, 16, 8]⟩
abbrev S2x16x16x8x8x128 : Shape := ⟨6, ![2, 16, 16, 8, 8, 128]⟩
abbrev S512x64x128 : Shape := ⟨3, ![512, 64, 128]⟩
abbrev S1x128x128 : Shape := ⟨3, ![1, 128, 128]⟩
abbrev S128x128 : Shape := ⟨2, ![128, 128]⟩
abbrev S512x64x8x16 : Shape := ⟨4, ![512, 64, 8, 16]⟩
abbrev S512x8x64x16 : Shape := ⟨4, ![512, 8, 64, 16]⟩
abbrev S512x8x64x64 : Shape := ⟨4, ![512, 8, 64, 64]⟩
abbrev S_ : Shape := ⟨0, ![]⟩
abbrev S512x8x64 : Shape := ⟨3, ![512, 8, 64]⟩
abbrev S512x8x64x1 : Shape := ⟨4, ![512, 8, 64, 1]⟩
abbrev S2x256x64x128 : Shape := ⟨4, ![2, 256, 64, 128]⟩
abbrev S2x256x128 : Shape := ⟨3, ![2, 256, 128]⟩
abbrev S2x256x8x16 : Shape := ⟨4, ![2, 256, 8, 16]⟩
abbrev S2x8x256x16 : Shape := ⟨4, ![2, 8, 256, 16]⟩
abbrev S2x8x256x256 : Shape := ⟨4, ![2, 8, 256, 256]⟩
abbrev S2x8x256x50 : Shape := ⟨4, ![2, 8, 256, 50]⟩
abbrev S2x8x256 : Shape := ⟨3, ![2, 8, 256]⟩
abbrev S2x8x256x1 : Shape := ⟨4, ![2, 8, 256, 1]⟩
abbrev S2x8x1x256x16 : Shape := ⟨5, ![2, 8, 1, 256, 16]⟩
abbrev S2x8x256x256x16 : Shape := ⟨5, ![2, 8, 256, 256, 16]⟩
abbrev S2x8x256x50x1 : Shape := ⟨5, ![2, 8, 256, 50, 1]⟩
abbrev S1 : Shape := ⟨1, ![1]⟩
abbrev S1x1x1x1x1 : Shape := ⟨5, ![1, 1, 1, 1, 1]⟩
abbrev S2x8x256x50x16 : Shape := ⟨5, ![2, 8, 256, 50, 16]⟩
abbrev S2x256x1x128 : Shape := ⟨4, ![2, 256, 1, 128]⟩
abbrev S2x128x16384 : Shape := ⟨3, ![2, 128, 16384]⟩
abbrev S2x16384x128 : Shape := ⟨3, ![2, 16384, 128]⟩

abbrev nBuf : Space → Nat
  | .hbm => 530
  | .vmem => 0
  | .smem => 0
  | _ => 0

abbrev hbmTy0_0 (i : Nat) : BufTy := match i % 128 with
  | 0 => ⟨S2x128x128x128, .f32⟩
  | 1 => ⟨S2x128x128x128, .f32⟩
  | 2 => ⟨S2x128x128, .f32⟩
  | 3 => ⟨S2x128x128, .f32⟩
  | 4 => ⟨S2x128x128, .f32⟩
  | 5 => ⟨S2x128x128, .f32⟩
  | 6 => ⟨S2x128x128, .f32⟩
  | 7 => ⟨S2x128x128, .f32⟩
  | 8 => ⟨S2x128x128, .f32⟩
  | 9 => ⟨S2x128x128, .f32⟩
  | 10 => ⟨S2x128x16x8x16x8, .f32⟩
  | 11 => ⟨S2x16x16x8x8x128, .f32⟩
  | 12 => ⟨S512x64x128, .f32⟩
  | 13 => ⟨S2x128x16x8x16x8, .f32⟩
  | 14 => ⟨S2x16x16x8x8x128, .f32⟩
  | 15 => ⟨S512x64x128, .f32⟩
  | 16 => ⟨S1x128x128, .f32⟩
  | 17 => ⟨S128x128, .f32⟩
  | 18 => ⟨S1x128x128, .f32⟩
  | 19 => ⟨S128x128, .f32⟩
  | 20 => ⟨S1x128x128, .f32⟩
  | 21 => ⟨S128x128, .f32⟩
  | 22 => ⟨S1x128x128, .f32⟩
  | 23 => ⟨S128x128, .f32⟩
  | 24 => ⟨S512x64x128, .f32⟩
  | 25 => ⟨S512x64x8x16, .f32⟩
  | 26 => ⟨S512x8x64x16, .f32⟩
  | 27 => ⟨S512x64x128, .f32⟩
  | 28 => ⟨S512x64x8x16, .f32⟩
  | 29 => ⟨S512x8x64x16, .f32⟩
  | 30 => ⟨S512x64x128, .f32⟩
  | 31 => ⟨S512x64x8x16, .f32⟩
  | 32 => ⟨S512x8x64x16, .f32⟩
  | 33 => ⟨S512x8x64x64, .f32⟩
  | 34 => ⟨S_, .f32⟩
  | 35 => ⟨S512x8x64x64, .f32⟩
  | 36 => ⟨S512x8x64x64, .f32⟩
  | 37 => ⟨S_, .f32⟩
  | 38 => ⟨S512x8x64, .f32⟩
  | 39 => ⟨S_, .f32⟩
  | 40 => ⟨S512x8x64, .f32⟩
  | 41 => ⟨S512x8x64, .f32⟩
  | 42 => ⟨S512x8x64x1, .f32⟩
  | 43 => ⟨S512x8x64x64, .f32⟩
  | 44 => ⟨S512x8x64x64, .f32⟩
  | 45 => ⟨S512x8x64x64, .f32⟩
  | 46 => ⟨S_, .f32⟩
  | 47 => ⟨S512x8x64, .f32⟩
  | 48 => ⟨S512x8x64x1, .f32⟩
  | 49 => ⟨S512x8x64x64, .f32⟩
  | 50 => ⟨S512x8x64x64, .f32⟩
  | 51 => ⟨S512x8x64x16, .f32⟩
  | 52 => ⟨S512x64x8x16, .f32⟩
  | 53 => ⟨S512x64x128, .f32⟩
  | 54 => ⟨S512x64x128, .f32⟩
  | 55 => ⟨S512x64x128, .f32⟩
  | 56 => ⟨S1x128x128, .f32⟩
  | 57 => ⟨S128x128, .f32⟩
  | 58 => ⟨S1x128x128, .f32⟩
  | 59 => ⟨S128x128, .f32⟩
  | 60 => ⟨S1x128x128, .f32⟩
  | 61 => ⟨S128x128, .f32⟩
  | 62 => ⟨S1x128x128, .f32⟩
  | 63 => ⟨S128x128, .f32⟩
  | 64 => ⟨S512x64x128, .f32⟩
  | 65 => ⟨S512x64x8x16, .f32⟩
  | 66 => ⟨S512x8x64x16, .f32⟩
  | 67 => ⟨S512x64x128, .f32⟩
  | 68 => ⟨S512x64x8x16, .f32⟩
  | 69 => ⟨S512x8x64x16, .f32⟩
  | 70 => ⟨S512x64x128, .f32⟩
  | 71 => ⟨S512x64x8x16, .f32⟩
  | 72 => ⟨S512x8x64x16, .f32⟩
  | 73 => ⟨S512x8x64x64, .f32⟩
  | 74 => ⟨S_, .f32⟩
  | 75 => ⟨S512x8x64x64, .f32⟩
  | 76 => ⟨S512x8x64x64, .f32⟩
  | 77 => ⟨S_, .f32⟩
  | 78 => ⟨S512x8x64, .f32⟩
  | 79 => ⟨S_, .f32⟩
  | 80 => ⟨S512x8x64, .f32⟩
  | 81 => ⟨S512x8x64, .f32⟩
  | 82 => ⟨S512x8x64x1, .f32⟩
  | 83 => ⟨S512x8x64x64, .f32⟩
  | 84 => ⟨S512x8x64x64, .f32⟩
  | 85 => ⟨S512x8x64x64, .f32⟩
  | 86 => ⟨S_, .f32⟩
  | 87 => ⟨S512x8x64, .f32⟩
  | 88 => ⟨S512x8x64x1, .f32⟩
  | 89 => ⟨S512x8x64x64, .f32⟩
  | 90 => ⟨S512x8x64x64, .f32⟩
  | 91 => ⟨S512x8x64x16, .f32⟩
  | 92 => ⟨S512x64x8x16, .f32⟩
  | 93 => ⟨S512x64x128, .f32⟩
  | 94 => ⟨S512x64x128, .f32⟩
  | 95 => ⟨S512x64x128, .f32⟩
  | 96 => ⟨S1x128x128, .f32⟩
  | 97 => ⟨S128x128, .f32⟩
  | 98 => ⟨S1x128x128, .f32⟩
  | 99 => ⟨S128x128, .f32⟩
  | 100 => ⟨S1x128x128, .f32⟩
  | 101 => ⟨S128x128, .f32⟩
  | 102 => ⟨S1x128x128, .f32⟩
  | 103 => ⟨S128x128, .f32⟩
  | 104 => ⟨S2x256x64x128, .f32⟩
  | 105 => ⟨S_, .f32⟩
  | 106 => ⟨S2x256x128, .f32⟩
  | 107 => ⟨S_, .f32⟩
  | 108 => ⟨S2x256x128, .f32⟩
  | 109 => ⟨S2x256x128, .f32⟩
  | 110 => ⟨S2x256x64x128, .f32⟩
  | 111 => ⟨S_, .f32⟩
  | 112 => ⟨S2x256x128, .f32⟩
  | 113 => ⟨S_, .f32⟩
  | 114 => ⟨S2x256x128, .f32⟩
  | 115 => ⟨S2x256x128, .f32⟩
  | 116 => ⟨S2x256x128, .f32⟩
  | 117 => ⟨S2x256x8x16, .f32⟩
  | 118 => ⟨S2x8x256x16, .f32⟩
  | 119 => ⟨S2x256x128, .f32⟩
  | 120 => ⟨S2x256x8x16, .f32⟩
  | 121 => ⟨S2x8x256x16, .f32⟩
  | 122 => ⟨S2x256x128, .f32⟩
  | 123 => ⟨S2x256x8x16, .f32⟩
  | 124 => ⟨S2x8x256x16, .f32⟩
  | 125 => ⟨S2x8x256x256, .f32⟩
  | 126 => ⟨S_, .f32⟩
  | 127 => ⟨S2x8x256x256, .f32⟩
  | _ => ⟨S2x128x128x128, .f32⟩

abbrev hbmTy0_1 (i : Nat) : BufTy := match i % 128 with
  | 0 => ⟨S2x8x256x256, .f32⟩
  | 1 => ⟨S2x8x256x50, .f32⟩
  | 2 => ⟨S2x8x256x50, .i32⟩
  | 3 => ⟨S_, .f32⟩
  | 4 => ⟨S2x8x256, .f32⟩
  | 5 => ⟨S_, .f32⟩
  | 6 => ⟨S2x8x256, .f32⟩
  | 7 => ⟨S2x8x256, .f32⟩
  | 8 => ⟨S2x8x256x1, .f32⟩
  | 9 => ⟨S2x8x256x50, .f32⟩
  | 10 => ⟨S2x8x256x50, .f32⟩
  | 11 => ⟨S2x8x256x50, .f32⟩
  | 12 => ⟨S_, .f32⟩
  | 13 => ⟨S2x8x256, .f32⟩
  | 14 => ⟨S2x8x256x1, .f32⟩
  | 15 => ⟨S2x8x256x50, .f32⟩
  | 16 => ⟨S2x8x256x50, .f32⟩
  | 17 => ⟨S2x8x1x256x16, .f32⟩
  | 18 => ⟨S2x8x256x256x16, .f32⟩
  | 19 => ⟨S2x8x256x50x1, .i32⟩
  | 20 => ⟨S_, .i32⟩
  | 21 => ⟨S2x8x256x50x1, .i32⟩
  | 22 => ⟨S2x8x256x50x1, .i1⟩
  | 23 => ⟨S_, .i32⟩
  | 24 => ⟨S2x8x256x50x1, .i32⟩
  | 25 => ⟨S2x8x256x50x1, .i32⟩
  | 26 => ⟨S2x8x256x50x1, .i32⟩
  | 27 => ⟨S1, .i32⟩
  | 28 => ⟨S_, .i32⟩
  | 29 => ⟨S2x8x256x50x1, .i32⟩
  | 30 => ⟨S2x8x256x50x1, .i1⟩
  | 31 => ⟨S1x1x1x1x1, .i32⟩
  | 32 => ⟨S2x8x256x50x1, .i32⟩
  | 33 => ⟨S2x8x256x50x1, .i1⟩
  | 34 => ⟨S2x8x256x50x1, .i1⟩
  | 35 => ⟨S_, .i1⟩
  | 36 => ⟨S2x8x256x50, .i1⟩
  | 37 => ⟨S2x8x256x50x16, .f32⟩
  | 38 => ⟨S2x8x256x50x16, .i1⟩
  | 39 => ⟨S_, .f32⟩
  | 40 => ⟨S2x8x256x50x16, .f32⟩
  | 41 => ⟨S2x8x256x50x16, .f32⟩
  | 42 => ⟨S2x8x256x16, .f32⟩
  | 43 => ⟨S2x256x8x16, .f32⟩
  | 44 => ⟨S2x256x128, .f32⟩
  | 45 => ⟨S2x256x128, .f32⟩
  | 46 => ⟨S2x256x64x128, .f32⟩
  | 47 => ⟨S2x256x1x128, .f32⟩
  | 48 => ⟨S2x256x64x128, .f32⟩
  | 49 => ⟨S2x256x64x128, .f32⟩
  | 50 => ⟨S512x64x128, .f32⟩
  | 51 => ⟨S2x16x16x8x8x128, .f32⟩
  | 52 => ⟨S2x128x16x8x16x8, .f32⟩
  | 53 => ⟨S2x128x128x128, .f32⟩
  | 54 => ⟨S1x128x128, .f32⟩
  | 55 => ⟨S128x128, .f32⟩
  | 56 => ⟨S1x128x128, .f32⟩
  | 57 => ⟨S128x128, .f32⟩
  | 58 => ⟨S1x128x128, .f32⟩
  | 59 => ⟨S128x128, .f32⟩
  | 60 => ⟨S1x128x128, .f32⟩
  | 61 => ⟨S128x128, .f32⟩
  | 62 => ⟨S2x256x64x128, .f32⟩
  | 63 => ⟨S_, .f32⟩
  | 64 => ⟨S2x256x128, .f32⟩
  | 65 => ⟨S_, .f32⟩
  | 66 => ⟨S2x256x128, .f32⟩
  | 67 => ⟨S2x256x128, .f32⟩
  | 68 => ⟨S2x256x64x128, .f32⟩
  | 69 => ⟨S_, .f32⟩
  | 70 => ⟨S2x256x128, .f32⟩
  | 71 => ⟨S_, .f32⟩
  | 72 => ⟨S2x256x128, .f32⟩
  | 73 => ⟨S2x256x128, .f32⟩
  | 74 => ⟨S2x256x128, .f32⟩
  | 75 => ⟨S2x256x8x16, .f32⟩
  | 76 => ⟨S2x8x256x16, .f32⟩
  | 77 => ⟨S2x256x128, .f32⟩
  | 78 => ⟨S2x256x8x16, .f32⟩
  | 79 => ⟨S2x8x256x16, .f32⟩
  | 80 => ⟨S2x256x128, .f32⟩
  | 81 => ⟨S2x256x8x16, .f32⟩
  | 82 => ⟨S2x8x256x16, .f32⟩
  | 83 => ⟨S2x8x256x256, .f32⟩
  | 84 => ⟨S_, .f32⟩
  | 85 => ⟨S2x8x256x256, .f32⟩
  | 86 => ⟨S2x8x256x256, .f32⟩
  | 87 => ⟨S2x8x256x50, .f32⟩
  | 88 => ⟨S2x8x256x50, .i32⟩
  | 89 => ⟨S_, .f32⟩
  | 90 => ⟨S2x8x256, .f32⟩
  | 91 => ⟨S_, .f32⟩
  | 92 => ⟨S2x8x256, .f32⟩
  | 93 => ⟨S2x8x256, .f32⟩
  | 94 => ⟨S2x8x256x1, .f32⟩
  | 95 => ⟨S2x8x256x50, .f32⟩
  | 96 => ⟨S2x8x256x50, .f32⟩
  | 97 => ⟨S2x8x256x50, .f32⟩
  | 98 => ⟨S_, .f32⟩
  | 99 => ⟨S2x8x256, .f32⟩
  | 100 => ⟨S2x8x256x1, .f32⟩
  | 101 => ⟨S2x8x256x50, .f32⟩
  | 102 => ⟨S2x8x256x50, .f32⟩
  | 103 => ⟨S2x8x1x256x16, .f32⟩
  | 104 => ⟨S2x8x256x256x16, .f32⟩
  | 105 => ⟨S2x8x256x50x1, .i32⟩
  | 106 => ⟨S_, .i32⟩
  | 107 => ⟨S2x8x256x50x1, .i32⟩
  | 108 => ⟨S2x8x256x50x1, .i1⟩
  | 109 => ⟨S_, .i32⟩
  | 110 => ⟨S2x8x256x50x1, .i32⟩
  | 111 => ⟨S2x8x256x50x1, .i32⟩
  | 112 => ⟨S2x8x256x50x1, .i32⟩
  | 113 => ⟨S1, .i32⟩
  | 114 => ⟨S_, .i32⟩
  | 115 => ⟨S2x8x256x50x1, .i32⟩
  | 116 => ⟨S2x8x256x50x1, .i1⟩
  | 117 => ⟨S1x1x1x1x1, .i32⟩
  | 118 => ⟨S2x8x256x50x1, .i32⟩
  | 119 => ⟨S2x8x256x50x1, .i1⟩
  | 120 => ⟨S2x8x256x50x1, .i1⟩
  | 121 => ⟨S_, .i1⟩
  | 122 => ⟨S2x8x256x50, .i1⟩
  | 123 => ⟨S2x8x256x50x16, .f32⟩
  | 124 => ⟨S2x8x256x50x16, .i1⟩
  | 125 => ⟨S_, .f32⟩
  | 126 => ⟨S2x8x256x50x16, .f32⟩
  | 127 => ⟨S2x8x256x50x16, .f32⟩
  | _ => ⟨S2x128x128x128, .f32⟩

abbrev hbmTy0_2 (i : Nat) : BufTy := match i % 128 with
  | 0 => ⟨S2x8x256x16, .f32⟩
  | 1 => ⟨S2x256x8x16, .f32⟩
  | 2 => ⟨S2x256x128, .f32⟩
  | 3 => ⟨S2x256x128, .f32⟩
  | 4 => ⟨S2x256x64x128, .f32⟩
  | 5 => ⟨S2x256x1x128, .f32⟩
  | 6 => ⟨S2x256x64x128, .f32⟩
  | 7 => ⟨S2x256x64x128, .f32⟩
  | 8 => ⟨S512x64x128, .f32⟩
  | 9 => ⟨S2x16x16x8x8x128, .f32⟩
  | 10 => ⟨S2x128x16x8x16x8, .f32⟩
  | 11 => ⟨S2x128x128x128, .f32⟩
  | 12 => ⟨S2x128x16x8x16x8, .f32⟩
  | 13 => ⟨S2x16x16x8x8x128, .f32⟩
  | 14 => ⟨S512x64x128, .f32⟩
  | 15 => ⟨S2x128x16x8x16x8, .f32⟩
  | 16 => ⟨S2x16x16x8x8x128, .f32⟩
  | 17 => ⟨S512x64x128, .f32⟩
  | 18 => ⟨S1x128x128, .f32⟩
  | 19 => ⟨S128x128, .f32⟩
  | 20 => ⟨S1x128x128, .f32⟩
  | 21 => ⟨S128x128, .f32⟩
  | 22 => ⟨S1x128x128, .f32⟩
  | 23 => ⟨S128x128, .f32⟩
  | 24 => ⟨S1x128x128, .f32⟩
  | 25 => ⟨S128x128, .f32⟩
  | 26 => ⟨S512x64x128, .f32⟩
  | 27 => ⟨S512x64x8x16, .f32⟩
  | 28 => ⟨S512x8x64x16, .f32⟩
  | 29 => ⟨S512x64x128, .f32⟩
  | 30 => ⟨S512x64x8x16, .f32⟩
  | 31 => ⟨S512x8x64x16, .f32⟩
  | 32 => ⟨S512x64x128, .f32⟩
  | 33 => ⟨S512x64x8x16, .f32⟩
  | 34 => ⟨S512x8x64x16, .f32⟩
  | 35 => ⟨S512x8x64x64, .f32⟩
  | 36 => ⟨S_, .f32⟩
  | 37 => ⟨S512x8x64x64, .f32⟩
  | 38 => ⟨S512x8x64x64, .f32⟩
  | 39 => ⟨S_, .f32⟩
  | 40 => ⟨S512x8x64, .f32⟩
  | 41 => ⟨S_, .f32⟩
  | 42 => ⟨S512x8x64, .f32⟩
  | 43 => ⟨S512x8x64, .f32⟩
  | 44 => ⟨S512x8x64x1, .f32⟩
  | 45 => ⟨S512x8x64x64, .f32⟩
  | 46 => ⟨S512x8x64x64, .f32⟩
  | 47 => ⟨S512x8x64x64, .f32⟩
  | 48 => ⟨S_, .f32⟩
  | 49 => ⟨S512x8x64, .f32⟩
  | 50 => ⟨S512x8x64x1, .f32⟩
  | 51 => ⟨S512x8x64x64, .f32⟩
  | 52 => ⟨S512x8x64x64, .f32⟩
  | 53 => ⟨S512x8x64x16, .f32⟩
  | 54 => ⟨S512x64x8x16, .f32⟩
  | 55 => ⟨S512x64x128, .f32⟩
  | 56 => ⟨S512x64x128, .f32⟩
  | 57 => ⟨S512x64x128, .f32⟩
  | 58 => ⟨S1x128x128, .f32⟩
  | 59 => ⟨S128x128, .f32⟩
  | 60 => ⟨S1x128x128, .f32⟩
  | 61 => ⟨S128x128, .f32⟩
  | 62 => ⟨S1x128x128, .f32⟩
  | 63 => ⟨S128x128, .f32⟩
  | 64 => ⟨S1x128x128, .f32⟩
  | 65 => ⟨S128x128, .f32⟩
  | 66 => ⟨S512x64x128, .f32⟩
  | 67 => ⟨S512x64x8x16, .f32⟩
  | 68 => ⟨S512x8x64x16, .f32⟩
  | 69 => ⟨S512x64x128, .f32⟩
  | 70 => ⟨S512x64x8x16, .f32⟩
  | 71 => ⟨S512x8x64x16, .f32⟩
  | 72 => ⟨S512x64x128, .f32⟩
  | 73 => ⟨S512x64x8x16, .f32⟩
  | 74 => ⟨S512x8x64x16, .f32⟩
  | 75 => ⟨S512x8x64x64, .f32⟩
  | 76 => ⟨S_, .f32⟩
  | 77 => ⟨S512x8x64x64, .f32⟩
  | 78 => ⟨S512x8x64x64, .f32⟩
  | 79 => ⟨S_, .f32⟩
  | 80 => ⟨S512x8x64, .f32⟩
  | 81 => ⟨S_, .f32⟩
  | 82 => ⟨S512x8x64, .f32⟩
  | 83 => ⟨S512x8x64, .f32⟩
  | 84 => ⟨S512x8x64x1, .f32⟩
  | 85 => ⟨S512x8x64x64, .f32⟩
  | 86 => ⟨S512x8x64x64, .f32⟩
  | 87 => ⟨S512x8x64x64, .f32⟩
  | 88 => ⟨S_, .f32⟩
  | 89 => ⟨S512x8x64, .f32⟩
  | 90 => ⟨S512x8x64x1, .f32⟩
  | 91 => ⟨S512x8x64x64, .f32⟩
  | 92 => ⟨S512x8x64x64, .f32⟩
  | 93 => ⟨S512x8x64x16, .f32⟩
  | 94 => ⟨S512x64x8x16, .f32⟩
  | 95 => ⟨S512x64x128, .f32⟩
  | 96 => ⟨S512x64x128, .f32⟩
  | 97 => ⟨S512x64x128, .f32⟩
  | 98 => ⟨S1x128x128, .f32⟩
  | 99 => ⟨S128x128, .f32⟩
  | 100 => ⟨S1x128x128, .f32⟩
  | 101 => ⟨S128x128, .f32⟩
  | 102 => ⟨S1x128x128, .f32⟩
  | 103 => ⟨S128x128, .f32⟩
  | 104 => ⟨S1x128x128, .f32⟩
  | 105 => ⟨S128x128, .f32⟩
  | 106 => ⟨S2x256x64x128, .f32⟩
  | 107 => ⟨S_, .f32⟩
  | 108 => ⟨S2x256x128, .f32⟩
  | 109 => ⟨S_, .f32⟩
  | 110 => ⟨S2x256x128, .f32⟩
  | 111 => ⟨S2x256x128, .f32⟩
  | 112 => ⟨S2x256x64x128, .f32⟩
  | 113 => ⟨S_, .f32⟩
  | 114 => ⟨S2x256x128, .f32⟩
  | 115 => ⟨S_, .f32⟩
  | 116 => ⟨S2x256x128, .f32⟩
  | 117 => ⟨S2x256x128, .f32⟩
  | 118 => ⟨S2x256x128, .f32⟩
  | 119 => ⟨S2x256x8x16, .f32⟩
  | 120 => ⟨S2x8x256x16, .f32⟩
  | 121 => ⟨S2x256x128, .f32⟩
  | 122 => ⟨S2x256x8x16, .f32⟩
  | 123 => ⟨S2x8x256x16, .f32⟩
  | 124 => ⟨S2x256x128, .f32⟩
  | 125 => ⟨S2x256x8x16, .f32⟩
  | 126 => ⟨S2x8x256x16, .f32⟩
  | 127 => ⟨S2x8x256x256, .f32⟩
  | _ => ⟨S2x128x128x128, .f32⟩

abbrev hbmTy0_3 (i : Nat) : BufTy := match i % 128 with
  | 0 => ⟨S_, .f32⟩
  | 1 => ⟨S2x8x256x256, .f32⟩
  | 2 => ⟨S2x8x256x256, .f32⟩
  | 3 => ⟨S2x8x256x50, .f32⟩
  | 4 => ⟨S2x8x256x50, .i32⟩
  | 5 => ⟨S_, .f32⟩
  | 6 => ⟨S2x8x256, .f32⟩
  | 7 => ⟨S_, .f32⟩
  | 8 => ⟨S2x8x256, .f32⟩
  | 9 => ⟨S2x8x256, .f32⟩
  | 10 => ⟨S2x8x256x1, .f32⟩
  | 11 => ⟨S2x8x256x50, .f32⟩
  | 12 => ⟨S2x8x256x50, .f32⟩
  | 13 => ⟨S2x8x256x50, .f32⟩
  | 14 => ⟨S_, .f32⟩
  | 15 => ⟨S2x8x256, .f32⟩
  | 16 => ⟨S2x8x256x1, .f32⟩
  | 17 => ⟨S2x8x256x50, .f32⟩
  | 18 => ⟨S2x8x256x50, .f32⟩
  | 19 => ⟨S2x8x1x256x16, .f32⟩
  | 20 => ⟨S2x8x256x256x16, .f32⟩
  | 21 => ⟨S2x8x256x50x1, .i32⟩
  | 22 => ⟨S_, .i32⟩
  | 23 => ⟨S2x8x256x50x1, .i32⟩
  | 24 => ⟨S2x8x256x50x1, .i1⟩
  | 25 => ⟨S_, .i32⟩
  | 26 => ⟨S2x8x256x50x1, .i32⟩
  | 27 => ⟨S2x8x256x50x1, .i32⟩
  | 28 => ⟨S2x8x256x50x1, .i32⟩
  | 29 => ⟨S1, .i32⟩
  | 30 => ⟨S_, .i32⟩
  | 31 => ⟨S2x8x256x50x1, .i32⟩
  | 32 => ⟨S2x8x256x50x1, .i1⟩
  | 33 => ⟨S1x1x1x1x1, .i32⟩
  | 34 => ⟨S2x8x256x50x1, .i32⟩
  | 35 => ⟨S2x8x256x50x1, .i1⟩
  | 36 => ⟨S2x8x256x50x1, .i1⟩
  | 37 => ⟨S_, .i1⟩
  | 38 => ⟨S2x8x256x50, .i1⟩
  | 39 => ⟨S2x8x256x50x16, .f32⟩
  | 40 => ⟨S2x8x256x50x16, .i1⟩
  | 41 => ⟨S_, .f32⟩
  | 42 => ⟨S2x8x256x50x16, .f32⟩
  | 43 => ⟨S2x8x256x50x16, .f32⟩
  | 44 => ⟨S2x8x256x16, .f32⟩
  | 45 => ⟨S2x256x8x16, .f32⟩
  | 46 => ⟨S2x256x128, .f32⟩
  | 47 => ⟨S2x256x128, .f32⟩
  | 48 => ⟨S2x256x64x128, .f32⟩
  | 49 => ⟨S2x256x1x128, .f32⟩
  | 50 => ⟨S2x256x64x128, .f32⟩
  | 51 => ⟨S2x256x64x128, .f32⟩
  | 52 => ⟨S512x64x128, .f32⟩
  | 53 => ⟨S2x16x16x8x8x128, .f32⟩
  | 54 => ⟨S2x128x16x8x16x8, .f32⟩
  | 55 => ⟨S2x128x128x128, .f32⟩
  | 56 => ⟨S1x128x128, .f32⟩
  | 57 => ⟨S128x128, .f32⟩
  | 58 => ⟨S1x128x128, .f32⟩
  | 59 => ⟨S128x128, .f32⟩
  | 60 => ⟨S1x128x128, .f32⟩
  | 61 => ⟨S128x128, .f32⟩
  | 62 => ⟨S1x128x128, .f32⟩
  | 63 => ⟨S128x128, .f32⟩
  | 64 => ⟨S2x256x64x128, .f32⟩
  | 65 => ⟨S_, .f32⟩
  | 66 => ⟨S2x256x128, .f32⟩
  | 67 => ⟨S_, .f32⟩
  | 68 => ⟨S2x256x128, .f32⟩
  | 69 => ⟨S2x256x128, .f32⟩
  | 70 => ⟨S2x256x64x128, .f32⟩
  | 71 => ⟨S_, .f32⟩
  | 72 => ⟨S2x256x128, .f32⟩
  | 73 => ⟨S_, .f32⟩
  | 74 => ⟨S2x256x128, .f32⟩
  | 75 => ⟨S2x256x128, .f32⟩
  | 76 => ⟨S2x256x128, .f32⟩
  | 77 => ⟨S2x256x8x16, .f32⟩
  | 78 => ⟨S2x8x256x16, .f32⟩
  | 79 => ⟨S2x256x128, .f32⟩
  | 80 => ⟨S2x256x8x16, .f32⟩
  | 81 => ⟨S2x8x256x16, .f32⟩
  | 82 => ⟨S2x256x128, .f32⟩
  | 83 => ⟨S2x256x8x16, .f32⟩
  | 84 => ⟨S2x8x256x16, .f32⟩
  | 85 => ⟨S2x8x256x256, .f32⟩
  | 86 => ⟨S_, .f32⟩
  | 87 => ⟨S2x8x256x256, .f32⟩
  | 88 => ⟨S2x8x256x256, .f32⟩
  | 89 => ⟨S2x8x256x50, .f32⟩
  | 90 => ⟨S2x8x256x50, .i32⟩
  | 91 => ⟨S_, .f32⟩
  | 92 => ⟨S2x8x256, .f32⟩
  | 93 => ⟨S_, .f32⟩
  | 94 => ⟨S2x8x256, .f32⟩
  | 95 => ⟨S2x8x256, .f32⟩
  | 96 => ⟨S2x8x256x1, .f32⟩
  | 97 => ⟨S2x8x256x50, .f32⟩
  | 98 => ⟨S2x8x256x50, .f32⟩
  | 99 => ⟨S2x8x256x50, .f32⟩
  | 100 => ⟨S_, .f32⟩
  | 101 => ⟨S2x8x256, .f32⟩
  | 102 => ⟨S2x8x256x1, .f32⟩
  | 103 => ⟨S2x8x256x50, .f32⟩
  | 104 => ⟨S2x8x256x50, .f32⟩
  | 105 => ⟨S2x8x1x256x16, .f32⟩
  | 106 => ⟨S2x8x256x256x16, .f32⟩
  | 107 => ⟨S2x8x256x50x1, .i32⟩
  | 108 => ⟨S_, .i32⟩
  | 109 => ⟨S2x8x256x50x1, .i32⟩
  | 110 => ⟨S2x8x256x50x1, .i1⟩
  | 111 => ⟨S_, .i32⟩
  | 112 => ⟨S2x8x256x50x1, .i32⟩
  | 113 => ⟨S2x8x256x50x1, .i32⟩
  | 114 => ⟨S2x8x256x50x1, .i32⟩
  | 115 => ⟨S1, .i32⟩
  | 116 => ⟨S_, .i32⟩
  | 117 => ⟨S2x8x256x50x1, .i32⟩
  | 118 => ⟨S2x8x256x50x1, .i1⟩
  | 119 => ⟨S1x1x1x1x1, .i32⟩
  | 120 => ⟨S2x8x256x50x1, .i32⟩
  | 121 => ⟨S2x8x256x50x1, .i1⟩
  | 122 => ⟨S2x8x256x50x1, .i1⟩
  | 123 => ⟨S_, .i1⟩
  | 124 => ⟨S2x8x256x50, .i1⟩
  | 125 => ⟨S2x8x256x50x16, .f32⟩
  | 126 => ⟨S2x8x256x50x16, .i1⟩
  | 127 => ⟨S_, .f32⟩
  | _ => ⟨S2x128x128x128, .f32⟩

abbrev hbmTy0_4 (i : Nat) : BufTy := match i % 128 with
  | 0 => ⟨S2x8x256x50x16, .f32⟩
  | 1 => ⟨S2x8x256x50x16, .f32⟩
  | 2 => ⟨S2x8x256x16, .f32⟩
  | 3 => ⟨S2x256x8x16, .f32⟩
  | 4 => ⟨S2x256x128, .f32⟩
  | 5 => ⟨S2x256x128, .f32⟩
  | 6 => ⟨S2x256x64x128, .f32⟩
  | 7 => ⟨S2x256x1x128, .f32⟩
  | 8 => ⟨S2x256x64x128, .f32⟩
  | 9 => ⟨S2x256x64x128, .f32⟩
  | 10 => ⟨S512x64x128, .f32⟩
  | 11 => ⟨S2x16x16x8x8x128, .f32⟩
  | 12 => ⟨S2x128x16x8x16x8, .f32⟩
  | 13 => ⟨S2x128x128x128, .f32⟩
  | 14 => ⟨S2x128x16384, .f32⟩
  | 15 => ⟨S2x16384x128, .f32⟩
  | 16 => ⟨S2x128x16384, .f32⟩
  | 17 => ⟨S2x16384x128, .f32⟩
  | _ => ⟨S2x128x128x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S2x128x128x128, .f32⟩

abbrev bufTy : (tb : Table) → Fin (tcTables nBuf tb) → BufTy
  | .hbm, ⟨i, _⟩ => hbmTy i
  | _, _ => ⟨S2x128x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst : Ref sig .tc := ⟨.hbm, 34, rfl⟩
abbrev main_v24 : Ref sig .tc := ⟨.hbm, 35, rfl⟩
abbrev main_v25 : Ref sig .tc := ⟨.hbm, 36, rfl⟩
abbrev main_cst_0 : Ref sig .tc := ⟨.hbm, 37, rfl⟩
abbrev main_v26 : Ref sig .tc := ⟨.hbm, 38, rfl⟩
abbrev main_cst_1 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_2 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_cst_3 : Ref sig .tc := ⟨.hbm, 74, rfl⟩
abbrev main_v60 : Ref sig .tc := ⟨.hbm, 75, rfl⟩
abbrev main_v61 : Ref sig .tc := ⟨.hbm, 76, rfl⟩
abbrev main_cst_4 : Ref sig .tc := ⟨.hbm, 77, rfl⟩
abbrev main_v62 : Ref sig .tc := ⟨.hbm, 78, rfl⟩
abbrev main_cst_5 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_cst_6 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_cst_7 : Ref sig .tc := ⟨.hbm, 105, rfl⟩
abbrev main_v87 : Ref sig .tc := ⟨.hbm, 106, rfl⟩
abbrev main_cst_8 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_cst_9 : Ref sig .tc := ⟨.hbm, 111, rfl⟩
abbrev main_v91 : Ref sig .tc := ⟨.hbm, 112, rfl⟩
abbrev main_cst_10 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_cst_11 : Ref sig .tc := ⟨.hbm, 126, rfl⟩
abbrev main_v104 : Ref sig .tc := ⟨.hbm, 127, rfl⟩
abbrev main_v105 : Ref sig .tc := ⟨.hbm, 128, rfl⟩
abbrev main_values : Ref sig .tc := ⟨.hbm, 129, rfl⟩
abbrev main_indices : Ref sig .tc := ⟨.hbm, 130, rfl⟩
abbrev main_cst_12 : Ref sig .tc := ⟨.hbm, 131, rfl⟩
abbrev main_v106 : Ref sig .tc := ⟨.hbm, 132, rfl⟩
abbrev main_cst_13 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_cst_14 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_call0_c : Ref sig .tc := ⟨.hbm, 148, rfl⟩
abbrev main_call0_v0 : Ref sig .tc := ⟨.hbm, 149, rfl⟩
abbrev main_call0_v1 : Ref sig .tc := ⟨.hbm, 150, rfl⟩
abbrev main_call0_c_0 : Ref sig .tc := ⟨.hbm, 151, rfl⟩
abbrev main_call0_v2 : Ref sig .tc := ⟨.hbm, 152, rfl⟩
abbrev main_call0_v3 : Ref sig .tc := ⟨.hbm, 153, rfl⟩
abbrev main_call0_v4 : Ref sig .tc := ⟨.hbm, 154, rfl⟩
abbrev main_call0_c_1 : Ref sig .tc := ⟨.hbm, 155, rfl⟩
abbrev main_call0_c_2 : Ref sig .tc := ⟨.hbm, 156, rfl⟩
abbrev main_call0_v5 : Ref sig .tc := ⟨.hbm, 157, rfl⟩
abbrev main_call0_v6 : Ref sig .tc := ⟨.hbm, 158, rfl⟩
abbrev main_call0_v7 : Ref sig .tc := ⟨.hbm, 159, rfl⟩
abbrev main_call0_v8 : Ref sig .tc := ⟨.hbm, 160, rfl⟩
abbrev main_call0_v9 : Ref sig .tc := ⟨.hbm, 161, rfl⟩
abbrev main_call0_v10 : Ref sig .tc := ⟨.hbm, 162, rfl⟩
abbrev main_call0_c_3 : Ref sig .tc := ⟨.hbm, 163, rfl⟩
abbrev main_call0_v11 : Ref sig .tc := ⟨.hbm, 164, rfl⟩
abbrev main_call0_v12 : Ref sig .tc := ⟨.hbm, 165, rfl⟩
abbrev main_call0_v13 : Ref sig .tc := ⟨.hbm, 166, rfl⟩
abbrev main_call0_cst : Ref sig .tc := ⟨.hbm, 167, rfl⟩
abbrev main_call0_v14 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_cst_15 : Ref sig .tc := ⟨.hbm, 191, rfl⟩
abbrev main_v142 : Ref sig .tc := ⟨.hbm, 192, rfl⟩
abbrev main_cst_16 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_cst_17 : Ref sig .tc := ⟨.hbm, 197, rfl⟩
abbrev main_v146 : Ref sig .tc := ⟨.hbm, 198, rfl⟩
abbrev main_cst_18 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_cst_19 : Ref sig .tc := ⟨.hbm, 212, rfl⟩
abbrev main_v159 : Ref sig .tc := ⟨.hbm, 213, rfl⟩
abbrev main_v160 : Ref sig .tc := ⟨.hbm, 214, rfl⟩
abbrev main_values_20 : Ref sig .tc := ⟨.hbm, 215, rfl⟩
abbrev main_indices_21 : Ref sig .tc := ⟨.hbm, 216, rfl⟩
abbrev main_cst_22 : Ref sig .tc := ⟨.hbm, 217, rfl⟩
abbrev main_v161 : Ref sig .tc := ⟨.hbm, 218, rfl⟩
abbrev main_cst_23 : Ref sig .tc := ⟨.hbm, 219, rfl⟩
abbrev main_v162 : Ref sig .tc := ⟨.hbm, 220, rfl⟩
abbrev main_v163 : Ref sig .tc := ⟨.hbm, 221, rfl⟩
abbrev main_v164 : Ref sig .tc := ⟨.hbm, 222, rfl⟩
abbrev main_v165 : Ref sig .tc := ⟨.hbm, 223, rfl⟩
abbrev main_v166 : Ref sig .tc := ⟨.hbm, 224, rfl⟩
abbrev main_v167 : Ref sig .tc := ⟨.hbm, 225, rfl⟩
abbrev main_cst_24 : Ref sig .tc := ⟨.hbm, 226, rfl⟩
abbrev main_v168 : Ref sig .tc := ⟨.hbm, 227, rfl⟩
abbrev main_v169 : Ref sig .tc := ⟨.hbm, 228, rfl⟩
abbrev main_v170 : Ref sig .tc := ⟨.hbm, 229, rfl⟩
abbrev main_v171 : Ref sig .tc := ⟨.hbm, 230, rfl⟩
abbrev main_v172 : Ref sig .tc := ⟨.hbm, 231, rfl⟩
abbrev main_v173 : Ref sig .tc := ⟨.hbm, 232, rfl⟩
abbrev main_v174 : Ref sig .tc := ⟨.hbm, 233, rfl⟩
abbrev main_call1_c : Ref sig .tc := ⟨.hbm, 234, rfl⟩
abbrev main_call1_v0 : Ref sig .tc := ⟨.hbm, 235, rfl⟩
abbrev main_call1_v1 : Ref sig .tc := ⟨.hbm, 236, rfl⟩
abbrev main_call1_c_0 : Ref sig .tc := ⟨.hbm, 237, rfl⟩
abbrev main_call1_v2 : Ref sig .tc := ⟨.hbm, 238, rfl⟩
abbrev main_call1_v3 : Ref sig .tc := ⟨.hbm, 239, rfl⟩
abbrev main_call1_v4 : Ref sig .tc := ⟨.hbm, 240, rfl⟩
abbrev main_call1_c_1 : Ref sig .tc := ⟨.hbm, 241, rfl⟩
abbrev main_call1_c_2 : Ref sig .tc := ⟨.hbm, 242, rfl⟩
abbrev main_call1_v5 : Ref sig .tc := ⟨.hbm, 243, rfl⟩
abbrev main_call1_v6 : Ref sig .tc := ⟨.hbm, 244, rfl⟩
abbrev main_call1_v7 : Ref sig .tc := ⟨.hbm, 245, rfl⟩
abbrev main_call1_v8 : Ref sig .tc := ⟨.hbm, 246, rfl⟩
abbrev main_call1_v9 : Ref sig .tc := ⟨.hbm, 247, rfl⟩
abbrev main_call1_v10 : Ref sig .tc := ⟨.hbm, 248, rfl⟩
abbrev main_call1_c_3 : Ref sig .tc := ⟨.hbm, 249, rfl⟩
abbrev main_call1_v11 : Ref sig .tc := ⟨.hbm, 250, rfl⟩
abbrev main_call1_v12 : Ref sig .tc := ⟨.hbm, 251, rfl⟩
abbrev main_call1_v13 : Ref sig .tc := ⟨.hbm, 252, rfl⟩
abbrev main_call1_cst : Ref sig .tc := ⟨.hbm, 253, rfl⟩
abbrev main_call1_v14 : Ref sig .tc := ⟨.hbm, 254, rfl⟩
abbrev main_v175 : Ref sig .tc := ⟨.hbm, 255, rfl⟩
abbrev main_v176 : Ref sig .tc := ⟨.hbm, 256, rfl⟩
abbrev main_v177 : Ref sig .tc := ⟨.hbm, 257, rfl⟩
abbrev main_v178 : Ref sig .tc := ⟨.hbm, 258, rfl⟩
abbrev main_v179 : Ref sig .tc := ⟨.hbm, 259, rfl⟩
abbrev main_v180 : Ref sig .tc := ⟨.hbm, 260, rfl⟩
abbrev main_v181 : Ref sig .tc := ⟨.hbm, 261, rfl⟩
abbrev main_v182 : Ref sig .tc := ⟨.hbm, 262, rfl⟩
abbrev main_v183 : Ref sig .tc := ⟨.hbm, 263, rfl⟩
abbrev main_v184 : Ref sig .tc := ⟨.hbm, 264, rfl⟩
abbrev main_v185 : Ref sig .tc := ⟨.hbm, 265, rfl⟩
abbrev main_v186 : Ref sig .tc := ⟨.hbm, 266, rfl⟩
abbrev main_v187 : Ref sig .tc := ⟨.hbm, 267, rfl⟩
abbrev main_v188 : Ref sig .tc := ⟨.hbm, 268, rfl⟩
abbrev main_v189 : Ref sig .tc := ⟨.hbm, 269, rfl⟩
abbrev main_v190 : Ref sig .tc := ⟨.hbm, 270, rfl⟩
abbrev main_v191 : Ref sig .tc := ⟨.hbm, 271, rfl⟩
abbrev main_v192 : Ref sig .tc := ⟨.hbm, 272, rfl⟩
abbrev main_v193 : Ref sig .tc := ⟨.hbm, 273, rfl⟩
abbrev main_v194 : Ref sig .tc := ⟨.hbm, 274, rfl⟩
abbrev main_v195 : Ref sig .tc := ⟨.hbm, 275, rfl⟩
abbrev main_v196 : Ref sig .tc := ⟨.hbm, 276, rfl⟩
abbrev main_v197 : Ref sig .tc := ⟨.hbm, 277, rfl⟩
abbrev main_v198 : Ref sig .tc := ⟨.hbm, 278, rfl⟩
abbrev main_v199 : Ref sig .tc := ⟨.hbm, 279, rfl⟩
abbrev main_v200 : Ref sig .tc := ⟨.hbm, 280, rfl⟩
abbrev main_v201 : Ref sig .tc := ⟨.hbm, 281, rfl⟩
abbrev main_v202 : Ref sig .tc := ⟨.hbm, 282, rfl⟩
abbrev main_v203 : Ref sig .tc := ⟨.hbm, 283, rfl⟩
abbrev main_v204 : Ref sig .tc := ⟨.hbm, 284, rfl⟩
abbrev main_v205 : Ref sig .tc := ⟨.hbm, 285, rfl⟩
abbrev main_v206 : Ref sig .tc := ⟨.hbm, 286, rfl⟩
abbrev main_v207 : Ref sig .tc := ⟨.hbm, 287, rfl⟩
abbrev main_v208 : Ref sig .tc := ⟨.hbm, 288, rfl⟩
abbrev main_v209 : Ref sig .tc := ⟨.hbm, 289, rfl⟩
abbrev main_v210 : Ref sig .tc := ⟨.hbm, 290, rfl⟩
abbrev main_v211 : Ref sig .tc := ⟨.hbm, 291, rfl⟩
abbrev main_cst_25 : Ref sig .tc := ⟨.hbm, 292, rfl⟩
abbrev main_v212 : Ref sig .tc := ⟨.hbm, 293, rfl⟩
abbrev main_v213 : Ref sig .tc := ⟨.hbm, 294, rfl⟩
abbrev main_cst_26 : Ref sig .tc := ⟨.hbm, 295, rfl⟩
abbrev main_v214 : Ref sig .tc := ⟨.hbm, 296, rfl⟩
abbrev main_cst_27 : Ref sig .tc := ⟨.hbm, 297, rfl⟩
abbrev main_v215 : Ref sig .tc := ⟨.hbm, 298, rfl⟩
abbrev main_v216 : Ref sig .tc := ⟨.hbm, 299, rfl⟩
abbrev main_v217 : Ref sig .tc := ⟨.hbm, 300, rfl⟩
abbrev main_v218 : Ref sig .tc := ⟨.hbm, 301, rfl⟩
abbrev main_v219 : Ref sig .tc := ⟨.hbm, 302, rfl⟩
abbrev main_v220 : Ref sig .tc := ⟨.hbm, 303, rfl⟩
abbrev main_cst_28 : Ref sig .tc := ⟨.hbm, 304, rfl⟩
abbrev main_v221 : Ref sig .tc := ⟨.hbm, 305, rfl⟩
abbrev main_v222 : Ref sig .tc := ⟨.hbm, 306, rfl⟩
abbrev main_v223 : Ref sig .tc := ⟨.hbm, 307, rfl⟩
abbrev main_v224 : Ref sig .tc := ⟨.hbm, 308, rfl⟩
abbrev main_v225 : Ref sig .tc := ⟨.hbm, 309, rfl⟩
abbrev main_v226 : Ref sig .tc := ⟨.hbm, 310, rfl⟩
abbrev main_v227 : Ref sig .tc := ⟨.hbm, 311, rfl⟩
abbrev main_v228 : Ref sig .tc := ⟨.hbm, 312, rfl⟩
abbrev main_v229 : Ref sig .tc := ⟨.hbm, 313, rfl⟩
abbrev main_v230 : Ref sig .tc := ⟨.hbm, 314, rfl⟩
abbrev main_v231 : Ref sig .tc := ⟨.hbm, 315, rfl⟩
abbrev main_v232 : Ref sig .tc := ⟨.hbm, 316, rfl⟩
abbrev main_v233 : Ref sig .tc := ⟨.hbm, 317, rfl⟩
abbrev main_v234 : Ref sig .tc := ⟨.hbm, 318, rfl⟩
abbrev main_v235 : Ref sig .tc := ⟨.hbm, 319, rfl⟩
abbrev main_v236 : Ref sig .tc := ⟨.hbm, 320, rfl⟩
abbrev main_v237 : Ref sig .tc := ⟨.hbm, 321, rfl⟩
abbrev main_v238 : Ref sig .tc := ⟨.hbm, 322, rfl⟩
abbrev main_v239 : Ref sig .tc := ⟨.hbm, 323, rfl⟩
abbrev main_v240 : Ref sig .tc := ⟨.hbm, 324, rfl⟩
abbrev main_v241 : Ref sig .tc := ⟨.hbm, 325, rfl⟩
abbrev main_v242 : Ref sig .tc := ⟨.hbm, 326, rfl⟩
abbrev main_v243 : Ref sig .tc := ⟨.hbm, 327, rfl⟩
abbrev main_v244 : Ref sig .tc := ⟨.hbm, 328, rfl⟩
abbrev main_v245 : Ref sig .tc := ⟨.hbm, 329, rfl⟩
abbrev main_v246 : Ref sig .tc := ⟨.hbm, 330, rfl⟩
abbrev main_v247 : Ref sig .tc := ⟨.hbm, 331, rfl⟩
abbrev main_cst_29 : Ref sig .tc := ⟨.hbm, 332, rfl⟩
abbrev main_v248 : Ref sig .tc := ⟨.hbm, 333, rfl⟩
abbrev main_v249 : Ref sig .tc := ⟨.hbm, 334, rfl⟩
abbrev main_cst_30 : Ref sig .tc := ⟨.hbm, 335, rfl⟩
abbrev main_v250 : Ref sig .tc := ⟨.hbm, 336, rfl⟩
abbrev main_cst_31 : Ref sig .tc := ⟨.hbm, 337, rfl⟩
abbrev main_v251 : Ref sig .tc := ⟨.hbm, 338, rfl⟩
abbrev main_v252 : Ref sig .tc := ⟨.hbm, 339, rfl⟩
abbrev main_v253 : Ref sig .tc := ⟨.hbm, 340, rfl⟩
abbrev main_v254 : Ref sig .tc := ⟨.hbm, 341, rfl⟩
abbrev main_v255 : Ref sig .tc := ⟨.hbm, 342, rfl⟩
abbrev main_v256 : Ref sig .tc := ⟨.hbm, 343, rfl⟩
abbrev main_cst_32 : Ref sig .tc := ⟨.hbm, 344, rfl⟩
abbrev main_v257 : Ref sig .tc := ⟨.hbm, 345, rfl⟩
abbrev main_v258 : Ref sig .tc := ⟨.hbm, 346, rfl⟩
abbrev main_v259 : Ref sig .tc := ⟨.hbm, 347, rfl⟩
abbrev main_v260 : Ref sig .tc := ⟨.hbm, 348, rfl⟩
abbrev main_v261 : Ref sig .tc := ⟨.hbm, 349, rfl⟩
abbrev main_v262 : Ref sig .tc := ⟨.hbm, 350, rfl⟩
abbrev main_v263 : Ref sig .tc := ⟨.hbm, 351, rfl⟩
abbrev main_v264 : Ref sig .tc := ⟨.hbm, 352, rfl⟩
abbrev main_v265 : Ref sig .tc := ⟨.hbm, 353, rfl⟩
abbrev main_v266 : Ref sig .tc := ⟨.hbm, 354, rfl⟩
abbrev main_v267 : Ref sig .tc := ⟨.hbm, 355, rfl⟩
abbrev main_v268 : Ref sig .tc := ⟨.hbm, 356, rfl⟩
abbrev main_v269 : Ref sig .tc := ⟨.hbm, 357, rfl⟩
abbrev main_v270 : Ref sig .tc := ⟨.hbm, 358, rfl⟩
abbrev main_v271 : Ref sig .tc := ⟨.hbm, 359, rfl⟩
abbrev main_v272 : Ref sig .tc := ⟨.hbm, 360, rfl⟩
abbrev main_v273 : Ref sig .tc := ⟨.hbm, 361, rfl⟩
abbrev main_v274 : Ref sig .tc := ⟨.hbm, 362, rfl⟩
abbrev main_cst_33 : Ref sig .tc := ⟨.hbm, 363, rfl⟩
abbrev main_v275 : Ref sig .tc := ⟨.hbm, 364, rfl⟩
abbrev main_cst_34 : Ref sig .tc := ⟨.hbm, 365, rfl⟩
abbrev main_v276 : Ref sig .tc := ⟨.hbm, 366, rfl⟩
abbrev main_v277 : Ref sig .tc := ⟨.hbm, 367, rfl⟩
abbrev main_v278 : Ref sig .tc := ⟨.hbm, 368, rfl⟩
abbrev main_cst_35 : Ref sig .tc := ⟨.hbm, 369, rfl⟩
abbrev main_v279 : Ref sig .tc := ⟨.hbm, 370, rfl⟩
abbrev main_cst_36 : Ref sig .tc := ⟨.hbm, 371, rfl⟩
abbrev main_v280 : Ref sig .tc := ⟨.hbm, 372, rfl⟩
abbrev main_v281 : Ref sig .tc := ⟨.hbm, 373, rfl⟩
abbrev main_v282 : Ref sig .tc := ⟨.hbm, 374, rfl⟩
abbrev main_v283 : Ref sig .tc := ⟨.hbm, 375, rfl⟩
abbrev main_v284 : Ref sig .tc := ⟨.hbm, 376, rfl⟩
abbrev main_v285 : Ref sig .tc := ⟨.hbm, 377, rfl⟩
abbrev main_v286 : Ref sig .tc := ⟨.hbm, 378, rfl⟩
abbrev main_v287 : Ref sig .tc := ⟨.hbm, 379, rfl⟩
abbrev main_v288 : Ref sig .tc := ⟨.hbm, 380, rfl⟩
abbrev main_v289 : Ref sig .tc := ⟨.hbm, 381, rfl⟩
abbrev main_v290 : Ref sig .tc := ⟨.hbm, 382, rfl⟩
abbrev main_v291 : Ref sig .tc := ⟨.hbm, 383, rfl⟩
abbrev main_cst_37 : Ref sig .tc := ⟨.hbm, 384, rfl⟩
abbrev main_v292 : Ref sig .tc := ⟨.hbm, 385, rfl⟩
abbrev main_v293 : Ref sig .tc := ⟨.hbm, 386, rfl⟩
abbrev main_values_38 : Ref sig .tc := ⟨.hbm, 387, rfl⟩
abbrev main_indices_39 : Ref sig .tc := ⟨.hbm, 388, rfl⟩
abbrev main_cst_40 : Ref sig .tc := ⟨.hbm, 389, rfl⟩
abbrev main_v294 : Ref sig .tc := ⟨.hbm, 390, rfl⟩
abbrev main_cst_41 : Ref sig .tc := ⟨.hbm, 391, rfl⟩
abbrev main_v295 : Ref sig .tc := ⟨.hbm, 392, rfl⟩
abbrev main_v296 : Ref sig .tc := ⟨.hbm, 393, rfl⟩
abbrev main_v297 : Ref sig .tc := ⟨.hbm, 394, rfl⟩
abbrev main_v298 : Ref sig .tc := ⟨.hbm, 395, rfl⟩
abbrev main_v299 : Ref sig .tc := ⟨.hbm, 396, rfl⟩
abbrev main_v300 : Ref sig .tc := ⟨.hbm, 397, rfl⟩
abbrev main_cst_42 : Ref sig .tc := ⟨.hbm, 398, rfl⟩
abbrev main_v301 : Ref sig .tc := ⟨.hbm, 399, rfl⟩
abbrev main_v302 : Ref sig .tc := ⟨.hbm, 400, rfl⟩
abbrev main_v303 : Ref sig .tc := ⟨.hbm, 401, rfl⟩
abbrev main_v304 : Ref sig .tc := ⟨.hbm, 402, rfl⟩
abbrev main_v305 : Ref sig .tc := ⟨.hbm, 403, rfl⟩
abbrev main_v306 : Ref sig .tc := ⟨.hbm, 404, rfl⟩
abbrev main_v307 : Ref sig .tc := ⟨.hbm, 405, rfl⟩
abbrev main_call2_c : Ref sig .tc := ⟨.hbm, 406, rfl⟩
abbrev main_call2_v0 : Ref sig .tc := ⟨.hbm, 407, rfl⟩
abbrev main_call2_v1 : Ref sig .tc := ⟨.hbm, 408, rfl⟩
abbrev main_call2_c_0 : Ref sig .tc := ⟨.hbm, 409, rfl⟩
abbrev main_call2_v2 : Ref sig .tc := ⟨.hbm, 410, rfl⟩
abbrev main_call2_v3 : Ref sig .tc := ⟨.hbm, 411, rfl⟩
abbrev main_call2_v4 : Ref sig .tc := ⟨.hbm, 412, rfl⟩
abbrev main_call2_c_1 : Ref sig .tc := ⟨.hbm, 413, rfl⟩
abbrev main_call2_c_2 : Ref sig .tc := ⟨.hbm, 414, rfl⟩
abbrev main_call2_v5 : Ref sig .tc := ⟨.hbm, 415, rfl⟩
abbrev main_call2_v6 : Ref sig .tc := ⟨.hbm, 416, rfl⟩
abbrev main_call2_v7 : Ref sig .tc := ⟨.hbm, 417, rfl⟩
abbrev main_call2_v8 : Ref sig .tc := ⟨.hbm, 418, rfl⟩
abbrev main_call2_v9 : Ref sig .tc := ⟨.hbm, 419, rfl⟩
abbrev main_call2_v10 : Ref sig .tc := ⟨.hbm, 420, rfl⟩
abbrev main_call2_c_3 : Ref sig .tc := ⟨.hbm, 421, rfl⟩
abbrev main_call2_v11 : Ref sig .tc := ⟨.hbm, 422, rfl⟩
abbrev main_call2_v12 : Ref sig .tc := ⟨.hbm, 423, rfl⟩
abbrev main_call2_v13 : Ref sig .tc := ⟨.hbm, 424, rfl⟩
abbrev main_call2_cst : Ref sig .tc := ⟨.hbm, 425, rfl⟩
abbrev main_call2_v14 : Ref sig .tc := ⟨.hbm, 426, rfl⟩
abbrev main_v308 : Ref sig .tc := ⟨.hbm, 427, rfl⟩
abbrev main_v309 : Ref sig .tc := ⟨.hbm, 428, rfl⟩
abbrev main_v310 : Ref sig .tc := ⟨.hbm, 429, rfl⟩
abbrev main_v311 : Ref sig .tc := ⟨.hbm, 430, rfl⟩
abbrev main_v312 : Ref sig .tc := ⟨.hbm, 431, rfl⟩
abbrev main_v313 : Ref sig .tc := ⟨.hbm, 432, rfl⟩
abbrev main_v314 : Ref sig .tc := ⟨.hbm, 433, rfl⟩
abbrev main_v315 : Ref sig .tc := ⟨.hbm, 434, rfl⟩
abbrev main_v316 : Ref sig .tc := ⟨.hbm, 435, rfl⟩
abbrev main_v317 : Ref sig .tc := ⟨.hbm, 436, rfl⟩
abbrev main_v318 : Ref sig .tc := ⟨.hbm, 437, rfl⟩
abbrev main_v319 : Ref sig .tc := ⟨.hbm, 438, rfl⟩
abbrev main_v320 : Ref sig .tc := ⟨.hbm, 439, rfl⟩
abbrev main_v321 : Ref sig .tc := ⟨.hbm, 440, rfl⟩
abbrev main_v322 : Ref sig .tc := ⟨.hbm, 441, rfl⟩
abbrev main_v323 : Ref sig .tc := ⟨.hbm, 442, rfl⟩
abbrev main_v324 : Ref sig .tc := ⟨.hbm, 443, rfl⟩
abbrev main_v325 : Ref sig .tc := ⟨.hbm, 444, rfl⟩
abbrev main_v326 : Ref sig .tc := ⟨.hbm, 445, rfl⟩
abbrev main_v327 : Ref sig .tc := ⟨.hbm, 446, rfl⟩
abbrev main_v328 : Ref sig .tc := ⟨.hbm, 447, rfl⟩
abbrev main_v329 : Ref sig .tc := ⟨.hbm, 448, rfl⟩
abbrev main_cst_43 : Ref sig .tc := ⟨.hbm, 449, rfl⟩
abbrev main_v330 : Ref sig .tc := ⟨.hbm, 450, rfl⟩
abbrev main_cst_44 : Ref sig .tc := ⟨.hbm, 451, rfl⟩
abbrev main_v331 : Ref sig .tc := ⟨.hbm, 452, rfl⟩
abbrev main_v332 : Ref sig .tc := ⟨.hbm, 453, rfl⟩
abbrev main_v333 : Ref sig .tc := ⟨.hbm, 454, rfl⟩
abbrev main_cst_45 : Ref sig .tc := ⟨.hbm, 455, rfl⟩
abbrev main_v334 : Ref sig .tc := ⟨.hbm, 456, rfl⟩
abbrev main_cst_46 : Ref sig .tc := ⟨.hbm, 457, rfl⟩
abbrev main_v335 : Ref sig .tc := ⟨.hbm, 458, rfl⟩
abbrev main_v336 : Ref sig .tc := ⟨.hbm, 459, rfl⟩
abbrev main_v337 : Ref sig .tc := ⟨.hbm, 460, rfl⟩
abbrev main_v338 : Ref sig .tc := ⟨.hbm, 461, rfl⟩
abbrev main_v339 : Ref sig .tc := ⟨.hbm, 462, rfl⟩
abbrev main_v340 : Ref sig .tc := ⟨.hbm, 463, rfl⟩
abbrev main_v341 : Ref sig .tc := ⟨.hbm, 464, rfl⟩
abbrev main_v342 : Ref sig .tc := ⟨.hbm, 465, rfl⟩
abbrev main_v343 : Ref sig .tc := ⟨.hbm, 466, rfl⟩
abbrev main_v344 : Ref sig .tc := ⟨.hbm, 467, rfl⟩
abbrev main_v345 : Ref sig .tc := ⟨.hbm, 468, rfl⟩
abbrev main_v346 : Ref sig .tc := ⟨.hbm, 469, rfl⟩
abbrev main_cst_47 : Ref sig .tc := ⟨.hbm, 470, rfl⟩
abbrev main_v347 : Ref sig .tc := ⟨.hbm, 471, rfl⟩
abbrev main_v348 : Ref sig .tc := ⟨.hbm, 472, rfl⟩
abbrev main_values_48 : Ref sig .tc := ⟨.hbm, 473, rfl⟩
abbrev main_indices_49 : Ref sig .tc := ⟨.hbm, 474, rfl⟩
abbrev main_cst_50 : Ref sig .tc := ⟨.hbm, 475, rfl⟩
abbrev main_v349 : Ref sig .tc := ⟨.hbm, 476, rfl⟩
abbrev main_cst_51 : Ref sig .tc := ⟨.hbm, 477, rfl⟩
abbrev main_v350 : Ref sig .tc := ⟨.hbm, 478, rfl⟩
abbrev main_v351 : Ref sig .tc := ⟨.hbm, 479, rfl⟩
abbrev main_v352 : Ref sig .tc := ⟨.hbm, 480, rfl⟩
abbrev main_v353 : Ref sig .tc := ⟨.hbm, 481, rfl⟩
abbrev main_v354 : Ref sig .tc := ⟨.hbm, 482, rfl⟩
abbrev main_v355 : Ref sig .tc := ⟨.hbm, 483, rfl⟩
abbrev main_cst_52 : Ref sig .tc := ⟨.hbm, 484, rfl⟩
abbrev main_v356 : Ref sig .tc := ⟨.hbm, 485, rfl⟩
abbrev main_v357 : Ref sig .tc := ⟨.hbm, 486, rfl⟩
abbrev main_v358 : Ref sig .tc := ⟨.hbm, 487, rfl⟩
abbrev main_v359 : Ref sig .tc := ⟨.hbm, 488, rfl⟩
abbrev main_v360 : Ref sig .tc := ⟨.hbm, 489, rfl⟩
abbrev main_v361 : Ref sig .tc := ⟨.hbm, 490, rfl⟩
abbrev main_v362 : Ref sig .tc := ⟨.hbm, 491, rfl⟩
abbrev main_call3_c : Ref sig .tc := ⟨.hbm, 492, rfl⟩
abbrev main_call3_v0 : Ref sig .tc := ⟨.hbm, 493, rfl⟩
abbrev main_call3_v1 : Ref sig .tc := ⟨.hbm, 494, rfl⟩
abbrev main_call3_c_0 : Ref sig .tc := ⟨.hbm, 495, rfl⟩
abbrev main_call3_v2 : Ref sig .tc := ⟨.hbm, 496, rfl⟩
abbrev main_call3_v3 : Ref sig .tc := ⟨.hbm, 497, rfl⟩
abbrev main_call3_v4 : Ref sig .tc := ⟨.hbm, 498, rfl⟩
abbrev main_call3_c_1 : Ref sig .tc := ⟨.hbm, 499, rfl⟩
abbrev main_call3_c_2 : Ref sig .tc := ⟨.hbm, 500, rfl⟩
abbrev main_call3_v5 : Ref sig .tc := ⟨.hbm, 501, rfl⟩
abbrev main_call3_v6 : Ref sig .tc := ⟨.hbm, 502, rfl⟩
abbrev main_call3_v7 : Ref sig .tc := ⟨.hbm, 503, rfl⟩
abbrev main_call3_v8 : Ref sig .tc := ⟨.hbm, 504, rfl⟩
abbrev main_call3_v9 : Ref sig .tc := ⟨.hbm, 505, rfl⟩
abbrev main_call3_v10 : Ref sig .tc := ⟨.hbm, 506, rfl⟩
abbrev main_call3_c_3 : Ref sig .tc := ⟨.hbm, 507, rfl⟩
abbrev main_call3_v11 : Ref sig .tc := ⟨.hbm, 508, rfl⟩
abbrev main_call3_v12 : Ref sig .tc := ⟨.hbm, 509, rfl⟩
abbrev main_call3_v13 : Ref sig .tc := ⟨.hbm, 510, rfl⟩
abbrev main_call3_cst : Ref sig .tc := ⟨.hbm, 511, rfl⟩
abbrev main_call3_v14 : Ref sig .tc := ⟨.hbm, 512, rfl⟩
abbrev main_v363 : Ref sig .tc := ⟨.hbm, 513, rfl⟩
abbrev main_v364 : Ref sig .tc := ⟨.hbm, 514, rfl⟩
abbrev main_v365 : Ref sig .tc := ⟨.hbm, 515, rfl⟩
abbrev main_v366 : Ref sig .tc := ⟨.hbm, 516, rfl⟩
abbrev main_v367 : Ref sig .tc := ⟨.hbm, 517, rfl⟩
abbrev main_v368 : Ref sig .tc := ⟨.hbm, 518, rfl⟩
abbrev main_v369 : Ref sig .tc := ⟨.hbm, 519, rfl⟩
abbrev main_v370 : Ref sig .tc := ⟨.hbm, 520, rfl⟩
abbrev main_v371 : Ref sig .tc := ⟨.hbm, 521, rfl⟩
abbrev main_v372 : Ref sig .tc := ⟨.hbm, 522, rfl⟩
abbrev main_v373 : Ref sig .tc := ⟨.hbm, 523, rfl⟩
abbrev main_v374 : Ref sig .tc := ⟨.hbm, 524, rfl⟩
abbrev main_v375 : Ref sig .tc := ⟨.hbm, 525, rfl⟩
abbrev main_v376 : Ref sig .tc := ⟨.hbm, 526, rfl⟩
abbrev main_v377 : Ref sig .tc := ⟨.hbm, 527, rfl⟩
abbrev main_v378 : Ref sig .tc := ⟨.hbm, 528, rfl⟩
abbrev main_v379 : Ref sig .tc := ⟨.hbm, 529, rfl⟩

abbrev nD : Nat := 1
abbrev τ : Topo := Topo.v7x

variable {F : FTy → Type} [FloatOps F]
-- ==== Proof.Spec.lean ====
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.VecWindow
public import Idealize.ShloMosaic.Lib.ValueIdxCore
public import Idealize.ShloMosaic.Lib.Pipeline.TableIdle

@[expose] public section

set_option maxRecDepth 16384

noncomputable section

namespace Cert.KernelIdeal

open Cert.KernelIdeal.Gen
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Memref `M` on core `c` held at the values `X`. -/
abbrev hv (c : Dev nD) {sp : Space} {S : Shape} {e : EltTy} (M : Memref sig .tc sp S e) (X : S.Idx → Elt F e) : sProp 𝕄 :=
  M.view.loc (c : Thread nD τ) ↦[M.view.set]{fullShare} M.view.rep X

/-- Memref `M` on core `c` held at the values `X` with `w` stored over the rectangle of size `sz` at `off`. -/
abbrev hw (c : Dev nD) {sp : Space} {S : Shape} {e : EltTy} (M : Memref sig .tc sp S e) (X : S.Idx → Elt F e) (off sz : Fin S.rank → Nat)
    (inb : ∀ a, off a + sz a ≤ S.size a) (w : (Rect.unit off sz inb).shape.Idx → Elt F e) : sProp 𝕄 :=
  M.view.loc (c : Thread nD τ) ↦[M.view.set]{fullShare} M.view.writes (Elt F) (M.view.rep X) [⟨Rect.unit off sz inb, w⟩]

/-- The two stores of a pooled layer: the first batch's rows `a`, then the second batch's rows `b`. -/
abbrev halves (a b : FVec F S256x128 .f32) : List (View.Piece (Elt F) S512x128 .f32) :=
  [⟨Rect.unit (s := S512x128) ![256, 0] S256x128.size inb_S512x128_S256x128_256_0, b⟩,
   ⟨Rect.unit (s := S512x128) ![0, 0] S256x128.size inb_S512x128_S256x128_0_0, a⟩]

/-- The head mask of a window's 8 × 64 packed query rows: one where the row's head is the column's head. -/
def hmask : FVec F S512x128 .f32 := k0_pay12 (iota .tc S512x128 32 [1] iota_S512x128_d1_w32) k0_pay10 k0_pay11

/-- One window's packed attention before the heads are summed: the 64 query rows repeated for the eight heads under the
    mask, their scaled scores against the window's keys, the exponentials over their sum, times the values, under the mask. -/
def winPack (hm : FVec F S512x128 .f32) (q k v : FVec F S2048x128 .f32) (o : Fin 2 → Nat) (h : S2048x128.Slices o S64x128) : FVec F S512x128 .f32 :=
  have qw : FVec F S64x128 .f32 := extractStridedSlice S64x128 o q h
  have kw : FVec F S64x128 .f32 := extractStridedSlice S64x128 o k h
  have qp : FVec F S512x128 .f32 := concatenate S512x128 0 [⟨S64x128, qw⟩, ⟨S64x128, qw⟩, ⟨S64x128, qw⟩, ⟨S64x128, qw⟩, ⟨S64x128, qw⟩, ⟨S64x128, qw⟩, ⟨S64x128, qw⟩, ⟨S64x128, qw⟩] concatenates_S64x128_S64x128_S64x128_S64x128_S64x128_S64x128_S64x128_S64x128_S512x128_d0
  have s : FVec F S512x64 .f32 := matmul dot_S512x128_S64x128_S512x64_1_1_0_0_n_n none (mulf qp hm) kw (constant S512x64 .f32 0x00000000#32)
  have e : FVec F S512x64 .f32 := exp (mulf s (broadcast S512x64 (Scalar.ofBits .f32 0x3E800000#32)))
  have z : FVec F S512 .f32 := multiReduction .add [1] S512 e 0x00000000#32 reduces_S512x64_S512 (.inl rfl) rfl
  have a : FVec F S512x64 .f32 := divf e (broadcastTo S512x64 (shapeCast S512x1 z shapeCasts_S512_S512x1) broadcasts_S512x1_S512x64)
  have vw : FVec F S64x128 .f32 := extractStridedSlice S64x128 o v h
  matmul dot_S512x64_S64x128_S512x128_1_0_0_1_n_n none a vw (constant S512x128 .f32 0x00000000#32)

/-- The eight heads' blocks of packed rows, each under the mask, summed. -/
def headSum (hm : FVec F S512x128 .f32) (o2 : FVec F S512x128 .f32) : FVec F S64x128 .f32 :=
  have p : FVec F S512x128 .f32 := mulf o2 hm
  addf (addf (addf (addf (addf (addf (addf (extractStridedSlice S64x128 ![0, 0] p slices_S512x128_o0_0_S64x128)
    (extractStridedSlice S64x128 ![64, 0] p slices_S512x128_o64_0_S64x128))
    (extractStridedSlice S64x128 ![128, 0] p slices_S512x128_o128_0_S64x128))
    (extractStridedSlice S64x128 ![192, 0] p slices_S512x128_o192_0_S64x128))
    (extractStridedSlice S64x128 ![256, 0] p slices_S512x128_o256_0_S64x128))
    (extractStridedSlice S64x128 ![320, 0] p slices_S512x128_o320_0_S64x128))
    (extractStridedSlice S64x128 ![384, 0] p slices_S512x128_o384_0_S64x128))
    (extractStridedSlice S64x128 ![448, 0] p slices_S512x128_o448_0_S64x128)

/-- The 32 windows' attentions, one under another. -/
def winAll (hm : FVec F S512x128 .f32) (q k v : FVec F S2048x128 .f32) : FVec F S2048x128 .f32 :=
  let W (o : Fin 2 → Nat) (h : S2048x128.Slices o S64x128) : FVec F S512x128 .f32 := winPack hm q k v o h
  concatenate S2048x128 0 [⟨S64x128, headSum hm (W ![0, 0] slices_S2048x128_o0_0_S64x128)⟩, ⟨S64x128, headSum hm (W ![64, 0] slices_S2048x128_o64_0_S64x128)⟩,
      ⟨S64x128, headSum hm (W ![128, 0] slices_S2048x128_o128_0_S64x128)⟩, ⟨S64x128, headSum hm (W ![192, 0] slices_S2048x128_o192_0_S64x128)⟩,
      ⟨S64x128, headSum hm (W ![256, 0] slices_S2048x128_o256_0_S64x128)⟩, ⟨S64x128, headSum hm (W ![320, 0] slices_S2048x128_o320_0_S64x128)⟩,
      ⟨S64x128, headSum hm (W ![384, 0] slices_S2048x128_o384_0_S64x128)⟩, ⟨S64x128, headSum hm (W ![448, 0] slices_S2048x128_o448_0_S64x128)⟩,
      ⟨S64x128, headSum hm (W ![512, 0] slices_S2048x128_o512_0_S64x128)⟩, ⟨S64x128, headSum hm (W ![576, 0] slices_S2048x128_o576_0_S64x128)⟩,
      ⟨S64x128, headSum hm (W ![640, 0] slices_S2048x128_o640_0_S64x128)⟩, ⟨S64x128, headSum hm (W ![704, 0] slices_S2048x128_o704_0_S64x128)⟩,
      ⟨S64x128, headSum hm (W ![768, 0] slices_S2048x128_o768_0_S64x128)⟩, ⟨S64x128, headSum hm (W ![832, 0] slices_S2048x128_o832_0_S64x128)⟩,
      ⟨S64x128, headSum hm (W ![896, 0] slices_S2048x128_o896_0_S64x128)⟩, ⟨S64x128, headSum hm (W ![960, 0] slices_S2048x128_o960_0_S64x128)⟩,
      ⟨S64x128, headSum hm (W ![1024, 0] slices_S2048x128_o1024_0_S64x128)⟩, ⟨S64x128, headSum hm (W ![1088, 0] slices_S2048x128_o1088_0_S64x128)⟩,
      ⟨S64x128, headSum hm (W ![1152, 0] slices_S2048x128_o1152_0_S64x128)⟩, ⟨S64x128, headSum hm (W ![1216, 0] slices_S2048x128_o1216_0_S64x128)⟩,
      ⟨S64x128, headSum hm (W ![1280, 0] slices_S2048x128_o1280_0_S64x128)⟩, ⟨S64x128, headSum hm (W ![1344, 0] slices_S2048x128_o1344_0_S64x128)⟩,
      ⟨S64x128, headSum hm (W ![1408, 0] slices_S2048x128_o1408_0_S64x128)⟩, ⟨S64x128, headSum hm (W ![1472, 0] slices_S2048x128_o1472_0_S64x128)⟩,
      ⟨S64x128, headSum hm (W ![1536, 0] slices_S2048x128_o1536_0_S64x128)⟩, ⟨S64x128, headSum hm (W ![1600, 0] slices_S2048x128_o1600_0_S64x128)⟩,
      ⟨S64x128, headSum hm (W ![1664, 0] slices_S2048x128_o1664_0_S64x128)⟩, ⟨S64x128, headSum hm (W ![1728, 0] slices_S2048x128_o1728_0_S64x128)⟩,
      ⟨S64x128, headSum hm (W ![1792, 0] slices_S2048x128_o1792_0_S64x128)⟩, ⟨S64x128, headSum hm (W ![1856, 0] slices_S2048x128_o1856_0_S64x128)⟩,
      ⟨S64x128, headSum hm (W ![1920, 0] slices_S2048x128_o1920_0_S64x128)⟩, ⟨S64x128, headSum hm (W ![1984, 0] slices_S2048x128_o1984_0_S64x128)⟩]
    concatenates_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S2048x128_d0

/-- A product of a group's 2048 rows with a weight matrix. -/
def proj (x : FVec F S2048x128 .f32) (w : FVec F S128x128 .f32) : FVec F S2048x128 .f32 :=
  matmul dot_S2048x128_S128x128_S2048x128_1_0_0_1_n_n none x (shapeCast S128x128 w shapeCasts_S128x128_S128x128) (constant S2048x128 .f32 0x00000000#32)

/-- The window layer on a group of 32 windows' rows: the rows plus the output projection of the windows' attentions. -/
def wg (x : FVec F S2048x128 .f32) (wq wk wv wo : FVec F S128x128 .f32) : FVec F S2048x128 .f32 :=
  addf x (proj (winAll hmask (proj x wq) (proj x wk) (proj x wv)) wo)

/-- A group's rows as windows of 64 rows. -/
def asWin (y : FVec F S2048x128 .f32) : FVec F S32x64x128 .f32 :=
  shapeCast S32x64x128 (shapeCast S32x64x128 y shapeCasts_S2048x128_S32x64x128) shapeCasts_S32x64x128_S32x64x128

/-- A group's pooled rows: each window's mean, as a product with the pooling matrix. -/
def pooled (y : FVec F S2048x128 .f32) : FVec F S32x128 .f32 := k0_pay1 y k0_pay76 (constant S32x128 .f32 0x00000000#32)

/-- The head mask of a batch's 8 × 256 packed pooled rows. -/
def tmask : FVec F S2048x128 .f32 := k0_pay83 (iota .tc S2048x128 32 [1] iota_S2048x128_d1_w32) k0_pay81 16#32 k0_pay82

/-- One bisection step of the pooled layer's selection: a row's bounds halved towards the fiftieth smallest gap. -/
def bisStep (q k : FVec F S256x128 .f32) (p : FVec F S2048x1 .f32 × FVec F S2048x1 .f32) : FVec F S2048x1 .f32 × FVec F S2048x1 .f32 :=
  (k0_pay91 q k (iota .tc S2048x128 32 [1] iota_S2048x128_d1_w32) k0_pay81 16#32 k0_pay82 p.1 p.2,
   k0_pay92 q k (iota .tc S2048x128 32 [1] iota_S2048x128_d1_w32) k0_pay81 16#32 k0_pay82 p.1 p.2)

/-- The bounds after all steps. -/
def bis (q k : FVec F S256x128 .f32) : FVec F S2048x1 .f32 × FVec F S2048x1 .f32 :=
  Scf.fold (n := k0_t1_loop.trips) (fun _ p => bisStep q k p) (k0_pay87, k0_pay88)

/-- The pooled layer's attention on one batch's 256 rows, before it is added back. -/
def topAttn (x : FVec F S256x128 .f32) (wq wk wv wo : FVec F S128x128 .f32) : FVec F S256x128 .f32 :=
  k0_pay95 (k0_pay77 wo) (k0_pay80 x wv) tmask
    (k0_pay93 (k0_pay78 x wq) (k0_pay79 x wk) (iota .tc S2048x128 32 [1] iota_S2048x128_d1_w32) k0_pay81 16#32 k0_pay82
      (bis (k0_pay78 x wq) (k0_pay79 x wk)).2)
    (k0_pay94 (k0_pay78 x wq) (k0_pay79 x wk) (iota .tc S2048x128 32 [1] iota_S2048x128_d1_w32) k0_pay81 16#32 k0_pay82)
    (Scalar.ofBits .f32 0x00000000#32)

/-- The rows 0–255 of a pooled array. -/
def lowRows (X : FVec F S512x128 .f32) : FVec F S256x128 .f32 := VecWindow.window X ![0, 0] S256x128.size inb_S512x128_S256x128_0_0
/-- The rows 256–511 of a pooled array. -/
def highRows (X : FVec F S512x128 .f32) : FVec F S256x128 .f32 := VecWindow.window X ![256, 0] S256x128.size inb_S512x128_S256x128_256_0

end Cert.KernelIdeal
-- ==== Proof.Body.lean ====
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.Spec
public import Idealize.ShloMosaic.Lib.VecWindow
public import Idealize.ShloMosaic.Lib.ValueIdxCore
public import Idealize.ShloMosaic.Lib.Pipeline.TableIdle

@[expose] public section

set_option maxRecDepth 16384

noncomputable section

namespace Cert.KernelIdeal

open Cert.KernelIdeal.Gen
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords)
  (M1 : Memref sig .tc .vmem S1x16x128x128 .f32) (h1 : M1.IsWhole)
  (M2 : Memref sig .tc .vmem S128x128 .f32) (h2 : M2.IsWhole)
  (M3 : Memref sig .tc .vmem S128x128 .f32) (h3 : M3.IsWhole)
  (M4 : Memref sig .tc .vmem S128x128 .f32) (h4 : M4.IsWhole)
  (M5 : Memref sig .tc .vmem S128x128 .f32) (h5 : M5.IsWhole)
  (M6 : Memref sig .tc .vmem S128x128 .f32) (h6 : M6.IsWhole)
  (M7 : Memref sig .tc .vmem S128x128 .f32) (h7 : M7.IsWhole)
  (M8 : Memref sig .tc .vmem S128x128 .f32) (h8 : M8.IsWhole)
  (M9 : Memref sig .tc .vmem S128x128 .f32) (h9 : M9.IsWhole)
  (M10 : Memref sig .tc .vmem S128x128 .f32) (h10 : M10.IsWhole)
  (M11 : Memref sig .tc .vmem S128x128 .f32) (h11 : M11.IsWhole)
  (M12 : Memref sig .tc .vmem S128x128 .f32) (h12 : M12.IsWhole)
  (M13 : Memref sig .tc .vmem S128x128 .f32) (h13 : M13.IsWhole)
  (M14 : Memref sig .tc .vmem S128x128 .f32) (h14 : M14.IsWhole)
  (M15 : Memref sig .tc .vmem S128x128 .f32) (h15 : M15.IsWhole)
  (M16 : Memref sig .tc .vmem S128x128 .f32) (h16 : M16.IsWhole)
  (M17 : Memref sig .tc .vmem S128x128 .f32) (h17 : M17.IsWhole)
  (M18 : Memref sig .tc .vmem S1x2x8x2x64x128 .f32) (h18 : M18.IsWhole)
  (M19 : Memref sig .tc .vmem S512x64x128 .f32) (h19 : M19.IsWhole)
  (M20 : Memref sig .tc .vmem S512x128 .f32) (h20 : M20.IsWhole)
  (M21 : Memref sig .tc .vmem S512x128 .f32) (h21 : M21.IsWhole)
  (M22 : Memref sig .tc .vmem S512x128 .f32) (h22 : M22.IsWhole)

/-- A point of the first window layer stores a group of windows and its pooled rows. -/
def ph1 (hc1 : k0_cond1 i = 1#1) (hc2 : ¬ k0_cond2 i = 1#1) (hc3 : ¬ k0_cond3 i = 1#1) (hc4 : ¬ k0_cond4 i = 1#1) (hc5 : ¬ k0_cond5 i = 1#1)
    (X1 : FVec F S1x16x128x128 .f32) (X2 : FVec F S128x128 .f32) (X3 : FVec F S128x128 .f32) (X4 : FVec F S128x128 .f32) (X5 : FVec F S128x128 .f32) :
    { P : FVec F S32x64x128 .f32 × FVec F S32x128 .f32 //
      ∀ (Y : FVec F S512x64x128 .f32) (Z : FVec F S512x128 .f32) (E : Set ℕ) (Q : PUnit → sProp 𝕄),
        iprop(hv c M1 X1 ∗ hv c M2 X2 ∗ hv c M3 X3 ∗ hv c M4 X4 ∗ hv c M5 X5 ∗ hv c M19 Y ∗ hv c M20 Z
          ∗ (iprop(hv c M1 X1 ∗ hv c M2 X2 ∗ hv c M3 X3 ∗ hv c M4 X4 ∗ hv c M5 X5
               ∗ hw c M19 Y (k0_off1 i) S32x64x128.size (k0_off1_inb i hc1) P.1 ∗ hw c M20 Z (k0_off2 i) S32x128.size (k0_off2_inb i hc1) P.2) -∗ Q ⟨⟩))
        ⊢ wp frame (wpE (defs₀ (F := F)) Variants.none c none) E (cc0__fused i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22) Q } := by
  refine ⟨⟨?_, ?_⟩, fun Y Z E Q => ?run⟩
  case run =>
    iintro ⟨H0, H1, H2, H3, H4, H5, H6, Hk⟩
    sl_exec_parts
    sl_step
    iapply Hk
    isplitl [H0]; · iexact H0
    isplitl [H1]; · iexact H1
    isplitl [H2]; · iexact H2
    isplitl [H3]; · iexact H3
    isplitl [H4]; · iexact H4
    isplitl [H5]; · iexact H5
    iexact H6

/-- The values that run stores. -/
theorem ph1_val (hc1 : k0_cond1 i = 1#1) (hc2 : ¬ k0_cond2 i = 1#1) (hc3 : ¬ k0_cond3 i = 1#1) (hc4 : ¬ k0_cond4 i = 1#1) (hc5 : ¬ k0_cond5 i = 1#1)
    (X1 : FVec F S1x16x128x128 .f32) (X2 : FVec F S128x128 .f32) (X3 : FVec F S128x128 .f32) (X4 : FVec F S128x128 .f32) (X5 : FVec F S128x128 .f32) :
    (ph1 c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 hc1 hc2 hc3 hc4 hc5 X1 X2 X3 X4 X5).1 = (asWin (wg (k0_pay5 X1) X2 X3 X4 X5), pooled (wg (k0_pay5 X1) X2 X3 X4 X5)) := by
  have e1 := View.readAt_rep_full (Val := Elt F) M1.view X1 inb_S1x16x128x128_S1x16x128x128_0_0_0_0
  have e2 := View.readAt_rep_full (Val := Elt F) M2.view X2 inb_S128x128_S128x128_0_0
  have e3 := View.readAt_rep_full (Val := Elt F) M3.view X3 inb_S128x128_S128x128_0_0
  have e4 := View.readAt_rep_full (Val := Elt F) M4.view X4 inb_S128x128_S128x128_0_0
  have e5 := View.readAt_rep_full (Val := Elt F) M5.view X5 inb_S128x128_S128x128_0_0
  conv_rhs => rw [← e1, ← e2, ← e3, ← e4, ← e5]
  rfl

/-- The point of a pooled layer stores both batches' attentions. -/
def ph2 (hc1 : ¬ k0_cond1 i = 1#1) (hc2 : k0_cond2 i = 1#1) (hc3 : ¬ k0_cond3 i = 1#1) (hc4 : ¬ k0_cond4 i = 1#1) (hc5 : ¬ k0_cond5 i = 1#1)
    (X10 : FVec F S128x128 .f32) (X11 : FVec F S128x128 .f32) (X12 : FVec F S128x128 .f32) (X13 : FVec F S128x128 .f32) (X20 : FVec F S512x128 .f32) :
    { P : List (View.Piece (Elt F) S512x128 .f32) //
      ∀ (Y : FVec F S512x128 .f32) (E : Set ℕ) (Q : PUnit → sProp 𝕄),
        iprop(hv c M10 X10 ∗ hv c M11 X11 ∗ hv c M12 X12 ∗ hv c M13 X13 ∗ hv c M20 X20 ∗ hv c M21 Y
          ∗ (iprop(hv c M10 X10 ∗ hv c M11 X11 ∗ hv c M12 X12 ∗ hv c M13 X13 ∗ hv c M20 X20
               ∗ (M21.view.loc (c : Thread nD τ) ↦[M21.view.set]{fullShare} M21.view.writes (Elt F) (M21.view.rep Y) P)) -∗ Q ⟨⟩))
        ⊢ wp frame (wpE (defs₀ (F := F)) Variants.none c none) E (cc0__fused i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22) Q } := by
  refine ⟨?_, fun Y E Q => ?run⟩
  case run =>
    iintro ⟨H0, H1, H2, H3, H4, H5, Hk⟩
    sl_exec_parts
    sl_step
    iapply Hk
    isplitl [H0]; · iexact H0
    isplitl [H1]; · iexact H1
    isplitl [H2]; · iexact H2
    isplitl [H3]; · iexact H3
    isplitl [H4]; · iexact H4
    iexact H5

/-- The values that run stores. -/
theorem ph2_val (hc1 : ¬ k0_cond1 i = 1#1) (hc2 : k0_cond2 i = 1#1) (hc3 : ¬ k0_cond3 i = 1#1) (hc4 : ¬ k0_cond4 i = 1#1) (hc5 : ¬ k0_cond5 i = 1#1)
    (X10 : FVec F S128x128 .f32) (X11 : FVec F S128x128 .f32) (X12 : FVec F S128x128 .f32) (X13 : FVec F S128x128 .f32) (X20 : FVec F S512x128 .f32) :
    (ph2 c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 hc1 hc2 hc3 hc4 hc5 X10 X11 X12 X13 X20).1 = halves (topAttn (lowRows X20) X10 X11 X12 X13) (topAttn (highRows X20) X10 X11 X12 X13) := by
  have e1 := View.readAt_rep_full (Val := Elt F) M10.view X10 inb_S128x128_S128x128_0_0
  have e2 := View.readAt_rep_full (Val := Elt F) M11.view X11 inb_S128x128_S128x128_0_0
  have e3 := View.readAt_rep_full (Val := Elt F) M12.view X12 inb_S128x128_S128x128_0_0
  have e4 := View.readAt_rep_full (Val := Elt F) M13.view X13 inb_S128x128_S128x128_0_0
  have e5 : M20.view.readAt (Elt F) (Rect.unit (s := S512x128) ![0, 0] S256x128.size inb_S512x128_S256x128_0_0).toLoadRect (M20.view.rep X20) = lowRows X20 := View.readAt_rep_unit _ _ _ rfl _
  have e6 : M20.view.readAt (Elt F) (Rect.unit (s := S512x128) ![256, 0] S256x128.size inb_S512x128_S256x128_256_0).toLoadRect (M20.view.rep X20) = highRows X20 := View.readAt_rep_unit _ _ _ rfl _
  conv_rhs => rw [← e1, ← e2, ← e3, ← e4, ← e5, ← e6]
  rfl

/-- A point of the second window layer stores a group of windows and its pooled rows. -/
def ph3 (hc1 : ¬ k0_cond1 i = 1#1) (hc2 : ¬ k0_cond2 i = 1#1) (hc3 : k0_cond3 i = 1#1) (hc4 : ¬ k0_cond4 i = 1#1) (hc5 : ¬ k0_cond5 i = 1#1)
    (X6 : FVec F S128x128 .f32) (X7 : FVec F S128x128 .f32) (X8 : FVec F S128x128 .f32) (X9 : FVec F S128x128 .f32) (X21 : FVec F S512x128 .f32) (X19 : FVec F S512x64x128 .f32) :
    { P : FVec F S32x64x128 .f32 × FVec F S32x128 .f32 //
      ∀ (Z : FVec F S512x128 .f32) (E : Set ℕ) (Q : PUnit → sProp 𝕄),
        iprop(hv c M6 X6 ∗ hv c M7 X7 ∗ hv c M8 X8 ∗ hv c M9 X9 ∗ hv c M21 X21 ∗ hv c M19 X19 ∗ hv c M20 Z
          ∗ (iprop(hv c M6 X6 ∗ hv c M7 X7 ∗ hv c M8 X8 ∗ hv c M9 X9 ∗ hv c M21 X21
               ∗ hw c M19 X19 (k0_off3 i) S32x64x128.size (k0_off3_inb i hc3) P.1 ∗ hw c M20 Z (k0_off4 i) S32x128.size (k0_off4_inb i hc3) P.2) -∗ Q ⟨⟩))
        ⊢ wp frame (wpE (defs₀ (F := F)) Variants.none c none) E (cc0__fused i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22) Q } := by
  refine ⟨⟨?_, ?_⟩, fun Z E Q => ?run⟩
  case run =>
    iintro ⟨H0, H1, H2, H3, H4, H5, H6, Hk⟩
    sl_exec_parts
    sl_step
    iapply Hk
    isplitl [H0]; · iexact H0
    isplitl [H1]; · iexact H1
    isplitl [H2]; · iexact H2
    isplitl [H3]; · iexact H3
    isplitl [H4]; · iexact H4
    isplitl [H5]; · iexact H5
    iexact H6

/-- The values that run stores. -/
theorem ph3_val (hc1 : ¬ k0_cond1 i = 1#1) (hc2 : ¬ k0_cond2 i = 1#1) (hc3 : k0_cond3 i = 1#1) (hc4 : ¬ k0_cond4 i = 1#1) (hc5 : ¬ k0_cond5 i = 1#1)
    (X6 : FVec F S128x128 .f32) (X7 : FVec F S128x128 .f32) (X8 : FVec F S128x128 .f32) (X9 : FVec F S128x128 .f32) (X21 : FVec F S512x128 .f32) (X19 : FVec F S512x64x128 .f32) :
    (ph3 c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 hc1 hc2 hc3 hc4 hc5 X6 X7 X8 X9 X21 X19).1 = (asWin (wg (k0_pay115 (VecWindow.window X19 (k0_off3 i) S32x64x128.size (k0_off3_inb i hc3)) (VecWindow.window X21 (k0_off4 i) S32x128.size (k0_off4_inb i hc3))) X6 X7 X8 X9), pooled (wg (k0_pay115 (VecWindow.window X19 (k0_off3 i) S32x64x128.size (k0_off3_inb i hc3)) (VecWindow.window X21 (k0_off4 i) S32x128.size (k0_off4_inb i hc3))) X6 X7 X8 X9)) := by
  have e1 := View.readAt_rep_full (Val := Elt F) M6.view X6 inb_S128x128_S128x128_0_0
  have e2 := View.readAt_rep_full (Val := Elt F) M7.view X7 inb_S128x128_S128x128_0_0
  have e3 := View.readAt_rep_full (Val := Elt F) M8.view X8 inb_S128x128_S128x128_0_0
  have e4 := View.readAt_rep_full (Val := Elt F) M9.view X9 inb_S128x128_S128x128_0_0
  have e5 : M19.view.readAt (Elt F) (Rect.unit (s := S512x64x128) (k0_off3 i) S32x64x128.size (k0_off3_inb i hc3)).toLoadRect (M19.view.rep X19) = VecWindow.window X19 (k0_off3 i) S32x64x128.size (k0_off3_inb i hc3) := View.readAt_rep_unit _ _ _ rfl _
  have e6 : M21.view.readAt (Elt F) (Rect.unit (s := S512x128) (k0_off4 i) S32x128.size (k0_off4_inb i hc3)).toLoadRect (M21.view.rep X21) = VecWindow.window X21 (k0_off4 i) S32x128.size (k0_off4_inb i hc3) := View.readAt_rep_unit _ _ _ rfl _
  conv_rhs => rw [← e1, ← e2, ← e3, ← e4, ← e5, ← e6]
  rfl

/-- The point of a pooled layer stores both batches' attentions. -/
def ph4 (hc1 : ¬ k0_cond1 i = 1#1) (hc2 : ¬ k0_cond2 i = 1#1) (hc3 : ¬ k0_cond3 i = 1#1) (hc4 : k0_cond4 i = 1#1) (hc5 : ¬ k0_cond5 i = 1#1)
    (X14 : FVec F S128x128 .f32) (X15 : FVec F S128x128 .f32) (X16 : FVec F S128x128 .f32) (X17 : FVec F S128x128 .f32) (X20 : FVec F S512x128 .f32) :
    { P : List (View.Piece (Elt F) S512x128 .f32) //
      ∀ (Y : FVec F S512x128 .f32) (E : Set ℕ) (Q : PUnit → sProp 𝕄),
        iprop(hv c M14 X14 ∗ hv c M15 X15 ∗ hv c M16 X16 ∗ hv c M17 X17 ∗ hv c M20 X20 ∗ hv c M22 Y
          ∗ (iprop(hv c M14 X14 ∗ hv c M15 X15 ∗ hv c M16 X16 ∗ hv c M17 X17 ∗ hv c M20 X20
               ∗ (M22.view.loc (c : Thread nD τ) ↦[M22.view.set]{fullShare} M22.view.writes (Elt F) (M22.view.rep Y) P)) -∗ Q ⟨⟩))
        ⊢ wp frame (wpE (defs₀ (F := F)) Variants.none c none) E (cc0__fused i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22) Q } := by
  refine ⟨?_, fun Y E Q => ?run⟩
  case run =>
    iintro ⟨H0, H1, H2, H3, H4, H5, Hk⟩
    sl_exec_parts
    sl_step
    iapply Hk
    isplitl [H0]; · iexact H0
    isplitl [H1]; · iexact H1
    isplitl [H2]; · iexact H2
    isplitl [H3]; · iexact H3
    isplitl [H4]; · iexact H4
    iexact H5

/-- The values that run stores. -/
theorem ph4_val (hc1 : ¬ k0_cond1 i = 1#1) (hc2 : ¬ k0_cond2 i = 1#1) (hc3 : ¬ k0_cond3 i = 1#1) (hc4 : k0_cond4 i = 1#1) (hc5 : ¬ k0_cond5 i = 1#1)
    (X14 : FVec F S128x128 .f32) (X15 : FVec F S128x128 .f32) (X16 : FVec F S128x128 .f32) (X17 : FVec F S128x128 .f32) (X20 : FVec F S512x128 .f32) :
    (ph4 c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 hc1 hc2 hc3 hc4 hc5 X14 X15 X16 X17 X20).1 = halves (topAttn (lowRows X20) X14 X15 X16 X17) (topAttn (highRows X20) X14 X15 X16 X17) := by
  have e1 := View.readAt_rep_full (Val := Elt F) M14.view X14 inb_S128x128_S128x128_0_0
  have e2 := View.readAt_rep_full (Val := Elt F) M15.view X15 inb_S128x128_S128x128_0_0
  have e3 := View.readAt_rep_full (Val := Elt F) M16.view X16 inb_S128x128_S128x128_0_0
  have e4 := View.readAt_rep_full (Val := Elt F) M17.view X17 inb_S128x128_S128x128_0_0
  have e5 : M20.view.readAt (Elt F) (Rect.unit (s := S512x128) ![0, 0] S256x128.size inb_S512x128_S256x128_0_0).toLoadRect (M20.view.rep X20) = lowRows X20 := View.readAt_rep_unit _ _ _ rfl _
  have e6 : M20.view.readAt (Elt F) (Rect.unit (s := S512x128) ![256, 0] S256x128.size inb_S512x128_S256x128_256_0).toLoadRect (M20.view.rep X20) = highRows X20 := View.readAt_rep_unit _ _ _ rfl _
  conv_rhs => rw [← e1, ← e2, ← e3, ← e4, ← e5, ← e6]
  rfl

/-- A point of the last stage stores an output block. -/
def ph5 (hc1 : ¬ k0_cond1 i = 1#1) (hc2 : ¬ k0_cond2 i = 1#1) (hc3 : ¬ k0_cond3 i = 1#1) (hc4 : ¬ k0_cond4 i = 1#1) (hc5 : k0_cond5 i = 1#1)
    (X19 : FVec F S512x64x128 .f32) (X22 : FVec F S512x128 .f32) :
    { P : FVec F S1x2x8x2x64x128 .f32 //
      ∀ (Y : FVec F S1x2x8x2x64x128 .f32) (E : Set ℕ) (Q : PUnit → sProp 𝕄),
        iprop(hv c M19 X19 ∗ hv c M22 X22 ∗ hv c M18 Y
          ∗ (iprop(hv c M19 X19 ∗ hv c M22 X22
               ∗ hw c M18 Y ![0, 0, 0, 0, 0, 0] S1x2x8x2x64x128.size inb_S1x2x8x2x64x128_S1x2x8x2x64x128_0_0_0_0_0_0 P) -∗ Q ⟨⟩))
        ⊢ wp frame (wpE (defs₀ (F := F)) Variants.none c none) E (cc0__fused i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22) Q } := by
  refine ⟨?_, fun Y E Q => ?run⟩
  case run =>
    iintro ⟨H0, H1, H2, Hk⟩
    sl_exec_parts
    sl_step
    iapply Hk
    isplitl [H0]; · iexact H0
    isplitl [H1]; · iexact H1
    iexact H2

/-- The values that run stores. -/
theorem ph5_val (hc1 : ¬ k0_cond1 i = 1#1) (hc2 : ¬ k0_cond2 i = 1#1) (hc3 : ¬ k0_cond3 i = 1#1) (hc4 : ¬ k0_cond4 i = 1#1) (hc5 : k0_cond5 i = 1#1)
    (X19 : FVec F S512x64x128 .f32) (X22 : FVec F S512x128 .f32) :
    (ph5 c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 hc1 hc2 hc3 hc4 hc5 X19 X22).1 = k0_pay229 (VecWindow.window X19 (k0_off5 i) S32x64x128.size (k0_off5_inb i hc5)) (VecWindow.window X22 (k0_off6 i) S32x128.size (k0_off6_inb i hc5)) := by
  have e1 : M19.view.readAt (Elt F) (Rect.unit (s := S512x64x128) (k0_off5 i) S32x64x128.size (k0_off5_inb i hc5)).toLoadRect (M19.view.rep X19) = VecWindow.window X19 (k0_off5 i) S32x64x128.size (k0_off5_inb i hc5) := View.readAt_rep_unit _ _ _ rfl _
  have e2 : M22.view.readAt (Elt F) (Rect.unit (s := S512x128) (k0_off6 i) S32x128.size (k0_off6_inb i hc5)).toLoadRect (M22.view.rep X22) = VecWindow.window X22 (k0_off6 i) S32x128.size (k0_off6_inb i hc5) := View.readAt_rep_unit _ _ _ rfl _
  conv_rhs => rw [← e1, ← e2]
  rfl

end Cert.KernelIdeal
-- ==== Proof.State.lean ====
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.Spec
public import Idealize.ShloMosaic.Lib.VecWindow
public import Idealize.ShloMosaic.Lib.ValueIdxCore
public import Idealize.ShloMosaic.Lib.Pipeline.TableIdle

@[expose] public section

set_option maxRecDepth 16384

noncomputable section

namespace Cert.KernelIdeal

open Cert.KernelIdeal.Gen
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (c : Dev nD)

/-- The feature block at a point. -/
def xb (t : Fin cfg0.N) : FVec F S1x16x128x128 .f32 := iblk m c 0 t
/-- Weight window 1 at a point. -/
def wb1 (t : Fin cfg0.N) : FVec F S128x128 .f32 := iblk m c 1 t
/-- Weight window 2 at a point. -/
def wb2 (t : Fin cfg0.N) : FVec F S128x128 .f32 := iblk m c 2 t
/-- Weight window 3 at a point. -/
def wb3 (t : Fin cfg0.N) : FVec F S128x128 .f32 := iblk m c 3 t
/-- Weight window 4 at a point. -/
def wb4 (t : Fin cfg0.N) : FVec F S128x128 .f32 := iblk m c 4 t
/-- Weight window 5 at a point. -/
def wb5 (t : Fin cfg0.N) : FVec F S128x128 .f32 := iblk m c 5 t
/-- Weight window 6 at a point. -/
def wb6 (t : Fin cfg0.N) : FVec F S128x128 .f32 := iblk m c 6 t
/-- Weight window 7 at a point. -/
def wb7 (t : Fin cfg0.N) : FVec F S128x128 .f32 := iblk m c 7 t
/-- Weight window 8 at a point. -/
def wb8 (t : Fin cfg0.N) : FVec F S128x128 .f32 := iblk m c 8 t
/-- Weight window 9 at a point. -/
def wb9 (t : Fin cfg0.N) : FVec F S128x128 .f32 := iblk m c 9 t
/-- Weight window 10 at a point. -/
def wb10 (t : Fin cfg0.N) : FVec F S128x128 .f32 := iblk m c 10 t
/-- Weight window 11 at a point. -/
def wb11 (t : Fin cfg0.N) : FVec F S128x128 .f32 := iblk m c 11 t
/-- Weight window 12 at a point. -/
def wb12 (t : Fin cfg0.N) : FVec F S128x128 .f32 := iblk m c 12 t
/-- Weight window 13 at a point. -/
def wb13 (t : Fin cfg0.N) : FVec F S128x128 .f32 := iblk m c 13 t
/-- Weight window 14 at a point. -/
def wb14 (t : Fin cfg0.N) : FVec F S128x128 .f32 := iblk m c 14 t
/-- Weight window 15 at a point. -/
def wb15 (t : Fin cfg0.N) : FVec F S128x128 .f32 := iblk m c 15 t
/-- Weight window 16 at a point. -/
def wb16 (t : Fin cfg0.N) : FVec F S128x128 .f32 := iblk m c 16 t

/-- The point at which the first layer computes group `j`; -/
def pt1 (j : Fin 16) : Fin cfg0.N := ⟨j.val, by have := j.isLt; show _ < 50; omega⟩
/-- the second layer; -/
def pt2 (j : Fin 16) : Fin cfg0.N := ⟨17 + j.val, by have := j.isLt; show _ < 50; omega⟩
/-- the output. -/
def pt3 (j : Fin 16) : Fin cfg0.N := ⟨34 + j.val, by have := j.isLt; show _ < 50; omega⟩
/-- The points of the two pooled layers. -/
def ptA : Fin cfg0.N := ⟨16, by decide⟩
def ptB : Fin cfg0.N := ⟨33, by decide⟩

theorem inb19 (j : Fin 16) : ∀ a, (![32 * j.val, 0, 0] : Fin 3 → Nat) a + S32x64x128.size a ≤ S512x64x128.size a := by
  revert j; decide
theorem inb20 (j : Fin 16) : ∀ a, (![32 * j.val, 0] : Fin 2 → Nat) a + S32x128.size a ≤ S512x128.size a := by
  revert j; decide

/-- Group `j` of an array of windows. -/
def grp (X : FVec F S512x64x128 .f32) (j : Fin 16) : FVec F S32x64x128 .f32 :=
  VecWindow.window X ![32 * j.val, 0, 0] S32x64x128.size (inb19 j)
/-- Group `j` of an array of pooled rows. -/
def prow (X : FVec F S512x128 .f32) (j : Fin 16) : FVec F S32x128 .f32 :=
  VecWindow.window X ![32 * j.val, 0] S32x128.size (inb20 j)

/-- The first layer's rows of group `j`. -/
def g1 (j : Fin 16) : FVec F S2048x128 .f32 :=
  wg (k0_pay5 (xb m c (pt1 j))) (wb1 m c (pt1 j)) (wb2 m c (pt1 j)) (wb3 m c (pt1 j)) (wb4 m c (pt1 j))

/-- The array whose group `j` is `f j`. -/
def glue (f : Fin 16 → FVec F S32x128 .f32) : FVec F S512x128 .f32 := fun a =>
  f ⟨(a 0).val / 32, by have : (a 0).val < 512 := (a 0).isLt; omega⟩ (ix2 ⟨(a 0).val % 32, Nat.mod_lt _ (by decide)⟩ (a 1))

/-- The two batches' rows one under another. -/
def both (f g : FVec F S256x128 .f32) : FVec F S512x128 .f32 := fun a =>
  if h : (a 0).val < 256 then f (ix2 ⟨(a 0).val, h⟩ (a 1)) else g (ix2 ⟨(a 0).val - 256, by have : (a 0).val < 512 := (a 0).isLt; omega⟩ (a 1))

/-- The first layer's pooled rows and their attention. -/
def pool1 : FVec F S512x128 .f32 := glue fun j => pooled (g1 m c j)
def oa : FVec F S512x128 .f32 :=
  both (topAttn (lowRows (pool1 m c)) (wb9 m c ptA) (wb10 m c ptA) (wb11 m c ptA) (wb12 m c ptA))
    (topAttn (highRows (pool1 m c)) (wb9 m c ptA) (wb10 m c ptA) (wb11 m c ptA) (wb12 m c ptA))

/-- The second layer's rows of group `j`. -/
def g2 (j : Fin 16) : FVec F S2048x128 .f32 :=
  wg (k0_pay115 (asWin (g1 m c j)) (prow (oa m c) j)) (wb5 m c (pt2 j)) (wb6 m c (pt2 j)) (wb7 m c (pt2 j)) (wb8 m c (pt2 j))
def pool2 : FVec F S512x128 .f32 := glue fun j => pooled (g2 m c j)
def ob : FVec F S512x128 .f32 :=
  both (topAttn (lowRows (pool2 m c)) (wb13 m c ptB) (wb14 m c ptB) (wb15 m c ptB) (wb16 m c ptB))
    (topAttn (highRows (pool2 m c)) (wb13 m c ptB) (wb14 m c ptB) (wb15 m c ptB) (wb16 m c ptB))

/-- The output block of group `j`. -/
def outB (j : Fin 16) : FVec F S1x2x8x2x64x128 .f32 := k0_pay229 (asWin (g2 m c j)) (prow (ob m c) j)

/-- What the four scratch buffers hold before point `n`. -/
def Inv (n : Nat) (Y19 : FVec F S512x64x128 .f32) (Y20 Y21 Y22 : FVec F S512x128 .f32) : Prop :=
  (∀ j : Fin 16, j.val < n → grp Y19 j = if n ≤ 17 + j.val then asWin (g1 m c j) else asWin (g2 m c j))
    ∧ (∀ j : Fin 16, j.val < n → prow Y20 j = if n ≤ 17 + j.val then pooled (g1 m c j) else pooled (g2 m c j))
    ∧ (16 < n → Y21 = oa m c) ∧ (33 < n → Y22 = ob m c)

theorem prow_glue (f : Fin 16 → FVec F S32x128 .f32) (j : Fin 16) : prow (glue f) j = f j := by
  funext y
  have h0 : (y 0).val < 32 := (y 0).isLt
  have e : ((Rect.unit (s := S512x128) ![32 * j.val, 0] S32x128.size (inb20 j)).emb y 0).val = 32 * j.val + 1 * (y 0).val := rfl
  have e1 : ((Rect.unit (s := S512x128) ![32 * j.val, 0] S32x128.size (inb20 j)).emb y 1).val = 0 + 1 * (y 1).val := rfl
  have ej : (⟨((Rect.unit (s := S512x128) ![32 * j.val, 0] S32x128.size (inb20 j)).emb y 0).val / 32, by rw [e]; have := j.isLt; omega⟩ : Fin 16) = j :=
    Fin.ext (by show _ / 32 = _; rw [e]; omega)
  show f ⟨((Rect.unit (s := S512x128) ![32 * j.val, 0] S32x128.size (inb20 j)).emb y 0).val / 32, _⟩ _ = f j y
  rw [ej]
  refine congrArg (f j) (funext fun a => ?_)
  match a with
  | ⟨0, _⟩ => exact Fin.ext (by show _ % 32 = (y 0).val; rw [e]; omega)
  | ⟨1, _⟩ => exact Fin.ext (by show _ = (y 1).val; rw [e1]; omega)

theorem prow_ext (X Y : FVec F S512x128 .f32) (h : ∀ j, prow X j = prow Y j) : X = Y := by
  funext a
  have h0 : (a 0).val < 512 := (a 0).isLt
  have e : ∀ Z : FVec F S512x128 .f32, prow Z ⟨(a 0).val / 32, by omega⟩ (ix2 ⟨(a 0).val % 32, Nat.mod_lt _ (by decide)⟩ (a 1)) = Z a := fun Z => by
    show Z _ = Z a
    congr 1
    funext b
    match b with
    | ⟨0, _⟩ => exact Fin.ext (by show 32 * ((a 0).val / 32) + 1 * ((a 0).val % 32) = (a 0).val; omega)
    | ⟨1, _⟩ => exact Fin.ext (by show 0 + 1 * (a 1).val = (a 1).val; omega)
  rw [← e X, h, e Y]

theorem grp_put_same (X : FVec F S512x64x128 .f32) (j : Fin 16) (off : Fin 3 → Nat) (h : off = ![32 * j.val, 0, 0]) (w : FVec F S32x64x128 .f32) :
    grp (VecWindow.put X off S32x64x128.size w) j = w := by
  subst h; exact VecWindow.window_put_same X _ _ (inb19 j) w
theorem grp_put_ne (X : FVec F S512x64x128 .f32) (j k : Fin 16) (hne : k ≠ j) (off : Fin 3 → Nat) (h : off = ![32 * j.val, 0, 0]) (w : FVec F S32x64x128 .f32) :
    grp (VecWindow.put X off S32x64x128.size w) k = grp X k := by
  subst h
  refine VecWindow.window_put_of_disjoint X _ _ _ _ (inb19 k) w 0 ?_
  show 32 * k.val + 32 ≤ 32 * j.val ∨ 32 * j.val + 32 ≤ 32 * k.val
  have : k.val ≠ j.val := fun e => hne (Fin.ext e)
  omega
theorem prow_put_same (X : FVec F S512x128 .f32) (j : Fin 16) (off : Fin 2 → Nat) (h : off = ![32 * j.val, 0]) (w : FVec F S32x128 .f32) :
    prow (VecWindow.put X off S32x128.size w) j = w := by
  subst h; exact VecWindow.window_put_same X _ _ (inb20 j) w
theorem prow_put_ne (X : FVec F S512x128 .f32) (j k : Fin 16) (hne : k ≠ j) (off : Fin 2 → Nat) (h : off = ![32 * j.val, 0]) (w : FVec F S32x128 .f32) :
    prow (VecWindow.put X off S32x128.size w) k = prow X k := by
  subst h
  refine VecWindow.window_put_of_disjoint X _ _ _ _ (inb20 k) w 0 ?_
  show 32 * k.val + 32 ≤ 32 * j.val ∨ 32 * j.val + 32 ≤ 32 * k.val
  have : k.val ≠ j.val := fun e => hne (Fin.ext e)
  omega

theorem both_put (X : FVec F S512x128 .f32) (f g : FVec F S256x128 .f32) :
    VecWindow.put (VecWindow.put X ![0, 0] S256x128.size f) ![256, 0] S256x128.size g = both f g := by
  funext a
  have h0 : (a 0).val < 512 := (a 0).isLt
  have h1 : (a 1).val < 128 := (a 1).isLt
  unfold VecWindow.put both
  by_cases h : (a 0).val < 256
  · rw [dif_neg (fun hall => by have := (hall 0).1; have e : (![256, 0] : Fin 2 → Nat) 0 = 256 := rfl; omega), dif_pos h,
      dif_pos (fun b => by match b with | ⟨0, _⟩ => exact ⟨Nat.zero_le _, by show _ < 0 + 256; exact Nat.lt_of_lt_of_eq h (by omega)⟩ | ⟨1, _⟩ => exact ⟨Nat.zero_le _, by show (a 1).val < 0 + 128; omega⟩)]
    refine congrArg f (funext fun b => ?_)
    match b with
    | ⟨0, _⟩ => exact Fin.ext (by show (a 0).val - 0 = (a 0).val; omega)
    | ⟨1, _⟩ => exact Fin.ext (by show (a 1).val - 0 = (a 1).val; omega)
  · rw [dif_neg h,
      dif_pos (fun b => by match b with | ⟨0, _⟩ => exact ⟨by show 256 ≤ (a 0).val; omega, by show (a 0).val < 256 + 256; omega⟩ | ⟨1, _⟩ => exact ⟨Nat.zero_le _, by show (a 1).val < 0 + 128; omega⟩)]
    refine congrArg g (funext fun b => ?_)
    match b with
    | ⟨0, _⟩ => exact Fin.ext (by show (a 0).val - 256 = (a 0).val - 256; rfl)
    | ⟨1, _⟩ => exact Fin.ext (by show (a 1).val - 0 = (a 1).val; omega)

variable {m c}

/-- A point of the first window layer keeps the invariant; -/
theorem inv1 {n : Nat} (j : Fin 16) (hn : n = j.val) {Y19 : FVec F S512x64x128 .f32} {Y20 Y21 Y22 : FVec F S512x128 .f32} (h : Inv m c n Y19 Y20 Y21 Y22) (o19 : Fin 3 → Nat) (o20 : Fin 2 → Nat)
    (h19 : o19 = ![32 * j.val, 0, 0]) (h20 : o20 = ![32 * j.val, 0]) :
    Inv m c (n + 1) (VecWindow.put Y19 o19 S32x64x128.size (asWin (g1 m c j))) (VecWindow.put Y20 o20 S32x128.size (pooled (g1 m c j))) Y21 Y22 := by
  have hj := j.isLt
  obtain ⟨h1, h2, -, -⟩ := h
  refine ⟨fun k hk => ?_, fun k hk => ?_, fun h => absurd h (by omega), fun h => absurd h (by omega)⟩
  · rw [if_pos (by omega)]
    by_cases e : k = j
    · subst e; exact grp_put_same _ _ _ h19 _
    · have : k.val ≠ j.val := fun e' => e (Fin.ext e')
      rw [grp_put_ne _ j k e _ h19, h1 k (by omega), if_pos (by omega)]
  · rw [if_pos (by omega)]
    by_cases e : k = j
    · subst e; exact prow_put_same _ _ _ h20 _
    · have : k.val ≠ j.val := fun e' => e (Fin.ext e')
      rw [prow_put_ne _ j k e _ h20, h2 k (by omega), if_pos (by omega)]

/-- after the first layer the pooled rows are `pool1`, -/
theorem inv_pool1 {Y19 : FVec F S512x64x128 .f32} {Y20 Y21 Y22 : FVec F S512x128 .f32} (h : Inv m c 16 Y19 Y20 Y21 Y22) : Y20 = pool1 m c :=
  prow_ext _ _ fun j => by
    have hj := j.isLt
    rw [h.2.1 j (by omega), if_pos (by omega)]; exact (prow_glue (fun j => pooled (g1 m c j)) j).symm

theorem inv2 {Y19 : FVec F S512x64x128 .f32} {Y20 Y21 Y22 : FVec F S512x128 .f32} (h : Inv m c 16 Y19 Y20 Y21 Y22) : Inv m c 17 Y19 Y20 (oa m c) Y22 := by
  obtain ⟨h1, h2, -, -⟩ := h
  refine ⟨fun k hk => ?_, fun k hk => ?_, fun _ => rfl, fun h => absurd h (by omega)⟩
  · have hj := k.isLt
    rw [h1 k (by omega), if_pos (by omega), if_pos (by omega)]
  · have hj := k.isLt
    rw [h2 k (by omega), if_pos (by omega), if_pos (by omega)]

/-- a point of the second window layer reads the first's rows and keeps the invariant, -/
theorem inv3_read {n : Nat} (j : Fin 16) (hn : n = 17 + j.val) {Y19 : FVec F S512x64x128 .f32} {Y20 Y21 Y22 : FVec F S512x128 .f32} (h : Inv m c n Y19 Y20 Y21 Y22) :
    grp Y19 j = asWin (g1 m c j) ∧ Y21 = oa m c := by
  have hj := j.isLt
  exact ⟨by rw [h.1 j (by omega), if_pos (by omega)], h.2.2.1 (by omega)⟩

theorem inv3 {n : Nat} (j : Fin 16) (hn : n = 17 + j.val) {Y19 : FVec F S512x64x128 .f32} {Y20 Y21 Y22 : FVec F S512x128 .f32} (h : Inv m c n Y19 Y20 Y21 Y22) (o19 : Fin 3 → Nat) (o20 : Fin 2 → Nat)
    (h19 : o19 = ![32 * j.val, 0, 0]) (h20 : o20 = ![32 * j.val, 0]) :
    Inv m c (n + 1) (VecWindow.put Y19 o19 S32x64x128.size (asWin (g2 m c j))) (VecWindow.put Y20 o20 S32x128.size (pooled (g2 m c j))) Y21 Y22 := by
  have hj := j.isLt
  obtain ⟨h1, h2, h3, -⟩ := h
  refine ⟨fun k hk => ?_, fun k hk => ?_, fun _ => h3 (by omega), fun h => absurd h (by omega)⟩
  · have hk' := k.isLt
    by_cases e : k = j
    · subst e; rw [if_neg (by omega)]; exact grp_put_same _ _ _ h19 _
    · have : k.val ≠ j.val := fun e' => e (Fin.ext e')
      rw [grp_put_ne _ j k e _ h19, h1 k (by omega)]
      by_cases hc : n ≤ 17 + k.val
      · rw [if_pos hc, if_pos (by omega)]
      · rw [if_neg hc, if_neg (by omega)]
  · have hk' := k.isLt
    by_cases e : k = j
    · subst e; rw [if_neg (by omega)]; exact prow_put_same _ _ _ h20 _
    · have : k.val ≠ j.val := fun e' => e (Fin.ext e')
      rw [prow_put_ne _ j k e _ h20, h2 k (by omega)]
      by_cases hc : n ≤ 17 + k.val
      · rw [if_pos hc, if_pos (by omega)]
      · rw [if_neg hc, if_neg (by omega)]

theorem inv_pool2 {Y19 : FVec F S512x64x128 .f32} {Y20 Y21 Y22 : FVec F S512x128 .f32} (h : Inv m c 33 Y19 Y20 Y21 Y22) : Y20 = pool2 m c :=
  prow_ext _ _ fun j => by
    have hj := j.isLt
    rw [h.2.1 j (by omega), if_neg (by omega)]; exact (prow_glue (fun j => pooled (g2 m c j)) j).symm

theorem inv4 {Y19 : FVec F S512x64x128 .f32} {Y20 Y21 Y22 : FVec F S512x128 .f32} (h : Inv m c 33 Y19 Y20 Y21 Y22) : Inv m c 34 Y19 Y20 Y21 (ob m c) := by
  obtain ⟨h1, h2, h3, -⟩ := h
  refine ⟨fun k hk => ?_, fun k hk => ?_, fun _ => h3 (by omega), fun _ => rfl⟩
  · have hj := k.isLt
    rw [h1 k (by omega), if_neg (by omega), if_neg (by omega)]
  · have hj := k.isLt
    rw [h2 k (by omega), if_neg (by omega), if_neg (by omega)]

/-- and an output point reads the second layer's. -/
theorem inv5_read {n : Nat} (j : Fin 16) (hn : n = 34 + j.val) {Y19 : FVec F S512x64x128 .f32} {Y20 Y21 Y22 : FVec F S512x128 .f32} (h : Inv m c n Y19 Y20 Y21 Y22) :
    grp Y19 j = asWin (g2 m c j) ∧ Y22 = ob m c := by
  have hj := j.isLt
  exact ⟨by rw [h.1 j (by omega), if_neg (by omega)], h.2.2.2 (by omega)⟩

theorem inv5 {n : Nat} (hn : 34 ≤ n) {Y19 : FVec F S512x64x128 .f32} {Y20 Y21 Y22 : FVec F S512x128 .f32} (h : Inv m c n Y19 Y20 Y21 Y22) : Inv m c (n + 1) Y19 Y20 Y21 Y22 := by
  obtain ⟨h1, h2, h3, h4⟩ := h
  refine ⟨fun k hk => ?_, fun k hk => ?_, fun _ => h3 (by omega), fun _ => h4 (by omega)⟩
  · have hj := k.isLt
    rw [h1 k (by omega), if_neg (by omega), if_neg (by omega)]
  · have hj := k.isLt
    rw [h2 k (by omega), if_neg (by omega), if_neg (by omega)]

/-- Nothing is known before the first point. -/
theorem inv0 (Y19 : FVec F S512x64x128 .f32) (Y20 Y21 Y22 : FVec F S512x128 .f32) : Inv m c 0 Y19 Y20 Y21 Y22 :=
  ⟨fun _ h => absurd h (Nat.not_lt_zero _), fun _ h => absurd h (Nat.not_lt_zero _), fun h => absurd h (by omega), fun h => absurd h (by omega)⟩

end Cert.KernelIdeal
-- ==== Proof.Step.lean ====
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.Body
public import proofs.«01_k».proof.Proof.State
public import Idealize.ShloMosaic.Lib.VecWindow
public import Idealize.ShloMosaic.Lib.ValueIdxCore
public import Idealize.ShloMosaic.Lib.Pipeline.TableIdle

@[expose] public section

set_option maxRecDepth 16384

noncomputable section

namespace Cert.KernelIdeal

open Cert.KernelIdeal.Gen
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A store over a rectangle of held values leaves the values with the rectangle put. -/
theorem hw_put (c : Dev nD) {sp : Space} {S : Shape} {e : EltTy} (M : Memref sig .tc sp S e) (X : S.Idx → Elt F e) (off sz : Fin S.rank → Nat)
    (inb : ∀ a, off a + sz a ≤ S.size a) (w : (Rect.unit off sz inb).shape.Idx → Elt F e) :
    hw c M X off sz inb w ⊢ hv c M (VecWindow.put X off sz w) :=
  pointsTo_rep_of_read (c : Thread nD τ) M _ fullShare _ (View.read_writes_rep_unit M.view X inb w rfl)

/-- The two stores of a pooled layer leave the two batches' rows one under another. -/
theorem halves_put (c : Dev nD) (M : Memref sig .tc .vmem S512x128 .f32) (X : FVec F S512x128 .f32) (a b : FVec F S256x128 .f32) :
    (M.view.loc (c : Thread nD τ) ↦[M.view.set]{fullShare} M.view.writes (Elt F) (M.view.rep X) (halves a b) : sProp 𝕄) ⊢ hv c M (both a b) :=
by
  have e1 := View.read_writes_rep_unit (Val := Elt F) M.view X (off' := ![0, 0]) inb_S512x128_S256x128_0_0 a rfl
  have e2 := View.read_writes_cons_put (Val := Elt F) M.view (M.view.rep X) (off' := ![256, 0]) inb_S512x128_S256x128_256_0 b
    [⟨Rect.unit (s := S512x128) ![0, 0] S256x128.size inb_S512x128_S256x128_0_0, a⟩] rfl
  rw [e1] at e2
  exact pointsTo_rep_of_read (c : Thread nD τ) M _ fullShare _ (e2.trans (both_put X a b))

/-- A store over a whole buffer leaves the stored values. -/
theorem hw_full (c : Dev nD) (M : Memref sig .tc .vmem S1x2x8x2x64x128 .f32) (X w : FVec F S1x2x8x2x64x128 .f32) :
    hw c M X ![0, 0, 0, 0, 0, 0] S1x2x8x2x64x128.size inb_S1x2x8x2x64x128_S1x2x8x2x64x128_0_0_0_0_0_0 w ⊢ hv c M w :=
  pointsTo_rep_of_read (c : Thread nD τ) M _ fullShare _ (View.read_writes_full (Val := Elt F) M.view _ _ w _)

/-! ## The conditions and the offsets at each point -/

theorem cond1_iff : ∀ t : Fin cfg0.N, k0_cond1 (grid0.coords t) = 1#1 ↔ t.val < 16 := by decide +kernel
theorem cond2_iff : ∀ t : Fin cfg0.N, k0_cond2 (grid0.coords t) = 1#1 ↔ t.val = 16 := by decide +kernel
theorem cond3_iff : ∀ t : Fin cfg0.N, k0_cond3 (grid0.coords t) = 1#1 ↔ 17 ≤ t.val ∧ t.val < 33 := by decide +kernel
theorem cond4_iff : ∀ t : Fin cfg0.N, k0_cond4 (grid0.coords t) = 1#1 ↔ t.val = 33 := by decide +kernel
theorem cond5_iff : ∀ t : Fin cfg0.N, k0_cond5 (grid0.coords t) = 1#1 ↔ 34 ≤ t.val := by decide +kernel
theorem off1_eq : ∀ j : Fin 16, k0_off1 (grid0.coords (pt1 j)) = ![32 * j.val, 0, 0] := by decide +kernel
theorem off2_eq : ∀ j : Fin 16, k0_off2 (grid0.coords (pt1 j)) = ![32 * j.val, 0] := by decide +kernel
theorem off3_eq : ∀ j : Fin 16, k0_off3 (grid0.coords (pt2 j)) = ![32 * j.val, 0, 0] := by decide +kernel
theorem off4_eq : ∀ j : Fin 16, k0_off4 (grid0.coords (pt2 j)) = ![32 * j.val, 0] := by decide +kernel
theorem off5_eq : ∀ j : Fin 16, k0_off5 (grid0.coords (pt3 j)) = ![32 * j.val, 0, 0] := by decide +kernel
theorem off6_eq : ∀ j : Fin 16, k0_off6 (grid0.coords (pt3 j)) = ![32 * j.val, 0] := by decide +kernel

theorem win19_eq (X : FVec F S512x64x128 .f32) (j : Fin 16) (off : Fin 3 → Nat) (inb : ∀ a, off a + S32x64x128.size a ≤ S512x64x128.size a)
    (h : off = ![32 * j.val, 0, 0]) : VecWindow.window X off S32x64x128.size inb = grp X j := by subst h; rfl
theorem win20_eq (X : FVec F S512x128 .f32) (j : Fin 16) (off : Fin 2 → Nat) (inb : ∀ a, off a + S32x128.size a ≤ S512x128.size a)
    (h : off = ![32 * j.val, 0]) : VecWindow.window X off S32x128.size inb = prow X j := by subst h; rfl

variable (c : Dev nD)
  (M1 : Memref sig .tc .vmem S1x16x128x128 .f32) (h1 : M1.IsWhole)
  (M2 : Memref sig .tc .vmem S128x128 .f32) (h2 : M2.IsWhole)
  (M3 : Memref sig .tc .vmem S128x128 .f32) (h3 : M3.IsWhole)
  (M4 : Memref sig .tc .vmem S128x128 .f32) (h4 : M4.IsWhole)
  (M5 : Memref sig .tc .vmem S128x128 .f32) (h5 : M5.IsWhole)
  (M6 : Memref sig .tc .vmem S128x128 .f32) (h6 : M6.IsWhole)
  (M7 : Memref sig .tc .vmem S128x128 .f32) (h7 : M7.IsWhole)
  (M8 : Memref sig .tc .vmem S128x128 .f32) (h8 : M8.IsWhole)
  (M9 : Memref sig .tc .vmem S128x128 .f32) (h9 : M9.IsWhole)
  (M10 : Memref sig .tc .vmem S128x128 .f32) (h10 : M10.IsWhole)
  (M11 : Memref sig .tc .vmem S128x128 .f32) (h11 : M11.IsWhole)
  (M12 : Memref sig .tc .vmem S128x128 .f32) (h12 : M12.IsWhole)
  (M13 : Memref sig .tc .vmem S128x128 .f32) (h13 : M13.IsWhole)
  (M14 : Memref sig .tc .vmem S128x128 .f32) (h14 : M14.IsWhole)
  (M15 : Memref sig .tc .vmem S128x128 .f32) (h15 : M15.IsWhole)
  (M16 : Memref sig .tc .vmem S128x128 .f32) (h16 : M16.IsWhole)
  (M17 : Memref sig .tc .vmem S128x128 .f32) (h17 : M17.IsWhole)
  (M18 : Memref sig .tc .vmem S1x2x8x2x64x128 .f32) (h18 : M18.IsWhole)
  (M19 : Memref sig .tc .vmem S512x64x128 .f32) (h19 : M19.IsWhole)
  (M20 : Memref sig .tc .vmem S512x128 .f32) (h20 : M20.IsWhole)
  (M21 : Memref sig .tc .vmem S512x128 .f32) (h21 : M21.IsWhole)
  (M22 : Memref sig .tc .vmem S512x128 .f32) (h22 : M22.IsWhole)

variable (m : (ℓ : Loc nD τ sig) → Buf (Elt F) ℓ)

/-- The scratch buffers held at contents satisfying the invariant before point `n`. -/
abbrev scr (n : Nat) : sProp 𝕄 :=
  iprop(∃ (Y19 : FVec F S512x64x128 .f32) (Y20 Y21 Y22 : FVec F S512x128 .f32), ⌜Inv m c n Y19 Y20 Y21 Y22⌝ ∗ hv c M19 Y19 ∗ hv c M20 Y20 ∗ hv c M21 Y21 ∗ hv c M22 Y22)

/-- The input windows' buffers at their blocks. -/
abbrev ins (t : Fin cfg0.N) : sProp 𝕄 :=
  iprop(hv c M1 (xb m c t) ∗ hv c M2 (wb1 m c t) ∗ hv c M3 (wb2 m c t) ∗ hv c M4 (wb3 m c t) ∗ hv c M5 (wb4 m c t) ∗ hv c M6 (wb5 m c t) ∗ hv c M7 (wb6 m c t) ∗ hv c M8 (wb7 m c t) ∗ hv c M9 (wb8 m c t) ∗ hv c M10 (wb9 m c t) ∗ hv c M11 (wb10 m c t) ∗ hv c M12 (wb11 m c t) ∗ hv c M13 (wb12 m c t) ∗ hv c M14 (wb13 m c t) ∗ hv c M15 (wb14 m c t) ∗ hv c M16 (wb15 m c t) ∗ hv c M17 (wb16 m c t))

/-- A point of the first window layer. -/
theorem step1 (j : Fin 16) (Y18 : FVec F S1x2x8x2x64x128 .f32) (E : Set ℕ) (Q : PUnit → sProp 𝕄) :
    iprop(scr c M19 M20 M21 M22 m j.val ∗ ins c M1 M2 M3 M4 M5 M6 M7 M8 M9 M10 M11 M12 M13 M14 M15 M16 M17 m (pt1 j) ∗ hv c M18 Y18
      ∗ (iprop(scr c M19 M20 M21 M22 m (j.val + 1) ∗ ins c M1 M2 M3 M4 M5 M6 M7 M8 M9 M10 M11 M12 M13 M14 M15 M16 M17 m (pt1 j) ∗ hv c M18 (Y18)) -∗ Q ⟨⟩))
    ⊢ wp frame (wpE (defs₀ (F := F)) Variants.none c none) E (cc0__fused (grid0.coords (pt1 j)) M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22) Q := by
  have hc1 : k0_cond1 (grid0.coords (pt1 j)) = 1#1 := by rw [cond1_iff]; have := j.isLt; simp only [pt1]; omega
  have hc2 : ¬ k0_cond2 (grid0.coords (pt1 j)) = 1#1 := by rw [cond2_iff]; have := j.isLt; simp only [pt1]; omega
  have hc3 : ¬ k0_cond3 (grid0.coords (pt1 j)) = 1#1 := by rw [cond3_iff]; have := j.isLt; simp only [pt1]; omega
  have hc4 : ¬ k0_cond4 (grid0.coords (pt1 j)) = 1#1 := by rw [cond4_iff]; have := j.isLt; simp only [pt1]; omega
  have hc5 : ¬ k0_cond5 (grid0.coords (pt1 j)) = 1#1 := by rw [cond5_iff]; have := j.isLt; simp only [pt1]; omega
  iintro ⟨⟨%Y19, %Y20, %Y21, %Y22, %hI, H19, H20, H21, H22⟩, ⟨H1, H2, H3, H4, H5, H6, H7, H8, H9, H10, H11, H12, H13, H14, H15, H16, H17⟩, H18, Hk⟩
  have hr := (ph1 c (grid0.coords (pt1 j)) M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 hc1 hc2 hc3 hc4 hc5 (xb m c (pt1 j)) (wb1 m c (pt1 j)) (wb2 m c (pt1 j)) (wb3 m c (pt1 j)) (wb4 m c (pt1 j))).2 Y19 Y20 E Q
  rw [ph1_val c (grid0.coords (pt1 j)) M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 hc1 hc2 hc3 hc4 hc5 (xb m c (pt1 j)) (wb1 m c (pt1 j)) (wb2 m c (pt1 j)) (wb3 m c (pt1 j)) (wb4 m c (pt1 j))] at hr
  iapply hr
  isplitl [H1]; · iexact H1
  isplitl [H2]; · iexact H2
  isplitl [H3]; · iexact H3
  isplitl [H4]; · iexact H4
  isplitl [H5]; · iexact H5
  isplitl [H19]; · iexact H19
  isplitl [H20]; · iexact H20
  iintro ⟨H1, H2, H3, H4, H5, H19, H20⟩
  iapply Hk
  isplitl [H19 H20 H21 H22]
  · iexists _, _, _, _
    isplitr
    swap
    · isplitl [H19]; · iapply hw_put; iexact H19
      isplitl [H20]; · iapply hw_put; iexact H20
      isplitl [H21]; · iexact H21
      iexact H22
    · ipureintro
      exact inv1 j rfl hI _ _ (off1_eq j) (off2_eq j)
  isplitr [H18]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17
  iexact H18

/-- The point of the first pooled layer. -/
theorem step2  (Y18 : FVec F S1x2x8x2x64x128 .f32) (E : Set ℕ) (Q : PUnit → sProp 𝕄) :
    iprop(scr c M19 M20 M21 M22 m 16 ∗ ins c M1 M2 M3 M4 M5 M6 M7 M8 M9 M10 M11 M12 M13 M14 M15 M16 M17 m ptA ∗ hv c M18 Y18
      ∗ (iprop(scr c M19 M20 M21 M22 m (16 + 1) ∗ ins c M1 M2 M3 M4 M5 M6 M7 M8 M9 M10 M11 M12 M13 M14 M15 M16 M17 m ptA ∗ hv c M18 (Y18)) -∗ Q ⟨⟩))
    ⊢ wp frame (wpE (defs₀ (F := F)) Variants.none c none) E (cc0__fused (grid0.coords ptA) M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22) Q := by
  have hc1 : ¬ k0_cond1 (grid0.coords ptA) = 1#1 := by rw [cond1_iff]; decide
  have hc2 : k0_cond2 (grid0.coords ptA) = 1#1 := by rw [cond2_iff]; decide
  have hc3 : ¬ k0_cond3 (grid0.coords ptA) = 1#1 := by rw [cond3_iff]; decide
  have hc4 : ¬ k0_cond4 (grid0.coords ptA) = 1#1 := by rw [cond4_iff]; decide
  have hc5 : ¬ k0_cond5 (grid0.coords ptA) = 1#1 := by rw [cond5_iff]; decide
  iintro ⟨⟨%Y19, %Y20, %Y21, %Y22, %hI, H19, H20, H21, H22⟩, ⟨H1, H2, H3, H4, H5, H6, H7, H8, H9, H10, H11, H12, H13, H14, H15, H16, H17⟩, H18, Hk⟩
  obtain rfl := inv_pool1 hI
  have hr := (ph2 c (grid0.coords ptA) M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 hc1 hc2 hc3 hc4 hc5 (wb9 m c ptA) (wb10 m c ptA) (wb11 m c ptA) (wb12 m c ptA) (pool1 m c)).2 Y21 E Q
  rw [ph2_val c (grid0.coords ptA) M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 hc1 hc2 hc3 hc4 hc5 (wb9 m c ptA) (wb10 m c ptA) (wb11 m c ptA) (wb12 m c ptA) (pool1 m c)] at hr
  iapply hr
  isplitl [H10]; · iexact H10
  isplitl [H11]; · iexact H11
  isplitl [H12]; · iexact H12
  isplitl [H13]; · iexact H13
  isplitl [H20]; · iexact H20
  isplitl [H21]; · iexact H21
  iintro ⟨H10, H11, H12, H13, H20, H21⟩
  iapply Hk
  isplitl [H19 H20 H21 H22]
  · iexists _, _, _, _
    isplitr
    swap
    · isplitl [H19]; · iexact H19
      isplitl [H20]; · iexact H20
      isplitl [H21]; · iapply halves_put; iexact H21
      iexact H22
    · ipureintro
      exact inv2 hI
  isplitr [H18]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17
  iexact H18

/-- A point of the second window layer. -/
theorem step3 (j : Fin 16) (Y18 : FVec F S1x2x8x2x64x128 .f32) (E : Set ℕ) (Q : PUnit → sProp 𝕄) :
    iprop(scr c M19 M20 M21 M22 m (17 + j.val) ∗ ins c M1 M2 M3 M4 M5 M6 M7 M8 M9 M10 M11 M12 M13 M14 M15 M16 M17 m (pt2 j) ∗ hv c M18 Y18
      ∗ (iprop(scr c M19 M20 M21 M22 m ((17 + j.val) + 1) ∗ ins c M1 M2 M3 M4 M5 M6 M7 M8 M9 M10 M11 M12 M13 M14 M15 M16 M17 m (pt2 j) ∗ hv c M18 (Y18)) -∗ Q ⟨⟩))
    ⊢ wp frame (wpE (defs₀ (F := F)) Variants.none c none) E (cc0__fused (grid0.coords (pt2 j)) M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22) Q := by
  have hc1 : ¬ k0_cond1 (grid0.coords (pt2 j)) = 1#1 := by rw [cond1_iff]; have := j.isLt; simp only [pt2]; omega
  have hc2 : ¬ k0_cond2 (grid0.coords (pt2 j)) = 1#1 := by rw [cond2_iff]; have := j.isLt; simp only [pt2]; omega
  have hc3 : k0_cond3 (grid0.coords (pt2 j)) = 1#1 := by rw [cond3_iff]; have := j.isLt; simp only [pt2]; omega
  have hc4 : ¬ k0_cond4 (grid0.coords (pt2 j)) = 1#1 := by rw [cond4_iff]; have := j.isLt; simp only [pt2]; omega
  have hc5 : ¬ k0_cond5 (grid0.coords (pt2 j)) = 1#1 := by rw [cond5_iff]; have := j.isLt; simp only [pt2]; omega
  iintro ⟨⟨%Y19, %Y20, %Y21, %Y22, %hI, H19, H20, H21, H22⟩, ⟨H1, H2, H3, H4, H5, H6, H7, H8, H9, H10, H11, H12, H13, H14, H15, H16, H17⟩, H18, Hk⟩
  obtain ⟨e19, rfl⟩ := inv3_read j rfl hI
  have hr := (ph3 c (grid0.coords (pt2 j)) M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 hc1 hc2 hc3 hc4 hc5 (wb5 m c (pt2 j)) (wb6 m c (pt2 j)) (wb7 m c (pt2 j)) (wb8 m c (pt2 j)) (oa m c) Y19).2 Y20 E Q
  rw [ph3_val c (grid0.coords (pt2 j)) M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 hc1 hc2 hc3 hc4 hc5 (wb5 m c (pt2 j)) (wb6 m c (pt2 j)) (wb7 m c (pt2 j)) (wb8 m c (pt2 j)) (oa m c) Y19] at hr
  rw [win19_eq Y19 j _ _ (off3_eq j), win20_eq (oa m c) j _ _ (off4_eq j), e19] at hr
  iapply hr
  isplitl [H6]; · iexact H6
  isplitl [H7]; · iexact H7
  isplitl [H8]; · iexact H8
  isplitl [H9]; · iexact H9
  isplitl [H21]; · iexact H21
  isplitl [H19]; · iexact H19
  isplitl [H20]; · iexact H20
  iintro ⟨H6, H7, H8, H9, H21, H19, H20⟩
  iapply Hk
  isplitl [H19 H20 H21 H22]
  · iexists _, _, _, _
    isplitr
    swap
    · isplitl [H19]; · iapply hw_put; iexact H19
      isplitl [H20]; · iapply hw_put; iexact H20
      isplitl [H21]; · iexact H21
      iexact H22
    · ipureintro
      exact inv3 j rfl hI _ _ (off3_eq j) (off4_eq j)
  isplitr [H18]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17
  iexact H18

/-- The point of the second pooled layer. -/
theorem step4  (Y18 : FVec F S1x2x8x2x64x128 .f32) (E : Set ℕ) (Q : PUnit → sProp 𝕄) :
    iprop(scr c M19 M20 M21 M22 m 33 ∗ ins c M1 M2 M3 M4 M5 M6 M7 M8 M9 M10 M11 M12 M13 M14 M15 M16 M17 m ptB ∗ hv c M18 Y18
      ∗ (iprop(scr c M19 M20 M21 M22 m (33 + 1) ∗ ins c M1 M2 M3 M4 M5 M6 M7 M8 M9 M10 M11 M12 M13 M14 M15 M16 M17 m ptB ∗ hv c M18 (Y18)) -∗ Q ⟨⟩))
    ⊢ wp frame (wpE (defs₀ (F := F)) Variants.none c none) E (cc0__fused (grid0.coords ptB) M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22) Q := by
  have hc1 : ¬ k0_cond1 (grid0.coords ptB) = 1#1 := by rw [cond1_iff]; decide
  have hc2 : ¬ k0_cond2 (grid0.coords ptB) = 1#1 := by rw [cond2_iff]; decide
  have hc3 : ¬ k0_cond3 (grid0.coords ptB) = 1#1 := by rw [cond3_iff]; decide
  have hc4 : k0_cond4 (grid0.coords ptB) = 1#1 := by rw [cond4_iff]; decide
  have hc5 : ¬ k0_cond5 (grid0.coords ptB) = 1#1 := by rw [cond5_iff]; decide
  iintro ⟨⟨%Y19, %Y20, %Y21, %Y22, %hI, H19, H20, H21, H22⟩, ⟨H1, H2, H3, H4, H5, H6, H7, H8, H9, H10, H11, H12, H13, H14, H15, H16, H17⟩, H18, Hk⟩
  obtain rfl := inv_pool2 hI
  have hr := (ph4 c (grid0.coords ptB) M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 hc1 hc2 hc3 hc4 hc5 (wb13 m c ptB) (wb14 m c ptB) (wb15 m c ptB) (wb16 m c ptB) (pool2 m c)).2 Y22 E Q
  rw [ph4_val c (grid0.coords ptB) M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 hc1 hc2 hc3 hc4 hc5 (wb13 m c ptB) (wb14 m c ptB) (wb15 m c ptB) (wb16 m c ptB) (pool2 m c)] at hr
  iapply hr
  isplitl [H14]; · iexact H14
  isplitl [H15]; · iexact H15
  isplitl [H16]; · iexact H16
  isplitl [H17]; · iexact H17
  isplitl [H20]; · iexact H20
  isplitl [H22]; · iexact H22
  iintro ⟨H14, H15, H16, H17, H20, H22⟩
  iapply Hk
  isplitl [H19 H20 H21 H22]
  · iexists _, _, _, _
    isplitr
    swap
    · isplitl [H19]; · iexact H19
      isplitl [H20]; · iexact H20
      isplitl [H21]; · iexact H21
      iapply halves_put; iexact H22
    · ipureintro
      exact inv4 hI
  isplitr [H18]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17
  iexact H18

/-- A point of the last stage. -/
theorem step5 (j : Fin 16) (Y18 : FVec F S1x2x8x2x64x128 .f32) (E : Set ℕ) (Q : PUnit → sProp 𝕄) :
    iprop(scr c M19 M20 M21 M22 m (34 + j.val) ∗ ins c M1 M2 M3 M4 M5 M6 M7 M8 M9 M10 M11 M12 M13 M14 M15 M16 M17 m (pt3 j) ∗ hv c M18 Y18
      ∗ (iprop(scr c M19 M20 M21 M22 m ((34 + j.val) + 1) ∗ ins c M1 M2 M3 M4 M5 M6 M7 M8 M9 M10 M11 M12 M13 M14 M15 M16 M17 m (pt3 j) ∗ hv c M18 (outB m c j)) -∗ Q ⟨⟩))
    ⊢ wp frame (wpE (defs₀ (F := F)) Variants.none c none) E (cc0__fused (grid0.coords (pt3 j)) M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22) Q := by
  have hc1 : ¬ k0_cond1 (grid0.coords (pt3 j)) = 1#1 := by rw [cond1_iff]; have := j.isLt; simp only [pt3]; omega
  have hc2 : ¬ k0_cond2 (grid0.coords (pt3 j)) = 1#1 := by rw [cond2_iff]; have := j.isLt; simp only [pt3]; omega
  have hc3 : ¬ k0_cond3 (grid0.coords (pt3 j)) = 1#1 := by rw [cond3_iff]; have := j.isLt; simp only [pt3]; omega
  have hc4 : ¬ k0_cond4 (grid0.coords (pt3 j)) = 1#1 := by rw [cond4_iff]; have := j.isLt; simp only [pt3]; omega
  have hc5 : k0_cond5 (grid0.coords (pt3 j)) = 1#1 := by rw [cond5_iff]; have := j.isLt; simp only [pt3]; omega
  iintro ⟨⟨%Y19, %Y20, %Y21, %Y22, %hI, H19, H20, H21, H22⟩, ⟨H1, H2, H3, H4, H5, H6, H7, H8, H9, H10, H11, H12, H13, H14, H15, H16, H17⟩, H18, Hk⟩
  obtain ⟨e19, rfl⟩ := inv5_read j rfl hI
  have hr := (ph5 c (grid0.coords (pt3 j)) M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 hc1 hc2 hc3 hc4 hc5 Y19 (ob m c)).2 Y18 E Q
  rw [ph5_val c (grid0.coords (pt3 j)) M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 hc1 hc2 hc3 hc4 hc5 Y19 (ob m c)] at hr
  rw [win19_eq Y19 j _ _ (off5_eq j), win20_eq (ob m c) j _ _ (off6_eq j), e19] at hr
  iapply hr
  isplitl [H19]; · iexact H19
  isplitl [H22]; · iexact H22
  isplitl [H18]; · iexact H18
  iintro ⟨H19, H22, H18⟩
  iapply Hk
  isplitl [H19 H20 H21 H22]
  · iexists _, _, _, _
    isplitr
    swap
    · isplitl [H19]; · iexact H19
      isplitl [H20]; · iexact H20
      isplitl [H21]; · iexact H21
      iexact H22
    · ipureintro
      exact inv5 (by omega) hI
  isplitr [H18]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17
  iapply hw_full; iexact H18

end Cert.KernelIdeal
-- ==== Proof.Run.lean ====
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.Step
public import Idealize.ShloMosaic.Lib.VecWindow
public import Idealize.ShloMosaic.Lib.ValueIdxCore
public import Idealize.ShloMosaic.Lib.Pipeline.TableIdle

@[expose] public section

set_option maxRecDepth 16384

noncomputable section

namespace Cert.KernelIdeal

open Cert.KernelIdeal.Gen
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-- The scratch buffers as memrefs. -/
abbrev S19 : Memref sig .tc .vmem S512x64x128 .f32 := Memref.whole cc0_scratch0
abbrev S20 : Memref sig .tc .vmem S512x128 .f32 := Memref.whole cc0_scratch1
abbrev S21 : Memref sig .tc .vmem S512x128 .f32 := Memref.whole cc0_scratch2
abbrev S22 : Memref sig .tc .vmem S512x128 .f32 := Memref.whole cc0_scratch3

/-- What the region holds before point `n` besides the windows: the scratch buffers satisfying the invariant, and the
    core's generator register at something. -/
def PhiS (n : Nat) (_ : n ≤ cfg0.N) : sProp 𝕄 :=
  iprop(scr c S19 S20 S21 S22 m n ∗ ∃ r, prngReg c r)

/-- The output block written at point `t`, from the point the last stage begins. -/
def outAt (t : Fin cfg0.N) : FVec F S1x2x8x2x64x128 .f32 := outB m c ⟨t.val - 34, by have : t.val < 50 := t.isLt; omega⟩

/-- The proof data: the arrays as the region finds them; after a point an input window's buffer at its block and the
    output's at that point's block. -/
def dats (_ : Fin 1) (c : Dev nD) : Pipeline.Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => outAt m c t
    | ⟨_ + 18, h⟩ => absurd h (Nat.not_lt.2 (Nat.le_add_left _ _))
  Φ t := PhiS m c t.val (Nat.le_of_lt_succ t.isLt)
  q _ := fullShare
  owed _ := 0

theorem bef0 (t : Fin cfg0.N) (d) : (dats m 0 c).before 0 t d = iblk m c 0 t := before0_0_of m (dats m 0 c) rfl (fun _ => rfl) t d
theorem bef1 (t : Fin cfg0.N) (d) : (dats m 0 c).before 1 t d = iblk m c 1 t := before0_1_of m (dats m 0 c) rfl (fun _ => rfl) t d
theorem bef2 (t : Fin cfg0.N) (d) : (dats m 0 c).before 2 t d = iblk m c 2 t := before0_2_of m (dats m 0 c) rfl (fun _ => rfl) t d
theorem bef3 (t : Fin cfg0.N) (d) : (dats m 0 c).before 3 t d = iblk m c 3 t := before0_3_of m (dats m 0 c) rfl (fun _ => rfl) t d
theorem bef4 (t : Fin cfg0.N) (d) : (dats m 0 c).before 4 t d = iblk m c 4 t := before0_4_of m (dats m 0 c) rfl (fun _ => rfl) t d
theorem bef5 (t : Fin cfg0.N) (d) : (dats m 0 c).before 5 t d = iblk m c 5 t := before0_5_of m (dats m 0 c) rfl (fun _ => rfl) t d
theorem bef6 (t : Fin cfg0.N) (d) : (dats m 0 c).before 6 t d = iblk m c 6 t := before0_6_of m (dats m 0 c) rfl (fun _ => rfl) t d
theorem bef7 (t : Fin cfg0.N) (d) : (dats m 0 c).before 7 t d = iblk m c 7 t := before0_7_of m (dats m 0 c) rfl (fun _ => rfl) t d
theorem bef8 (t : Fin cfg0.N) (d) : (dats m 0 c).before 8 t d = iblk m c 8 t := before0_8_of m (dats m 0 c) rfl (fun _ => rfl) t d
theorem bef9 (t : Fin cfg0.N) (d) : (dats m 0 c).before 9 t d = iblk m c 9 t := before0_9_of m (dats m 0 c) rfl (fun _ => rfl) t d
theorem bef10 (t : Fin cfg0.N) (d) : (dats m 0 c).before 10 t d = iblk m c 10 t := before0_10_of m (dats m 0 c) rfl (fun _ => rfl) t d
theorem bef11 (t : Fin cfg0.N) (d) : (dats m 0 c).before 11 t d = iblk m c 11 t := before0_11_of m (dats m 0 c) rfl (fun _ => rfl) t d
theorem bef12 (t : Fin cfg0.N) (d) : (dats m 0 c).before 12 t d = iblk m c 12 t := before0_12_of m (dats m 0 c) rfl (fun _ => rfl) t d
theorem bef13 (t : Fin cfg0.N) (d) : (dats m 0 c).before 13 t d = iblk m c 13 t := before0_13_of m (dats m 0 c) rfl (fun _ => rfl) t d
theorem bef14 (t : Fin cfg0.N) (d) : (dats m 0 c).before 14 t d = iblk m c 14 t := before0_14_of m (dats m 0 c) rfl (fun _ => rfl) t d
theorem bef15 (t : Fin cfg0.N) (d) : (dats m 0 c).before 15 t d = iblk m c 15 t := before0_15_of m (dats m 0 c) rfl (fun _ => rfl) t d
theorem bef16 (t : Fin cfg0.N) (d) : (dats m 0 c).before 16 t d = iblk m c 16 t := before0_16_of m (dats m 0 c) rfl (fun _ => rfl) t d

theorem idle17 : ∀ t : Fin cfg0.N, cfg0.idle 17 (cfg0.grid.coords t) = decide (t.val < 34) := by decide +kernel
theorem flush17 : ∀ t : Fin cfg0.N, t.val < 34 → (cfg0.win 17).flush t = false := by decide +kernel

/-- What a point's run leaves in the output window's buffer that held `Y`. -/
def out18 (t : Fin cfg0.N) (Y : FVec F S1x2x8x2x64x128 .f32) : FVec F S1x2x8x2x64x128 .f32 := if t.val < 34 then Y else outAt m c t

set_option maxHeartbeats 2000000 in
/-- Every point runs: from the invariant before it, the input windows at their blocks and the output window at anything. -/
theorem steps (t : Fin cfg0.N) (Y18 : FVec F S1x2x8x2x64x128 .f32) (Q : PUnit → sProp 𝕄) :
    iprop(scr c S19 S20 S21 S22 m t.val ∗ ins c (st0_0 t) (st0_1 t) (st0_2 t) (st0_3 t) (st0_4 t) (st0_5 t) (st0_6 t) (st0_7 t) (st0_8 t) (st0_9 t) (st0_10 t) (st0_11 t) (st0_12 t) (st0_13 t) (st0_14 t) (st0_15 t) (st0_16 t) m t ∗ hv c (st0_17 t) Y18
      ∗ (iprop(scr c S19 S20 S21 S22 m (t.val + 1) ∗ ins c (st0_0 t) (st0_1 t) (st0_2 t) (st0_3 t) (st0_4 t) (st0_5 t) (st0_6 t) (st0_7 t) (st0_8 t) (st0_9 t) (st0_10 t) (st0_11 t) (st0_12 t) (st0_13 t) (st0_14 t) (st0_15 t) (st0_16 t) m t ∗ hv c (st0_17 t) (out18 m c t Y18)) -∗ Q ⟨⟩))
    ⊢ wp frame (wpE (defs₀ (F := F)) Variants.none c none) Set.univ (bodyAt0 t) Q := by
  by_cases h1 : t.val < 16
  · obtain ⟨j, rfl⟩ : ∃ j : Fin 16, t = pt1 j := ⟨⟨t.val, h1⟩, Fin.ext rfl⟩
    rw [show out18 m c (pt1 j) Y18 = Y18 from if_pos (by have := j.isLt; simp only [pt1]; omega)]
    exact step1 c (st0_0 (pt1 j)) (hstage0_0 ((cfg0.slots (pt1 j) 0).cast nbuf0_0)) (st0_1 (pt1 j)) (hstage0_1 ((cfg0.slots (pt1 j) 1).cast nbuf0_1)) (st0_2 (pt1 j)) (hstage0_2 ((cfg0.slots (pt1 j) 2).cast nbuf0_2)) (st0_3 (pt1 j)) (hstage0_3 ((cfg0.slots (pt1 j) 3).cast nbuf0_3)) (st0_4 (pt1 j)) (hstage0_4 ((cfg0.slots (pt1 j) 4).cast nbuf0_4)) (st0_5 (pt1 j)) (hstage0_5 ((cfg0.slots (pt1 j) 5).cast nbuf0_5)) (st0_6 (pt1 j)) (hstage0_6 ((cfg0.slots (pt1 j) 6).cast nbuf0_6)) (st0_7 (pt1 j)) (hstage0_7 ((cfg0.slots (pt1 j) 7).cast nbuf0_7)) (st0_8 (pt1 j)) (hstage0_8 ((cfg0.slots (pt1 j) 8).cast nbuf0_8)) (st0_9 (pt1 j)) (hstage0_9 ((cfg0.slots (pt1 j) 9).cast nbuf0_9)) (st0_10 (pt1 j)) (hstage0_10 ((cfg0.slots (pt1 j) 10).cast nbuf0_10)) (st0_11 (pt1 j)) (hstage0_11 ((cfg0.slots (pt1 j) 11).cast nbuf0_11)) (st0_12 (pt1 j)) (hstage0_12 ((cfg0.slots (pt1 j) 12).cast nbuf0_12)) (st0_13 (pt1 j)) (hstage0_13 ((cfg0.slots (pt1 j) 13).cast nbuf0_13)) (st0_14 (pt1 j)) (hstage0_14 ((cfg0.slots (pt1 j) 14).cast nbuf0_14)) (st0_15 (pt1 j)) (hstage0_15 ((cfg0.slots (pt1 j) 15).cast nbuf0_15)) (st0_16 (pt1 j)) (hstage0_16 ((cfg0.slots (pt1 j) 16).cast nbuf0_16)) (st0_17 (pt1 j)) (hstage0_17 ((cfg0.slots (pt1 j) 17).cast nbuf0_17)) S19 (Memref.isWhole_whole _) S20 (Memref.isWhole_whole _) S21 (Memref.isWhole_whole _) S22 (Memref.isWhole_whole _) m j Y18 Set.univ Q
  by_cases h2 : t.val = 16
  · obtain rfl : t = ptA := Fin.ext h2
    rw [show out18 m c ptA Y18 = Y18 from if_pos (by decide)]
    exact step2 c (st0_0 ptA) (hstage0_0 ((cfg0.slots ptA 0).cast nbuf0_0)) (st0_1 ptA) (hstage0_1 ((cfg0.slots ptA 1).cast nbuf0_1)) (st0_2 ptA) (hstage0_2 ((cfg0.slots ptA 2).cast nbuf0_2)) (st0_3 ptA) (hstage0_3 ((cfg0.slots ptA 3).cast nbuf0_3)) (st0_4 ptA) (hstage0_4 ((cfg0.slots ptA 4).cast nbuf0_4)) (st0_5 ptA) (hstage0_5 ((cfg0.slots ptA 5).cast nbuf0_5)) (st0_6 ptA) (hstage0_6 ((cfg0.slots ptA 6).cast nbuf0_6)) (st0_7 ptA) (hstage0_7 ((cfg0.slots ptA 7).cast nbuf0_7)) (st0_8 ptA) (hstage0_8 ((cfg0.slots ptA 8).cast nbuf0_8)) (st0_9 ptA) (hstage0_9 ((cfg0.slots ptA 9).cast nbuf0_9)) (st0_10 ptA) (hstage0_10 ((cfg0.slots ptA 10).cast nbuf0_10)) (st0_11 ptA) (hstage0_11 ((cfg0.slots ptA 11).cast nbuf0_11)) (st0_12 ptA) (hstage0_12 ((cfg0.slots ptA 12).cast nbuf0_12)) (st0_13 ptA) (hstage0_13 ((cfg0.slots ptA 13).cast nbuf0_13)) (st0_14 ptA) (hstage0_14 ((cfg0.slots ptA 14).cast nbuf0_14)) (st0_15 ptA) (hstage0_15 ((cfg0.slots ptA 15).cast nbuf0_15)) (st0_16 ptA) (hstage0_16 ((cfg0.slots ptA 16).cast nbuf0_16)) (st0_17 ptA) (hstage0_17 ((cfg0.slots ptA 17).cast nbuf0_17)) S19 (Memref.isWhole_whole _) S20 (Memref.isWhole_whole _) S21 (Memref.isWhole_whole _) S22 (Memref.isWhole_whole _) m Y18 Set.univ Q
  by_cases h3 : t.val < 33
  · obtain ⟨j, rfl⟩ : ∃ j : Fin 16, t = pt2 j := ⟨⟨t.val - 17, by omega⟩, Fin.ext (by simp only [pt2]; omega)⟩
    rw [show out18 m c (pt2 j) Y18 = Y18 from if_pos (by have := j.isLt; simp only [pt2]; omega)]
    exact step3 c (st0_0 (pt2 j)) (hstage0_0 ((cfg0.slots (pt2 j) 0).cast nbuf0_0)) (st0_1 (pt2 j)) (hstage0_1 ((cfg0.slots (pt2 j) 1).cast nbuf0_1)) (st0_2 (pt2 j)) (hstage0_2 ((cfg0.slots (pt2 j) 2).cast nbuf0_2)) (st0_3 (pt2 j)) (hstage0_3 ((cfg0.slots (pt2 j) 3).cast nbuf0_3)) (st0_4 (pt2 j)) (hstage0_4 ((cfg0.slots (pt2 j) 4).cast nbuf0_4)) (st0_5 (pt2 j)) (hstage0_5 ((cfg0.slots (pt2 j) 5).cast nbuf0_5)) (st0_6 (pt2 j)) (hstage0_6 ((cfg0.slots (pt2 j) 6).cast nbuf0_6)) (st0_7 (pt2 j)) (hstage0_7 ((cfg0.slots (pt2 j) 7).cast nbuf0_7)) (st0_8 (pt2 j)) (hstage0_8 ((cfg0.slots (pt2 j) 8).cast nbuf0_8)) (st0_9 (pt2 j)) (hstage0_9 ((cfg0.slots (pt2 j) 9).cast nbuf0_9)) (st0_10 (pt2 j)) (hstage0_10 ((cfg0.slots (pt2 j) 10).cast nbuf0_10)) (st0_11 (pt2 j)) (hstage0_11 ((cfg0.slots (pt2 j) 11).cast nbuf0_11)) (st0_12 (pt2 j)) (hstage0_12 ((cfg0.slots (pt2 j) 12).cast nbuf0_12)) (st0_13 (pt2 j)) (hstage0_13 ((cfg0.slots (pt2 j) 13).cast nbuf0_13)) (st0_14 (pt2 j)) (hstage0_14 ((cfg0.slots (pt2 j) 14).cast nbuf0_14)) (st0_15 (pt2 j)) (hstage0_15 ((cfg0.slots (pt2 j) 15).cast nbuf0_15)) (st0_16 (pt2 j)) (hstage0_16 ((cfg0.slots (pt2 j) 16).cast nbuf0_16)) (st0_17 (pt2 j)) (hstage0_17 ((cfg0.slots (pt2 j) 17).cast nbuf0_17)) S19 (Memref.isWhole_whole _) S20 (Memref.isWhole_whole _) S21 (Memref.isWhole_whole _) S22 (Memref.isWhole_whole _) m j Y18 Set.univ Q
  by_cases h4 : t.val = 33
  · obtain rfl : t = ptB := Fin.ext h4
    rw [show out18 m c ptB Y18 = Y18 from if_pos (by decide)]
    exact step4 c (st0_0 ptB) (hstage0_0 ((cfg0.slots ptB 0).cast nbuf0_0)) (st0_1 ptB) (hstage0_1 ((cfg0.slots ptB 1).cast nbuf0_1)) (st0_2 ptB) (hstage0_2 ((cfg0.slots ptB 2).cast nbuf0_2)) (st0_3 ptB) (hstage0_3 ((cfg0.slots ptB 3).cast nbuf0_3)) (st0_4 ptB) (hstage0_4 ((cfg0.slots ptB 4).cast nbuf0_4)) (st0_5 ptB) (hstage0_5 ((cfg0.slots ptB 5).cast nbuf0_5)) (st0_6 ptB) (hstage0_6 ((cfg0.slots ptB 6).cast nbuf0_6)) (st0_7 ptB) (hstage0_7 ((cfg0.slots ptB 7).cast nbuf0_7)) (st0_8 ptB) (hstage0_8 ((cfg0.slots ptB 8).cast nbuf0_8)) (st0_9 ptB) (hstage0_9 ((cfg0.slots ptB 9).cast nbuf0_9)) (st0_10 ptB) (hstage0_10 ((cfg0.slots ptB 10).cast nbuf0_10)) (st0_11 ptB) (hstage0_11 ((cfg0.slots ptB 11).cast nbuf0_11)) (st0_12 ptB) (hstage0_12 ((cfg0.slots ptB 12).cast nbuf0_12)) (st0_13 ptB) (hstage0_13 ((cfg0.slots ptB 13).cast nbuf0_13)) (st0_14 ptB) (hstage0_14 ((cfg0.slots ptB 14).cast nbuf0_14)) (st0_15 ptB) (hstage0_15 ((cfg0.slots ptB 15).cast nbuf0_15)) (st0_16 ptB) (hstage0_16 ((cfg0.slots ptB 16).cast nbuf0_16)) (st0_17 ptB) (hstage0_17 ((cfg0.slots ptB 17).cast nbuf0_17)) S19 (Memref.isWhole_whole _) S20 (Memref.isWhole_whole _) S21 (Memref.isWhole_whole _) S22 (Memref.isWhole_whole _) m Y18 Set.univ Q
  · have ht : t.val < 50 := t.isLt
    obtain ⟨j, rfl⟩ : ∃ j : Fin 16, t = pt3 j := ⟨⟨t.val - 34, by omega⟩, Fin.ext (by simp only [pt3]; omega)⟩
    rw [show out18 m c (pt3 j) Y18 = outB m c j from (if_neg (by simp only [pt3]; omega)).trans
      (congrArg (outB m c) (Fin.ext (by show 34 + j.val - 34 = j.val; omega)))]
    exact step5 c (st0_0 (pt3 j)) (hstage0_0 ((cfg0.slots (pt3 j) 0).cast nbuf0_0)) (st0_1 (pt3 j)) (hstage0_1 ((cfg0.slots (pt3 j) 1).cast nbuf0_1)) (st0_2 (pt3 j)) (hstage0_2 ((cfg0.slots (pt3 j) 2).cast nbuf0_2)) (st0_3 (pt3 j)) (hstage0_3 ((cfg0.slots (pt3 j) 3).cast nbuf0_3)) (st0_4 (pt3 j)) (hstage0_4 ((cfg0.slots (pt3 j) 4).cast nbuf0_4)) (st0_5 (pt3 j)) (hstage0_5 ((cfg0.slots (pt3 j) 5).cast nbuf0_5)) (st0_6 (pt3 j)) (hstage0_6 ((cfg0.slots (pt3 j) 6).cast nbuf0_6)) (st0_7 (pt3 j)) (hstage0_7 ((cfg0.slots (pt3 j) 7).cast nbuf0_7)) (st0_8 (pt3 j)) (hstage0_8 ((cfg0.slots (pt3 j) 8).cast nbuf0_8)) (st0_9 (pt3 j)) (hstage0_9 ((cfg0.slots (pt3 j) 9).cast nbuf0_9)) (st0_10 (pt3 j)) (hstage0_10 ((cfg0.slots (pt3 j) 10).cast nbuf0_10)) (st0_11 (pt3 j)) (hstage0_11 ((cfg0.slots (pt3 j) 11).cast nbuf0_11)) (st0_12 (pt3 j)) (hstage0_12 ((cfg0.slots (pt3 j) 12).cast nbuf0_12)) (st0_13 (pt3 j)) (hstage0_13 ((cfg0.slots (pt3 j) 13).cast nbuf0_13)) (st0_14 (pt3 j)) (hstage0_14 ((cfg0.slots (pt3 j) 14).cast nbuf0_14)) (st0_15 (pt3 j)) (hstage0_15 ((cfg0.slots (pt3 j) 15).cast nbuf0_15)) (st0_16 (pt3 j)) (hstage0_16 ((cfg0.slots (pt3 j) 16).cast nbuf0_16)) (st0_17 (pt3 j)) (hstage0_17 ((cfg0.slots (pt3 j) 17).cast nbuf0_17)) S19 (Memref.isWhole_whole _) S20 (Memref.isWhole_whole _) S21 (Memref.isWhole_whole _) S22 (Memref.isWhole_whole _) m j Y18 Set.univ Q

/-- A memref owned at `X` is held at `X`. -/
theorem hv_of {sp : Space} {S : Shape} {e : EltTy} (M : Memref sig .tc sp S e) (X : S.Idx → Elt F e) :
    (owns (c : Thread nD τ) M fullShare X : sProp 𝕄) ⊢ hv c M X := rep_of_owns (c : Thread nD τ) M fullShare X
theorem of_hv {sp : Space} {S : Shape} {e : EltTy} (M : Memref sig .tc sp S e) (X : S.Idx → Elt F e) :
    hv c M X ⊢ (owns (c : Thread nD τ) M fullShare X : sProp 𝕄) := owns_of_rep (c : Thread nD τ) M fullShare X

set_option maxHeartbeats 2000000 in
/-- The body's obligation at every point. -/
theorem body_obligation : Pipeline.BodyObligation (dats m 0 c) (defs₀ (F := F)) Variants.none () Set.univ := fun t => by
  rw [bigSep_W0, bigSep_W0]
  rw [show (dats m 0 c).Φ t.castSucc = PhiS m c t.val (Nat.le_of_lt t.isLt) from by
      dsimp only [dats]; exact Pipeline.Dat.Φ_castSucc (PhiS m c) t,
    show (dats m 0 c).Φ t.succ = PhiS m c (t.val + 1) t.isLt from rfl,
    show (dats m 0 c).owesAt () t.succ = (dats m 0 c).owesAt () t.castSucc from rfl]
  simp only [bef0, bef1, bef2, bef3, bef4, bef5, bef6, bef7, bef8, bef9, bef10, bef11, bef12, bef13, bef14, bef15, bef16]
  unfold PhiS
  iintro ⟨⟨Hs, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply (steps m c t ((dats m 0 c).before 17 t d17) _)
  isplitl [Hs]; · iexact Hs
  isplitl [H0 H1 H2 H3 H4 H5 H6 H7 H8 H9 H10 H11 H12 H13 H14 H15 H16]
  · isplitl [H0]; · iapply hv_of; iexact H0
    isplitl [H1]; · iapply hv_of; iexact H1
    isplitl [H2]; · iapply hv_of; iexact H2
    isplitl [H3]; · iapply hv_of; iexact H3
    isplitl [H4]; · iapply hv_of; iexact H4
    isplitl [H5]; · iapply hv_of; iexact H5
    isplitl [H6]; · iapply hv_of; iexact H6
    isplitl [H7]; · iapply hv_of; iexact H7
    isplitl [H8]; · iapply hv_of; iexact H8
    isplitl [H9]; · iapply hv_of; iexact H9
    isplitl [H10]; · iapply hv_of; iexact H10
    isplitl [H11]; · iapply hv_of; iexact H11
    isplitl [H12]; · iapply hv_of; iexact H12
    isplitl [H13]; · iapply hv_of; iexact H13
    isplitl [H14]; · iapply hv_of; iexact H14
    isplitl [H15]; · iapply hv_of; iexact H15
    iapply hv_of; iexact H16
  isplitl [H17]; · iapply hv_of; iexact H17
  iintro ⟨Hs, ⟨H0, H1, H2, H3, H4, H5, H6, H7, H8, H9, H10, H11, H12, H13, H14, H15, H16⟩, H17⟩
  isplitl [Hs Hr]
  · isplitl [Hs]; · iexact Hs
    iexact Hr
  isplitl [Ho]; · iexact Ho
  isplitl [H0]; · iapply of_hv; iexact H0
  isplitl [H1]; · iapply of_hv; iexact H1
  isplitl [H2]; · iapply of_hv; iexact H2
  isplitl [H3]; · iapply of_hv; iexact H3
  isplitl [H4]; · iapply of_hv; iexact H4
  isplitl [H5]; · iapply of_hv; iexact H5
  isplitl [H6]; · iapply of_hv; iexact H6
  isplitl [H7]; · iapply of_hv; iexact H7
  isplitl [H8]; · iapply of_hv; iexact H8
  isplitl [H9]; · iapply of_hv; iexact H9
  isplitl [H10]; · iapply of_hv; iexact H10
  isplitl [H11]; · iapply of_hv; iexact H11
  isplitl [H12]; · iapply of_hv; iexact H12
  isplitl [H13]; · iapply of_hv; iexact H13
  isplitl [H14]; · iapply of_hv; iexact H14
  isplitl [H15]; · iapply of_hv; iexact H15
  isplitl [H16]; · iapply of_hv; iexact H16
  by_cases hlt : t.val < 34
  · rw [show idle0 17 (grid0.coords t) = true from (idle17 t).trans (decide_eq_true hlt), show (win0 17).flush t = false from flush17 t hlt,
      show out18 m c t ((dats m 0 c).before 17 t d17) = (dats m 0 c).before 17 t d17 from if_pos hlt]
    iexists d17
    iapply of_hv
    iexact H17
  · rw [show idle0 17 (grid0.coords t) = false from (idle17 t).trans (decide_eq_false hlt),
      show out18 m c t ((dats m 0 c).before 17 t d17) = outAt m c t from if_neg hlt]
    iapply of_hv
    iexact H17

end Cert.KernelIdeal
-- ==== Proof.Frames.lean ====
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.Run
public import Idealize.ShloMosaic.Lib.VecWindow
public import Idealize.ShloMosaic.Lib.ValueIdxCore
public import Idealize.ShloMosaic.Lib.Pipeline.TableIdle

@[expose] public section

set_option maxRecDepth 16384

noncomputable section

namespace Cert.KernelIdeal

open Cert.KernelIdeal.Gen
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-- A whole buffer at any contents is the memref of it held at those contents. -/
theorem whole_hv (b : Ref sig .tc) (f : b.ty.Contents (Elt F)) :
    ((c : Thread nD τ).loc b ↦{fullShare} f : sProp 𝕄) ⊢ hv c (Memref.whole b) f :=
  (Entails.of_eq (owns_whole (c : Thread nD τ) b fullShare f).symm).trans (rep_of_owns (c : Thread nD τ) (Memref.whole b) fullShare f)
theorem hv_whole (b : Ref sig .tc) (f : b.ty.Contents (Elt F)) :
    hv c (Memref.whole b) f ⊢ ((c : Thread nD τ).loc b ↦{fullShare} f : sProp 𝕄) :=
  (owns_of_rep (c : Thread nD τ) (Memref.whole b) fullShare f).trans (Entails.of_eq (owns_whole (c : Thread nD τ) b fullShare f))

/-- The region's scratch buffers at anything satisfy the invariant before the first point. -/
theorem enter : Pipeline.ΦA spec0 c ⊢ (dats m 0 c).Φ 0 := by
  rw [show (dats m 0 c).Φ 0 = PhiS m c 0 (Nat.zero_le _) from rfl]
  unfold Pipeline.ΦA PhiS
  rw [scopedRest0_eq]
  iintro ⟨⟨⟨%f0, H0⟩, ⟨%f1, H1⟩, ⟨%f2, H2⟩, ⟨%f3, H3⟩⟩, Hr⟩
  isplitr [Hr]
  · iexists f0, f1, f2, f3
    isplitr
    · ipureintro; exact inv0 _ _ _ _
    isplitl [H0]; · iapply whole_hv; iexact H0
    isplitl [H1]; · iapply whole_hv; iexact H1
    isplitl [H2]; · iapply whole_hv; iexact H2
    iapply whole_hv; iexact H3
  · iexact Hr

/-- After the last point the scratch buffers hold something. -/
theorem leave : (dats m 0 c).Φ (Fin.last cfg0.N) ⊢ Pipeline.ΦA spec0 c := by
  rw [show (dats m 0 c).Φ (Fin.last cfg0.N) = PhiS m c cfg0.N (Nat.le_refl _) from rfl]
  unfold Pipeline.ΦA PhiS
  rw [scopedRest0_eq]
  iintro ⟨⟨%Y0, %Y1, %Y2, %Y3, -, H0, H1, H2, H3⟩, Hr⟩
  isplitr [Hr]
  · isplitl [H0]; · iexists Y0; iapply (hv_whole c cc0_scratch0 Y0); iexact H0
    isplitl [H1]; · iexists Y1; iapply (hv_whole c cc0_scratch1 Y1); iexact H1
    isplitl [H2]; · iexists Y2; iapply (hv_whole c cc0_scratch2 Y2); iexact H2
    iexists Y3; iapply (hv_whole c cc0_scratch3 Y3); iexact H3
  · iexact Hr

/-- The program runs: every array as the pipeline leaves it, every other buffer as the host lines leave it, and every
    semaphore counter at zero. -/
theorem run_main : θ_run defs (onTc (τ := τ) (main (F := F))) (s₀ m ρ) (fun r =>
    Pipeline.FramePost cfgs (dats m) 0 (Pipeline.afterTail₀ cfgs (dats m) 0 (V0 m) [hostOps1]) r ∧ r.2.sem = fun _ => 0) :=
  Pipeline.θ_run_frame_around_track cfgs (dats m) 0 launch0 defs₀ Variants.none m ρ main
    (fun c => (body_obligation m c).loose) (fun c => (dats m 0 c).share_full fun _ => rfl) (fun c t => rfl) (V0 m) [hostOps1] sfx_sub sfx_fresh sfx_keeps
    (hmain m Variants.none) (fun c w => rfl) (fun c => enter m c) (fun c => leave m c) _ (fun _ h => h)

/-- The program runs, leaves its arguments as they were and every semaphore counter at zero. -/
theorem frame_main : θ_run defs (onTc (τ := τ) (main (F := F))) ⟨m, fun _ => 0, ρ⟩ (fun r => (∀ c : Dev nD,
        r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ (h : _ ∧ _) => ⟨fun c => ⟨((h.1 c).2 main_arg0 (Pipeline.mem_restRefs_of main_arg0 (by decide) (by decide))).trans (W_main_arg0 m (dats m) c),
    ((h.1 c).2 main_arg1 (Pipeline.mem_restRefs_of main_arg1 (by decide) (by decide))).trans (W_main_arg1 m (dats m) c),
    ((h.1 c).2 main_arg2 (Pipeline.mem_restRefs_of main_arg2 (by decide) (by decide))).trans (W_main_arg2 m (dats m) c),
    ((h.1 c).2 main_arg3 (Pipeline.mem_restRefs_of main_arg3 (by decide) (by decide))).trans (W_main_arg3 m (dats m) c),
    ((h.1 c).2 main_arg4 (Pipeline.mem_restRefs_of main_arg4 (by decide) (by decide))).trans (W_main_arg4 m (dats m) c),
    ((h.1 c).2 main_arg5 (Pipeline.mem_restRefs_of main_arg5 (by decide) (by decide))).trans (W_main_arg5 m (dats m) c),
    ((h.1 c).2 main_arg6 (Pipeline.mem_restRefs_of main_arg6 (by decide) (by decide))).trans (W_main_arg6 m (dats m) c),
    ((h.1 c).2 main_arg7 (Pipeline.mem_restRefs_of main_arg7 (by decide) (by decide))).trans (W_main_arg7 m (dats m) c),
    ((h.1 c).2 main_arg8 (Pipeline.mem_restRefs_of main_arg8 (by decide) (by decide))).trans (W_main_arg8 m (dats m) c),
    ((h.1 c).2 main_arg9 (Pipeline.mem_restRefs_of main_arg9 (by decide) (by decide))).trans (W_main_arg9 m (dats m) c)⟩, h.2⟩) (run_main m ρ)

end Cert.KernelIdeal
-- ==== Proof.RefOps.lean ====
module

public import proofs.«01_k».proof.Proof.Gen.ReferenceIdeal.Run
public import Idealize.ShloMosaic.PureOps.Ideal

@[expose] public section

noncomputable section

/-! The reference's steps as functions of their operands. -/

namespace Cert.ReferenceIdeal.Steps

open Cert.ReferenceIdeal Cert.ReferenceIdeal.Gen Idealize.ShloMosaic

abbrev Win := FVec Ideal S512x64x128 .f32
abbrev Pooled := FVec Ideal S2x256x128 .f32
abbrev Wt := FVec Ideal S128x128 .f32
abbrev Img := FVec Ideal S2x128x128x128 .f32

/-- The first and the second of two weight matrices. -/
def wt0 (a : FVec Ideal S2x128x128 .f32) : Wt :=
  shapeCast _ (extractStridedSlice S1x128x128 ![0, 0, 0] a slices_S2x128x128_S1x128x128_0_0_0) shapeCasts_S1x128x128_S128x128
def wt1 (a : FVec Ideal S2x128x128 .f32) : Wt :=
  shapeCast _ (extractStridedSlice S1x128x128 ![1, 0, 0] a slices_S2x128x128_S1x128x128_1_0_0) shapeCasts_S1x128x128_S128x128

/-- The images cut into windows. -/
def parts (x : Img) : Win :=
  shapeCast _ (transpose S2x16x16x8x8x128 [0, 2, 4, 3, 5, 1] (shapeCast _ x shapeCasts_S2x128x128x128_S2x128x16x8x16x8) transposes_S2x128x16x8x16x8_S2x16x16x8x8x128_0_2_4_3_5_1) shapeCasts_S2x16x16x8x8x128_S512x64x128

/-- The windows put back into images. -/
def back (y : Win) : Img :=
  shapeCast _ (transpose S2x128x16x8x16x8 [0, 5, 1, 3, 2, 4] (shapeCast _ y shapeCasts_S512x64x128_S2x16x16x8x8x128) transposes_S2x16x16x8x8x128_S2x128x16x8x16x8_0_5_1_3_2_4) shapeCasts_S2x128x16x8x16x8_S2x128x128x128

/-- The windows' rows projected and split into heads. -/
def heads (x : Win) (w : Wt) : FVec Ideal S512x8x64x16 .f32 :=
  transpose S512x8x64x16 [0, 2, 1, 3] (shapeCast _ (Host.dotGeneral dot_S512x64x128_S128x128_S512x64x128_2_0_01_1_n_n none x w) shapeCasts_S512x64x128_S512x64x8x16) transposes_S512x64x8x16_S512x8x64x16_0_2_1_3

/-- Every head's scores within a window. -/
def scoreW (q k : FVec Ideal S512x8x64x16 .f32) : FVec Ideal S512x8x64x64 .f32 :=
  Host.divf (Host.dotGeneral dot_S512x8x64x16_S512x8x64x16_S512x8x64x64_3_3_2_2_01_01 none q k) (broadcastInDim S512x8x64x64 ![] bcast_S_S512x8x64x64 (constant S_ .f32 0x40800000#32))

/-- The exponentials of the scores less their row's greatest. -/
def expW (s : FVec Ideal S512x8x64x64 .f32) : FVec Ideal S512x8x64x64 .f32 :=
  Host.exp (subf s (broadcastInDim S512x8x64x64 ![0, 1, 2, 3] bcast_S512x8x64x1_S512x8x64x64_0_1_2_3 (broadcastInDim S512x8x64x1 ![0, 1, 2] bcast_S512x8x64_S512x8x64x1_0_1_2 (maximumf (broadcastInDim S512x8x64 ![] bcast_S_S512x8x64 (constant S_ .f32 0xFF800000#32)) (Host.reduce FloatOps.maximumf s (constant S_ .f32 0xFF800000#32) reducesTo_S512x8x64x64_S512x8x64_d3 h_S_)))))

/-- The exponentials over their row's sum, times the values. -/
def mixW (e : FVec Ideal S512x8x64x64 .f32) (v : FVec Ideal S512x8x64x16 .f32) : FVec Ideal S512x8x64x16 .f32 :=
  Host.dotGeneral dot_S512x8x64x64_S512x8x64x16_S512x8x64x16_3_2_2_3_01_01 none (Host.divf e (broadcastInDim S512x8x64x64 ![0, 1, 2, 3] bcast_S512x8x64x1_S512x8x64x64_0_1_2_3 (broadcastInDim S512x8x64x1 ![0, 1, 2] bcast_S512x8x64_S512x8x64x1_0_1_2 (Host.reduceAdd e (constant S_ .f32 0x00000000#32) reducesTo_S512x8x64x64_S512x8x64_d3 h_S_)))) v

/-- The heads put side by side and projected. -/
def outW (o : FVec Ideal S512x8x64x16 .f32) (wo : Wt) : Win :=
  Host.dotGeneral dot_S512x64x128_S128x128_S512x64x128_2_0_01_1_n_n none (shapeCast _ (transpose S512x64x8x16 [0, 2, 1, 3] o transposes_S512x8x64x16_S512x64x8x16_0_2_1_3) shapeCasts_S512x64x8x16_S512x64x128) wo

/-- The windows plus their attention. -/
def winStep (x : Win) (wq wk wv wo : Wt) : Win :=
  addf x (outW (mixW (expW (scoreW (heads x wq) (heads x wk))) (heads x wv)) wo)

/-- Each window's mean row. -/
def poolStep (y : Win) : Pooled :=
  Host.divf (Host.reduceAdd (shapeCast _ y shapeCasts_S512x64x128_S2x256x64x128) (constant S_ .f32 0x00000000#32) reducesTo_S2x256x64x128_S2x256x128_d2 h_S_) (broadcastInDim S2x256x128 ![] bcast_S_S2x256x128 (constant S_ .f32 0x42800000#32))

/-- The pooled rows projected and split into heads. -/
def headsT (p : Pooled) (w : Wt) : FVec Ideal S2x8x256x16 .f32 :=
  transpose S2x8x256x16 [0, 2, 1, 3] (shapeCast _ (Host.dotGeneral dot_S2x256x128_S128x128_S2x256x128_2_0_01_1_n_n none p w) shapeCasts_S2x256x128_S2x256x8x16) transposes_S2x256x8x16_S2x8x256x16_0_2_1_3

/-- Every head's scores of the pooled rows. -/
def scoreT (q k : FVec Ideal S2x8x256x16 .f32) : FVec Ideal S2x8x256x256 .f32 :=
  Host.divf (Host.dotGeneral dot_S2x8x256x16_S2x8x256x16_S2x8x256x256_3_3_2_2_01_01 none q k) (broadcastInDim S2x8x256x256 ![] bcast_S_S2x8x256x256 (constant S_ .f32 0x40800000#32))

/-- The fifty greatest scores of a row and where they are. -/
def best (s : FVec Ideal S2x8x256x256 .f32) : FVec Ideal S2x8x256x50 .f32 × IVec S2x8x256x50 32 :=
  Host.topK S2x8x256x50 3 (FloatOps.cmpfTotal .gt) s sliceFits_S2x8x256x256_S2x8x256x50

/-- The exponentials of the fifty scores less their greatest. -/
def expT (s : FVec Ideal S2x8x256x50 .f32) : FVec Ideal S2x8x256x50 .f32 :=
  Host.exp (subf s (broadcastInDim S2x8x256x50 ![0, 1, 2, 3] bcast_S2x8x256x1_S2x8x256x50_0_1_2_3 (broadcastInDim S2x8x256x1 ![0, 1, 2] bcast_S2x8x256_S2x8x256x1_0_1_2 (maximumf (broadcastInDim S2x8x256 ![] bcast_S_S2x8x256 (constant S_ .f32 0xFF800000#32)) (Host.reduce FloatOps.maximumf s (constant S_ .f32 0xFF800000#32) reducesTo_S2x8x256x50_S2x8x256_d3 h_S_)))))

/-- The places as an index column, a negative one counted from the end. -/
def column (i : IVec S2x8x256x50 32) : IVec S2x8x256x50x1 32 :=
  broadcastInDim S2x8x256x50x1 ![0, 1, 2, 3] bcast_S2x8x256x50_S2x8x256x50x1_0_1_2_3 i
def wrap (i : IVec S2x8x256x50x1 32) : IVec S2x8x256x50x1 32 :=
  select (cmpi .slt i (broadcastInDim S2x8x256x50x1 ![] bcast_S_S2x8x256x50x1 (constantI S_ 32 0#32))) (addi i (broadcastInDim S2x8x256x50x1 ![] bcast_S_S2x8x256x50x1 (constantI S_ 32 256#32))) i

/-- Whether a place lies in the row. -/
def inside (i : IVec S2x8x256x50x1 32) : IVec S2x8x256x50 1 :=
  Host.reduce IntOp.andi (andi (cmpi .sge i (broadcastInDim S2x8x256x50x1 ![] bcast_S_S2x8x256x50x1 (constantI S_ 32 0#32))) (cmpi .sle i (broadcastInDim S2x8x256x50x1 ![0, 1, 2, 3, 4] bcast_S1x1x1x1x1_S2x8x256x50x1_0_1_2_3_4 (broadcastInDim S1x1x1x1x1 ![4] bcast_S1_S1x1x1x1x1_4 (constantI S1 32 255#32))))) (constantI S_ 1 1#1) reducesTo_S2x8x256x50x1_S2x8x256x50_d4 h_S_

/-- Every query's copy of the values. -/
def spread (v : FVec Ideal S2x8x256x16 .f32) : FVec Ideal S2x8x256x256x16 .f32 :=
  broadcastInDim S2x8x256x256x16 ![0, 1, 2, 3, 4] bcast_S2x8x1x256x16_S2x8x256x256x16_0_1_2_3_4 (broadcastInDim S2x8x1x256x16 ![0, 1, 3, 4] bcast_S2x8x256x16_S2x8x1x256x16_0_1_3_4 v)

/-- The values at the places. -/
def fetch (v : FVec Ideal S2x8x256x16 .f32) (i : IVec S2x8x256x50x1 32) : FVec Ideal S2x8x256x50x16 .f32 :=
  select (broadcastInDim S2x8x256x50x16 ![0, 1, 2, 3] bcast_S2x8x256x50_S2x8x256x50x16_0_1_2_3 (inside i)) (Host.gather gather_S2x8x256x256x16_S2x8x256x50x1_S2x8x256x50x16_4_3_012_012_3_4_111116 (spread v) i) (broadcastInDim S2x8x256x50x16 ![] bcast_S_S2x8x256x50x16 (constant S_ .f32 0x7FC00000#32))

/-- The fifty exponentials over their sum, times the fifty values. -/
def mixT (e : FVec Ideal S2x8x256x50 .f32) (g : FVec Ideal S2x8x256x50x16 .f32) : FVec Ideal S2x8x256x16 .f32 :=
  Host.dotGeneral dot_S2x8x256x50_S2x8x256x50x16_S2x8x256x16_3_3_n_4_012_012 none (Host.divf e (broadcastInDim S2x8x256x50 ![0, 1, 2, 3] bcast_S2x8x256x1_S2x8x256x50_0_1_2_3 (broadcastInDim S2x8x256x1 ![0, 1, 2] bcast_S2x8x256_S2x8x256x1_0_1_2 (Host.reduceAdd e (constant S_ .f32 0x00000000#32) reducesTo_S2x8x256x50_S2x8x256_d3 h_S_)))) g

/-- The heads put side by side and projected. -/
def outT (o : FVec Ideal S2x8x256x16 .f32) (wo : Wt) : Pooled :=
  Host.dotGeneral dot_S2x256x128_S128x128_S2x256x128_2_0_01_1_n_n none (shapeCast _ (transpose S2x256x8x16 [0, 2, 1, 3] o transposes_S2x8x256x16_S2x256x8x16_0_2_1_3) shapeCasts_S2x256x8x16_S2x256x128) wo

/-- The pooled rows' attention, each query over its fifty best keys. -/
def topStep (p p' : Pooled) (wq wk wv wo : Wt) : Pooled :=
  outT (mixT (expT (best (scoreT (headsT p wq) (headsT p' wk))).1)
    (fetch (headsT p' wv) (wrap (column (best (scoreT (headsT p wq) (headsT p' wk))).2)))) wo

/-- A pooled row added to every row of its window. -/
def addStep (y : Win) (o : Pooled) : Win :=
  shapeCast _ (addf (shapeCast _ y shapeCasts_S512x64x128_S2x256x64x128) (broadcastInDim S2x256x64x128 ![0, 1, 2, 3] bcast_S2x256x1x128_S2x256x64x128_0_1_2_3 (broadcastInDim S2x256x1x128 ![0, 1, 3] bcast_S2x256x128_S2x256x1x128_0_1_3 o))) shapeCasts_S2x256x64x128_S512x64x128

/-- The images as rows of pixels. -/
def flat (x : Img) : FVec Ideal S2x16384x128 .f32 :=
  transpose S2x16384x128 [0, 2, 1] (shapeCast _ x shapeCasts_S2x128x128x128_S2x128x16384) transposes_S2x128x16384_S2x16384x128_0_2_1

/-- The first layer's windows after their own attention, and after the pooled rows'. -/
def mid1 (x : Img) (a2 a3 a4 a5 : FVec Ideal S2x128x128 .f32) : Win := winStep (parts x) (wt0 a2) (wt0 a3) (wt0 a4) (wt0 a5)
def full1 (y : Win) (a6 a7 a8 a9 : FVec Ideal S2x128x128 .f32) : Win :=
  addStep y (topStep (poolStep y) (poolStep y) (wt0 a6) (wt0 a7) (wt0 a8) (wt0 a9))
/-- The same of the second layer. -/
def mid2 (x : Img) (a2 a3 a4 a5 : FVec Ideal S2x128x128 .f32) : Win := winStep (parts x) (wt1 a2) (wt1 a3) (wt1 a4) (wt1 a5)
def full2 (y : Win) (a6 a7 a8 a9 : FVec Ideal S2x128x128 .f32) : Win :=
  addStep y (topStep (poolStep y) (poolStep y) (wt1 a6) (wt1 a7) (wt1 a8) (wt1 a9))

/-- The whole reference: both of its results. -/
def whole (x : Img) (a2 a3 a4 a5 a6 a7 a8 a9 : FVec Ideal S2x128x128 .f32) : FVec Ideal S2x16384x128 .f32 :=
  flat (back (full2 (mid2 (back (full1 (mid1 x a2 a3 a4 a5) a6 a7 a8 a9)) a2 a3 a4 a5) a6 a7 a8 a9))

end Cert.ReferenceIdeal.Steps

namespace Cert.ReferenceIdeal.Steps

open Cert.ReferenceIdeal Cert.ReferenceIdeal.Gen Cert.ReferenceIdeal.Value Idealize.ShloMosaic Idealize.ShloMosaic.TcCoe Idealize.SL.Sem Idealize.ShloMosaic.StableHlo

variable (V0 : Valuation τ sig (Elt Ideal))

/-- The arguments the results depend on, read off the launch's contents. -/
abbrev rd (b : Ref sig .tc) := V0 (Proc.devRef .tc b)

def midA : Win := mid1 (rd V0 main_arg0) (rd V0 main_arg2) (rd V0 main_arg3) (rd V0 main_arg4) (rd V0 main_arg5)

theorem e25 : res_main_v25 (F := Ideal) V0 = scoreW (heads (parts (rd V0 main_arg0)) (wt0 (rd V0 main_arg2))) (heads (parts (rd V0 main_arg0)) (wt0 (rd V0 main_arg3))) := rfl
theorem e41 : res_main_v41 (F := Ideal) V0 = midA V0 := rfl
theorem e89 : res_main_v89 (F := Ideal) V0 = poolStep (midA V0) := rfl

def fullA : Win := full1 (midA V0) (rd V0 main_arg6) (rd V0 main_arg7) (rd V0 main_arg8) (rd V0 main_arg9)
def midB : Win := mid2 (back (fullA V0)) (rd V0 main_arg2) (rd V0 main_arg3) (rd V0 main_arg4) (rd V0 main_arg5)

theorem e105 : res_main_v105 (F := Ideal) V0 = scoreT (headsT (poolStep (midA V0)) (wt0 (rd V0 main_arg6))) (headsT (poolStep (midA V0)) (wt0 (rd V0 main_arg7))) := rfl

theorem e190 : res_main_v190 (F := Ideal) V0 = parts (back (fullA V0)) := rfl
theorem e193 : res_main_v193 (F := Ideal) V0 = parts (back (fullA V0)) := rfl
theorem e229 : res_main_v229 (F := Ideal) V0 = midB V0 := rfl
theorem e265 : res_main_v265 (F := Ideal) V0 = midB V0 := rfl
theorem e281 : res_main_v281 (F := Ideal) V0 = poolStep (midB V0) := rfl
theorem e336 : res_main_v336 (F := Ideal) V0 = poolStep (midB V0) := rfl

/-- The reference's run: both results are the whole of the steps. -/
theorem run_whole (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v377) = whole (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v379) = whole (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  Value.run m ρ

end Cert.ReferenceIdeal.Steps
-- ==== Proof.PreMasks.lean ====
module

public import proofs.«01_k».proof.Proof.RefOps
public import proofs.«01_k».proof.Pre_separated
public import Idealize.ShloMosaic.Lib.Decide

@[expose] public section

noncomputable section

/-! The precondition's thirteen masks as functions of the reference's steps. -/

namespace Cert.Pre_separated.Masks

open Cert.ReferenceIdeal Cert.ReferenceIdeal.Gen Cert.ReferenceIdeal.Steps Idealize.ShloMosaic

/-- The shape relations the precondition's operations take. -/
theorem facts : Cert.Pre_separated.Facts := by constructor <;> decide

theorem bcast_img : S_.BroadcastsInDim S2x128x128x128 (![] : Fin 0 → Fin S2x128x128x128.rank) := by decide
theorem bcast_wt : S_.BroadcastsInDim S2x128x128 (![] : Fin 0 → Fin S2x128x128.rank) := by decide
theorem slices_last : S2x8x256x50.Slices ![0, 0, 0, 49] S2x8x256x1 := by decide
theorem bcast_one : S_.BroadcastsInDim S2x8x256x1 (![] : Fin 0 → Fin S2x8x256x1.rank) := by decide
theorem bcast_row : S2x8x256x1.BroadcastsInDim S2x8x256x256 (![0, 1, 2, 3] : Fin 4 → Fin S2x8x256x256.rank) := by decide
theorem reducesTo_row : S2x8x256x256.ReducesTo [3] S2x8x256 := by decide
theorem shapeCasts_one : S2x8x256x1.ShapeCasts S2x8x256 := by decide

/-- Which entries of the images are finite. -/
def finImg (x : Img) : IVec S2x128x128x128 1 :=
  cmpf .olt (Host.absf x) (broadcastInDim S2x128x128x128 ![] bcast_img (constant S_ .f32 0x7F800000#32))

/-- Which entries of two weight matrices are finite. -/
def finWt (a : FVec Ideal S2x128x128 .f32) : IVec S2x128x128 1 :=
  cmpf .olt (Host.absf a) (broadcastInDim S2x128x128 ![] bcast_wt (constant S_ .f32 0x7F800000#32))

/-- The fiftieth greatest score of each row, of the fifty greatest. -/
def last (v : FVec Ideal S2x8x256x50 .f32) : FVec Ideal S2x8x256x1 .f32 :=
  extractStridedSlice S2x8x256x1 ![0, 0, 0, 49] v slices_last

/-- How many scores of each row are at least `t` less the margin. -/
def near (s : FVec Ideal S2x8x256x256 .f32) (t : FVec Ideal S2x8x256x1 .f32) : FVec Ideal S2x8x256 .f32 :=
  Host.reduceAdd (uitofp .f32 (cmpf .oge s (broadcastInDim S2x8x256x256 ![0, 1, 2, 3] bcast_row (subf t (broadcastInDim S2x8x256x1 ![] bcast_one (constant S_ .f32 0x36F00000#32)))))) (constant S_ .f32 0x00000000#32) reducesTo_row h_S_

/-- Which rows have at most fifty such scores. -/
def countMask (s : FVec Ideal S2x8x256x256 .f32) : IVec S2x8x256 1 :=
  cmpf .ole (near s (last (best s).1)) (broadcastInDim S2x8x256 ![] bcast_S_S2x8x256 (constant S_ .f32 0x42480000#32))

/-- Each row's greatest score. -/
def greatest (s : FVec Ideal S2x8x256x256 .f32) : FVec Ideal S2x8x256 .f32 :=
  Host.reduce FloatOps.maximumf s (constant S_ .f32 0xFF800000#32) reducesTo_row h_S_

/-- Which rows' numbers `g` lie at most thirty above `t`. -/
def within (g : FVec Ideal S2x8x256 .f32) (t : FVec Ideal S2x8x256x1 .f32) : IVec S2x8x256 1 :=
  cmpf .ole (subf g (shapeCast S2x8x256 t shapeCasts_one)) (broadcastInDim S2x8x256 ![] bcast_S_S2x8x256 (constant S_ .f32 0x41F00000#32))

/-- Which rows' greatest score lies at most thirty above the fiftieth. -/
def spanMask (s : FVec Ideal S2x8x256x256 .f32) : IVec S2x8x256 1 := within (greatest s) (last (best s).1)

/-- A layer's scores of the pooled rows. -/
def scores (y : Win) (wq wk : Wt) : FVec Ideal S2x8x256x256 .f32 := scoreT (headsT (poolStep y) wq) (headsT (poolStep y) wk)

variable (x x' : Img) (a2 a3 a4 a5 a6 a7 a8 a9 : FVec Ideal S2x128x128 .f32)

/-- The first and the second layer's scores, as the precondition computes them. -/
def s1 : FVec Ideal S2x8x256x256 .f32 := scores (mid1 x a2 a3 a4 a5) (wt0 a6) (wt0 a7)
def s2 : FVec Ideal S2x8x256x256 .f32 :=
  scores (mid2 (back (full1 (mid1 x a2 a3 a4 a5) a6 a7 a8 a9)) a2 a3 a4 a5) (wt1 a6) (wt1 a7)

/-- The precondition's function is the thirteen masks. -/
theorem fn_masks : letI := facts; Cert.Pre_separated.fn (F := Ideal) x x' a2 a3 a4 a5 a6 a7 a8 a9
    = (finImg x, finWt a2, finWt a3, finWt a4, finWt a5, finWt a6, finWt a7, finWt a8, finWt a9,
      countMask (s1 x a2 a3 a4 a5 a6 a7), spanMask (s1 x a2 a3 a4 a5 a6 a7),
      countMask (s2 x a2 a3 a4 a5 a6 a7 a8 a9), spanMask (s2 x a2 a3 a4 a5 a6 a7 a8 a9)) := rfl

end Cert.Pre_separated.Masks
-- ==== Proof.Model.lean ====
module

public import Idealize.ShloMosaic.Lib.Pointwise

@[expose] public section

noncomputable section

/-! The computation both programs make, over the real numbers: rows of 128 channels, eight heads of 16 channels each. -/

namespace Cert.Model

open Finset

abbrev Mat := Fin 128 → Fin 128 → ℝ

/-- Rows times a weight matrix. -/
def proj {n : Nat} (x : Fin n → Fin 128 → ℝ) (w : Mat) : Fin n → Fin 128 → ℝ := fun r c => ∑ d, x r d * w d c

/-- The head a channel belongs to. -/
def head (c : Fin 128) : Fin 8 := ⟨c.val / 16, by omega⟩

/-- A head's score of query row `i` against key row `j`. -/
def score {n : Nat} (q k : Fin n → Fin 128 → ℝ) (h : Fin 8) (i j : Fin n) : ℝ :=
  (∑ c, if head c = h then q i c * k j c else 0) * (1 / 4)

/-- The softmax over a set of keys. -/
def soft {n : Nat} (T : Finset (Fin n)) (s : Fin n → ℝ) (j : Fin n) : ℝ := Real.exp (s j) / ∑ j' ∈ T, Real.exp (s j')

/-- Attention in which head `h`'s query `i` attends to the keys `T h i`. -/
def attn {n : Nat} (T : Fin 8 → Fin n → Finset (Fin n)) (q k v : Fin n → Fin 128 → ℝ) : Fin n → Fin 128 → ℝ := fun i c =>
  ∑ j ∈ T (head c) i, soft (T (head c) i) (score q k (head c) i) j * v j c

/-- The keys of which fewer than fifty score higher. -/
def sel {n : Nat} (s : Fin n → ℝ) : Finset (Fin n) := univ.filter fun j => (univ.filter fun j' => s j < s j').card < 50

/-- A window's rows plus their attention. -/
def win (x : Fin 64 → Fin 128 → ℝ) (wq wk wv wo : Mat) : Fin 64 → Fin 128 → ℝ := fun i c =>
  x i c + proj (attn (fun _ _ => univ) (proj x wq) (proj x wk) (proj x wv)) wo i c

/-- Each window's mean row. -/
def pool (y : Fin 256 → Fin 64 → Fin 128 → ℝ) : Fin 256 → Fin 128 → ℝ := fun w c => (∑ t, y w t c) * (1 / 64)

/-- The pooled rows' scores. -/
def scores (p : Fin 256 → Fin 128 → ℝ) (wq wk : Mat) : Fin 8 → Fin 256 → Fin 256 → ℝ := score (proj p wq) (proj p wk)

/-- The pooled rows' attention, each query over its fifty best keys. -/
def top (p : Fin 256 → Fin 128 → ℝ) (wq wk wv wo : Mat) : Fin 256 → Fin 128 → ℝ :=
  proj (attn (fun h i => sel (scores p wq wk h i)) (proj p wq) (proj p wk) (proj p wv)) wo

/-- Eight weight matrices of a layer: the windows' four, then the pooled rows' four. -/
structure Wts where
  (q k v o tq tk tv tp : Mat)

/-- A batch's windows after their own attention. -/
def mid (x : Fin 256 → Fin 64 → Fin 128 → ℝ) (W : Wts) : Fin 256 → Fin 64 → Fin 128 → ℝ := fun w => win (x w) W.q W.k W.v W.o

/-- A layer on one batch. -/
def layer (x : Fin 256 → Fin 64 → Fin 128 → ℝ) (W : Wts) : Fin 256 → Fin 64 → Fin 128 → ℝ := fun w t c =>
  mid x W w t c + top (pool (mid x W)) W.tq W.tk W.tv W.tp w c

/-- A row of scores has a fiftieth greatest entry `t`: fifty entries are at least `t`, one is `t`, the others lie below it by
    more than the bisection's last step, and none exceeds it by more than 30. -/
def Sep (s : Fin 256 → ℝ) : Prop := ∃ t, (univ.filter fun j => t ≤ s j).card = 50 ∧ (∃ j, s j = t)
  ∧ (∀ j, s j < t → s j < t - 30 / 4194304) ∧ ∀ j, s j - t ≤ 30

/-- The fifty entries at least `t` are the selected ones. -/
theorem sel_eq (s : Fin 256 → ℝ) (t : ℝ) (h : (univ.filter fun j => t ≤ s j).card = 50) : sel s = univ.filter fun j => t ≤ s j := by
  ext j
  simp only [sel, mem_filter, mem_univ, true_and]
  constructor
  · intro hj
    by_contra hlt
    have : (univ.filter fun j => t ≤ s j) ⊆ univ.filter fun j' => s j < s j' := fun j' hj' => by
      simp only [mem_filter, mem_univ, true_and] at hj' ⊢; linarith [not_le.mp hlt]
    have := card_le_card this
    omega
  · intro hj
    have : (univ.filter fun j' => s j < s j') ⊂ univ.filter fun j => t ≤ s j := by
      refine (ssubset_iff_of_subset fun j' hj' => ?_).mpr ⟨j, by simpa using hj, by simp⟩
      simp only [mem_filter, mem_univ, true_and] at hj' ⊢; linarith
    have := card_lt_card this
    omega

/-- A softmax does not see a shift of its scores. -/
theorem soft_shift {n : Nat} (T : Finset (Fin n)) (s : Fin n → ℝ) (m : ℝ) (j : Fin n) :
    Real.exp (s j - m) / ∑ j' ∈ T, Real.exp (s j' - m) = soft T s j := by
  simp only [soft, Real.exp_sub, ← sum_div]
  rw [div_div_div_cancel_right₀ (Real.exp_pos m).ne']

/-- One bisection step on a row's gaps `u`. -/
def bstep (u : Fin 256 → ℝ) (p : ℝ × ℝ) : ℝ × ℝ :=
  if 50 ≤ (univ.filter fun j => u j ≤ (p.1 + p.2) * (1 / 2)).card then (p.1, (p.1 + p.2) * (1 / 2)) else ((p.1 + p.2) * (1 / 2), p.2)

/-- The bounds after `n` steps. -/
def bnds (u : Fin 256 → ℝ) (n : Nat) : ℝ × ℝ := (bstep u)^[n] (0, 30)

theorem bnds_succ (u : Fin 256 → ℝ) (n : Nat) : bnds u (n + 1) = bstep u (bnds u n) := Function.iterate_succ_apply' _ _ _

/-- The bounds halve their distance, and the fiftieth smallest gap stays between them. -/
theorem bnds_inv (s : Fin 256 → ℝ) (mx t : ℝ) (h50 : (univ.filter fun j => t ≤ s j).card = 50) (ht : t ≤ mx) (hsp : mx - t ≤ 30) (n : Nat) :
    (bnds (fun j => mx - s j) n).2 - (bnds (fun j => mx - s j) n).1 = 30 / 2 ^ n
      ∧ (bnds (fun j => mx - s j) n).1 ≤ mx - t
      ∧ 50 ≤ (univ.filter fun j => mx - s j ≤ (bnds (fun j => mx - s j) n).2).card := by
  induction n with
  | zero =>
    refine ⟨by simp [bnds], by simpa [bnds] using ht, ?_⟩
    rw [← h50]
    refine card_le_card fun j hj => ?_
    simp only [mem_filter, mem_univ, true_and] at hj ⊢
    show mx - s j ≤ 30
    linarith
  | succ n ih =>
    obtain ⟨h1, h2, h3⟩ := ih
    rw [bnds_succ]
    generalize bnds (fun j => mx - s j) n = p at h1 h2 h3
    unfold bstep
    by_cases hc : 50 ≤ (univ.filter fun j => mx - s j ≤ (p.1 + p.2) * (1 / 2)).card
    · rw [if_pos hc]
      refine ⟨?_, h2, hc⟩
      show (p.1 + p.2) * (1 / 2) - p.1 = _
      rw [pow_succ, ← div_div, ← h1]; ring
    · rw [if_neg hc]
      refine ⟨?_, ?_, h3⟩
      · show p.2 - (p.1 + p.2) * (1 / 2) = _
        rw [pow_succ, ← div_div, ← h1]; ring
      · show (p.1 + p.2) * (1 / 2) ≤ mx - t
        by_contra hlt
        apply hc
        rw [← h50]
        refine card_le_card fun j hj => ?_
        simp only [mem_filter, mem_univ, true_and] at hj ⊢
        linarith [not_le.mp hlt]

/-- After 22 steps the entries within the upper bound are the selected ones. -/
theorem bnds_sel (s : Fin 256 → ℝ) (hs : Sep s) (mx : ℝ) (hmx : ∀ j, s j ≤ mx) (hat : ∃ j, s j = mx) (j : Fin 256) :
    mx - s j ≤ (bnds (fun j => mx - s j) 22).2 ↔ j ∈ sel s := by
  obtain ⟨t, h50, ⟨j0, hj0⟩, hgap, hspan⟩ := hs
  obtain ⟨jm, hjm⟩ := hat
  obtain ⟨h1, h2, h3⟩ := bnds_inv s mx t h50 (hj0 ▸ hmx j0) (hjm ▸ hspan jm) 22
  rw [sel_eq s t h50]
  simp only [mem_filter, mem_univ, true_and]
  generalize bnds (fun j => mx - s j) 22 = p at h1 h2 h3
  have hge : mx - t ≤ p.2 := by
    by_contra hlt
    have : (univ.filter fun j => mx - s j ≤ p.2) ⊂ univ.filter fun j => t ≤ s j := by
      refine (ssubset_iff_of_subset fun j' hj' => ?_).mpr ⟨j0, by simp [hj0], ?_⟩
      · simp only [mem_filter, mem_univ, true_and] at hj' ⊢; linarith [not_le.mp hlt]
      · simp only [mem_filter, mem_univ, true_and, hj0]; exact hlt
    have := card_lt_card this
    omega
  constructor
  · intro hj
    by_contra hlt
    have := hgap j (not_le.mp hlt)
    norm_num at h1
    linarith
  · intro hj; linarith

/-- A sum over a head's channels is a sum over its sixteen. -/
theorem sum_head (f : Fin 128 → ℝ) (h : Fin 8) :
    (∑ c, if head c = h then f c else 0) = ∑ e : Fin 16, f ⟨h.val * 16 + e.val, by omega⟩ := by
  rw [← sum_filter]
  symm
  refine sum_bij (fun e _ => ⟨h.val * 16 + e.val, by omega⟩) ?_ ?_ ?_ ?_
  · intro e _; simp only [mem_filter, mem_univ, true_and, head, Fin.ext_iff]; omega
  · intro a _ b _ hab; simp only [Fin.mk.injEq] at hab; exact Fin.ext (by omega)
  · intro c hc
    simp only [mem_filter, mem_univ, true_and, head, Fin.ext_iff] at hc
    exact ⟨⟨c.val % 16, by omega⟩, mem_univ _, Fin.ext (by show h.val * 16 + c.val % 16 = c.val; omega)⟩
  · intro e _; rfl

end Cert.Model
-- ==== Proof.WinReal.lean ====
module

public import proofs.«01_k».proof.Proof.Spec
public import proofs.«01_k».proof.Proof.Model
public import Idealize.ShloMosaic.Lib.Pipeline.Value

@[expose] public section

set_option maxRecDepth 16384

noncomputable section

/-! The window layer of the kernel on real-valued blocks. -/

namespace Cert.KernelIdeal

open Cert.KernelIdeal.Gen
open Idealize.ShloMosaic

/-- The matrix of real numbers `f` as a block. -/
def R2 {a b : Nat} (f : Fin a → Fin b → ℝ) : FVec Ideal (⟨2, ![a, b]⟩ : Shape) .f32 := fun i => ((f (i 0) (i 1) : ℝ) : EReal)

theorem R2_apply {a b : Nat} (f : Fin a → Fin b → ℝ) (r : Fin a) (c : Fin b) : R2 f (ix2 r c) = ((f r c : ℝ) : EReal) := rfl

theorem coe_sum {ι : Type} (S : Finset ι) (f : ι → ℝ) : (∑ i ∈ S, ((f i : ℝ) : EReal)) = ((∑ i ∈ S, f i : ℝ) : EReal) := by
  classical
  induction S using Finset.induction_on with
  | empty => simp
  | insert a S h ih => rw [Finset.sum_insert h, Finset.sum_insert h, ih, EReal.coe_add]

theorem proj_real (x : Fin 2048 → Fin 128 → ℝ) (w : Model.Mat) : proj (F := Ideal) (R2 x) (R2 w) = R2 (Model.proj x w) := by
  funext i
  idx_vars i
  pointwise [proj]
  simp only [R2_apply, Model.proj, ← EReal.coe_mul, coe_sum]

/-- A word's quotient rounded down, as the kernel spells it. -/
def fdiv (w d : BitVec 32) : BitVec 32 :=
  Scalar.select
    (IntOp.andi
      (IntOp.cmpi .ne
        (IntOp.subi (BitVec.setWidth 32 (IntOp.cmpi .sgt w 0#32)) (BitVec.setWidth 32 (IntOp.cmpi .slt w 0#32)))
        (Scalar.subi (Scalar.extui (Scalar.cmpi .sgt d 0#32)) (Scalar.extui (Scalar.cmpi .slt d 0#32))))
      (IntOp.cmpi .ne (IntOp.remsi .vector w d) 0#32))
    (IntOp.subi (IntOp.divsi .vector w d) 1#32)
    (IntOp.divsi .vector w d)

theorem fdiv64 : ∀ r : Fin 2048, fdiv (BitVec.ofNat 32 r.val) 64#32 = BitVec.ofNat 32 (r.val / 64) := by decide +kernel
theorem fdiv256 : ∀ r : Fin 2048, fdiv (BitVec.ofNat 32 r.val) 256#32 = BitVec.ofNat 32 (r.val / 256) := by decide +kernel
theorem fdiv16 : ∀ r : Fin 128, fdiv (BitVec.ofNat 32 r.val) 16#32 = BitVec.ofNat 32 (r.val / 16) := by decide +kernel

/-- The bit of an equality of small words, as a float. -/
theorem bit_eq (a b : Nat) (ha : a < 2 ^ 32) (hb : b < 2 ^ 32) :
    (FloatOps.sitofp (F := Ideal) FTy.f32 (BitVec.setWidth 32 (IntOp.cmpi .eq (BitVec.ofNat 32 a) (BitVec.ofNat 32 b))) : EReal)
      = ((if a = b then 1 else 0 : ℝ) : EReal) := by
  have e : (BitVec.ofNat 32 a = BitVec.ofNat 32 b) ↔ a = b :=
    ⟨fun h => by have := congrArg BitVec.toNat h; rwa [BitVec.toNat_ofNat, BitVec.toNat_ofNat, Nat.mod_eq_of_lt ha, Nat.mod_eq_of_lt hb] at this, fun h => by rw [h]⟩
  by_cases h : a = b
  · subst h
    simp [IntOp.cmpi, FloatOps.sitofp]
  · have h' : ¬(BitVec.ofNat 32 a = BitVec.ofNat 32 b) := fun hh => h (e.mp hh)
    rw [if_neg h]
    unfold IntOp.cmpi
    dsimp only
    rw [show (BitVec.ofNat 32 a == BitVec.ofNat 32 b) = false from beq_eq_false_iff_ne.mpr h']; simp [FloatOps.sitofp]

theorem hmask_real : hmask (F := Ideal) = R2 fun r c => if r.val / 64 = c.val / 16 then 1 else 0 := by
  funext i
  idx_vars i
  pointwise [hmask, k0_pay10, k0_pay11, k0_pay12]
  change FloatOps.sitofp (F := Ideal) FTy.f32 (BitVec.setWidth 32 (IntOp.cmpi .eq (fdiv (BitVec.ofNat 32 i0.val) 64#32) (fdiv (BitVec.ofNat 32 i1.val) 16#32))) = _
  rw [fdiv64 ⟨i0.val, by omega⟩, fdiv16 i1, bit_eq _ _ (by omega) (by omega)]
  rfl

theorem div_real (x y : ℝ) (h : y ≠ 0) : Ideal.div (x : EReal) (y : EReal) = ((x / y : ℝ) : EReal) := by
  rw [Ideal.div_coe h, ← EReal.coe_mul, mul_one_div]

theorem lit_quarter : (Ideal.ofBits .f32 0x3E800000#32 : EReal) = ((1 / 4 : ℝ) : EReal) := by
  simp [Ideal.ofBits, Ideal.ieee, -EReal.coe_mul]; norm_num

/-- Window `n`'s rows of a group. -/
def rowsAt (q : Fin 2048 → Fin 128 → ℝ) (n : Fin 32) : Fin 64 → Fin 128 → ℝ := fun i c => q ⟨64 * n.val + i.val, by omega⟩ c

theorem ite_coe (p : Prop) [Decidable p] (a : ℝ) : (if p then a else 0) = (if p then 1 else 0) * a := by split <;> simp

/-- Eight copies of a window's rows, one under another. -/
theorem rep64 (x : FVec Ideal S64x128 .f32) (h : Shape.Concatenates [S64x128, S64x128, S64x128, S64x128, S64x128, S64x128, S64x128, S64x128] S512x128 0) :
    concatenate S512x128 0 [⟨S64x128, x⟩, ⟨S64x128, x⟩, ⟨S64x128, x⟩, ⟨S64x128, x⟩, ⟨S64x128, x⟩, ⟨S64x128, x⟩, ⟨S64x128, x⟩, ⟨S64x128, x⟩] h
      = fun i => x (ix2 ⟨(i 0).val % 64, Nat.mod_lt _ (by decide)⟩ (i 1)) := by
  funext i
  have hi : (i 0).val < 512 := (i 0).isLt
  exact concatenate_ofFn_apply (t := S512x128) (s₁ := S64x128) 0 (fun _ : Fin 8 => x) h rfl 64 rfl i ⟨(i 0).val / 64, by omega⟩ rfl
    (ix2 ⟨(i 0).val % 64, Nat.mod_lt _ (by decide)⟩ (i 1)) rfl
    (fun b hb => by match b with | ⟨0, _⟩ => exact absurd rfl hb | ⟨1, _⟩ => rfl)

theorem soft_nonneg_sum {n : Nat} (T : Finset (Fin n)) (hT : T.Nonempty) (s : Fin n → ℝ) : (∑ j ∈ T, Real.exp (s j)) ≠ 0 :=
  (Finset.sum_pos (fun j _ => Real.exp_pos _) hT).ne'

theorem winPack_real (q k v : Fin 2048 → Fin 128 → ℝ) (n : Fin 32) (h : S2048x128.Slices ![64 * n.val, 0] S64x128) :
    winPack (F := Ideal) (R2 fun r c => if r.val / 64 = c.val / 16 then 1 else 0) (R2 q) (R2 k) (R2 v) ![64 * n.val, 0] h
      = R2 fun r c => ∑ j, Model.soft Finset.univ (Model.score (rowsAt q n) (rowsAt k n) ⟨r.val / 64, by omega⟩ ⟨r.val % 64, by omega⟩) j
          * rowsAt v n j c := by
  funext i
  idx_vars i
  unfold winPack
  dsimp only
  rw [rep64]
  pointwise
  simp only [R2_apply, lit_quarter, ← EReal.coe_mul, coe_sum, Ideal.exp_coe]
  rw [Finset.sum_congr rfl fun x _ => by rw [div_real _ _ (soft_nonneg_sum _ ⟨0, Finset.mem_univ _⟩ _)]]
  simp only [← EReal.coe_mul, coe_sum]
  congr 1
  refine Finset.sum_congr rfl fun x _ => ?_
  congr 1
  have e : ∀ x : Fin 64, (∑ c, q ⟨64 * n.val + i0.val % 64, by omega⟩ c * (if i0.val / 64 = c.val / 16 then 1 else 0) * k ⟨64 * n.val + x.val, by omega⟩ c) * (1 / 4)
      = Model.score (rowsAt q n) (rowsAt k n) ⟨i0.val / 64, by omega⟩ ⟨i0.val % 64, by omega⟩ x := fun x => by
    unfold Model.score
    congr 1
    refine Finset.sum_congr rfl fun c _ => ?_
    simp only [Model.head, Fin.mk.injEq, rowsAt]
    by_cases hc : i0.val / 64 = c.val / 16
    · rw [if_pos hc, if_pos hc.symm]; ring
    · rw [if_neg hc, if_neg (fun hh => hc hh.symm)]; ring
  unfold Model.soft
  simp only [← e]

theorem headSum_real (p : Fin 512 → Fin 128 → ℝ) :
    headSum (F := Ideal) (R2 fun r c => if r.val / 64 = c.val / 16 then 1 else 0) (R2 p) = R2 fun i c => p ⟨64 * (c.val / 16) + i.val, by omega⟩ c := by
  funext i
  idx_vars i
  pointwise [headSum]
  simp only [R2_apply, ← EReal.coe_mul, ← EReal.coe_add]
  congr 1
  have h8 : i1.val / 16 < 8 := by omega
  have hi : i0.val / 64 = 0 := by omega
  have hk : ∀ k, (64 * k + i0.val) / 64 = k := fun k => by omega
  simp only [hi, show (64 + i0.val) / 64 = 1 by omega, show (128 + i0.val) / 64 = 2 by omega, show (192 + i0.val) / 64 = 3 by omega,
    show (256 + i0.val) / 64 = 4 by omega, show (320 + i0.val) / 64 = 5 by omega, show (384 + i0.val) / 64 = 6 by omega,
    show (448 + i0.val) / 64 = 7 by omega]
  have hg : i1.val / 16 = 0 ∨ i1.val / 16 = 1 ∨ i1.val / 16 = 2 ∨ i1.val / 16 = 3 ∨ i1.val / 16 = 4 ∨ i1.val / 16 = 5 ∨ i1.val / 16 = 6
      ∨ i1.val / 16 = 7 := by omega
  rcases hg with hg | hg | hg | hg | hg | hg | hg | hg <;> simp [hg]

theorem attn_win (q k v : Fin 2048 → Fin 128 → ℝ) (n : Fin 32) (h : S2048x128.Slices ![64 * n.val, 0] S64x128) :
    headSum (F := Ideal) hmask (winPack hmask (R2 q) (R2 k) (R2 v) ![64 * n.val, 0] h)
      = R2 (Model.attn (fun _ _ => Finset.univ) (rowsAt q n) (rowsAt k n) (rowsAt v n)) := by
  rw [hmask_real, winPack_real, headSum_real]
  funext i
  idx_vars i
  simp only [R2_apply, Model.attn, Model.head]
  congr 1
  refine Finset.sum_congr rfl fun j _ => ?_
  have e1 : (64 * (i1.val / 16) + i0.val) / 64 = i1.val / 16 := by omega
  have e2 : (64 * (i1.val / 16) + i0.val) % 64 = i0.val := by omega
  simp only [e1, e2]

/-- A group's rows from its windows' rows. -/
def stack (f : Fin 32 → Fin 64 → Fin 128 → ℝ) : Fin 2048 → Fin 128 → ℝ := fun r c => f ⟨r.val / 64, by omega⟩ ⟨r.val % 64, by omega⟩ c

theorem slices64 : ∀ n : Fin 32, S2048x128.Slices ![64 * n.val, 0] S64x128 := by decide

theorem winAll_real (q k v : Fin 2048 → Fin 128 → ℝ) : winAll (F := Ideal) hmask (R2 q) (R2 k) (R2 v)
      = R2 (stack fun n => Model.attn (fun _ _ => Finset.univ) (rowsAt q n) (rowsAt k n) (rowsAt v n)) := by
  funext i
  have hi : (i 0).val < 2048 := (i 0).isLt
  refine (concatenate_ofFn_apply (t := S2048x128) (s₁ := S64x128) 0
    (fun n : Fin 32 => headSum (F := Ideal) hmask (winPack hmask (R2 q) (R2 k) (R2 v) ![64 * n.val, 0] (slices64 n)))
    concatenates_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S2048x128_d0
    rfl 64 rfl i ⟨(i 0).val / 64, by omega⟩ rfl
    (ix2 ⟨(i 0).val % 64, Nat.mod_lt _ (by decide)⟩ (i 1)) rfl
    (fun b hb => by match b with | ⟨0, _⟩ => exact absurd rfl hb | ⟨1, _⟩ => rfl)).trans ?_
  rw [attn_win]
  rfl

theorem wg_real (x : Fin 32 → Fin 64 → Fin 128 → ℝ) (wq wk wv wo : Model.Mat) :
    wg (F := Ideal) (R2 (stack x)) (R2 wq) (R2 wk) (R2 wv) (R2 wo) = R2 (stack fun n => Model.win (x n) wq wk wv wo) := by
  unfold wg
  rw [proj_real, proj_real, proj_real, winAll_real, proj_real]
  funext i
  idx_vars i
  pointwise
  rw [R2_apply, R2_apply, R2_apply, ← EReal.coe_add]
  congr 1
  have e : ∀ (w : Model.Mat) (n : Fin 32), rowsAt (Model.proj (stack x) w) n = Model.proj (x n) w := fun w n => by
    funext i c
    simp only [rowsAt, Model.proj, stack]
    have e1 : (64 * n.val + i.val) / 64 = n.val := by omega
    have e2 : (64 * n.val + i.val) % 64 = i.val := by omega
    simp only [e1, e2]
  simp only [e]
  rfl
end Cert.KernelIdeal
-- ==== Proof.TopReal.lean ====
module

public import proofs.«01_k».proof.Proof.WinReal

@[expose] public section

set_option maxRecDepth 16384

noncomputable section

/-! The pooled layer of the kernel on real-valued blocks. -/

namespace Cert.KernelIdeal

open Cert.KernelIdeal.Gen
open Idealize.ShloMosaic

theorem lit_64th : (Ideal.ofBits .f32 0x3C800000#32 : EReal) = ((1 / 64 : ℝ) : EReal) := by
  simp [Ideal.ofBits, Ideal.ieee, -EReal.coe_mul]; norm_num
theorem lit_half : (Ideal.ofBits .f32 0x3F000000#32 : EReal) = ((1 / 2 : ℝ) : EReal) := by
  simp [Ideal.ofBits, Ideal.ieee, -EReal.coe_mul]; norm_num
theorem lit_fifty : (Ideal.ofBits .f32 0x42480000#32 : EReal) = ((50 : ℝ) : EReal) := by
  simp [Ideal.ofBits, Ideal.ieee, -EReal.coe_mul]; norm_num
theorem lit_thirty : (Ideal.ofBits .f32 0x41F00000#32 : EReal) = ((30 : ℝ) : EReal) := by
  simp [Ideal.ofBits, Ideal.ieee, -EReal.coe_mul]; norm_num
theorem lit_bot : (Ideal.ofBits .f32 0xFF800000#32 : EReal) = ⊥ := by
  simp [Ideal.ofBits, Ideal.ieee]

/-- A sum over a group's rows of one window is a sum over that window's rows. -/
theorem sum_window (f : Fin 2048 → ℝ) (n : Fin 32) :
    (∑ r, if r.val / 64 = n.val then f r else 0) = ∑ t : Fin 64, f ⟨64 * n.val + t.val, by omega⟩ := by
  rw [← Finset.sum_filter]
  symm
  refine Finset.sum_bij (fun t _ => ⟨64 * n.val + t.val, by omega⟩) ?_ ?_ ?_ ?_
  · intro t _; simp only [Finset.mem_filter, Finset.mem_univ, true_and]; omega
  · intro a _ b _ hab; simp only [Fin.mk.injEq] at hab; exact Fin.ext (by omega)
  · intro r hr
    simp only [Finset.mem_filter, Finset.mem_univ, true_and] at hr
    exact ⟨⟨r.val % 64, by omega⟩, Finset.mem_univ _, Fin.ext (by show 64 * n.val + r.val % 64 = r.val; omega)⟩
  · intro t _; rfl

theorem poolm_real : k0_pay76 (F := Ideal) = R2 fun n r => if r.val / 64 = n.val then 1 / 64 else 0 := by
  funext i
  idx_vars i
  pointwise [k0_pay76]
  change FloatOps.sitofp (F := Ideal) FTy.f32 (BitVec.setWidth 32 (IntOp.cmpi .eq (BitVec.ofNat 32 i0.val) (fdiv (BitVec.ofNat 32 i1.val) 64#32))) * _ = _
  rw [fdiv64 i1, bit_eq _ _ (by omega) (by omega), lit_64th, R2_apply, ← EReal.coe_mul]
  congr 1
  by_cases h : i1.val / 64 = i0.val
  · rw [if_pos h, if_pos h.symm]; ring
  · rw [if_neg h, if_neg (fun hh => h hh.symm)]; ring

theorem pooled_real (y : Fin 32 → Fin 64 → Fin 128 → ℝ) :
    pooled (F := Ideal) (R2 (stack y)) = R2 fun n c => (∑ t, y n t c) * (1 / 64) := by
  unfold pooled
  rw [poolm_real]
  funext i
  idx_vars i
  pointwise [k0_pay1]
  simp only [R2_apply, ← EReal.coe_mul, coe_sum]
  congr 1
  have e := sum_window (fun r => stack y r i1 * (1 / 64)) i0
  rw [Finset.sum_congr rfl fun (x : Fin 2048) _ => show (if x.val / 64 = i0.val then (1 / 64 : ℝ) else 0) * stack y x i1
    = if x.val / 64 = i0.val then stack y x i1 * (1 / 64) else 0 by split <;> ring, e, ← Finset.sum_mul]
  congr 1
  refine Finset.sum_congr rfl fun t _ => ?_
  have e1 : (64 * i0.val + t.val) / 64 = i0.val := by omega
  have e2 : (64 * i0.val + t.val) % 64 = t.val := by omega
  simp only [stack, e1, e2]

theorem expand_real (y : Fin 32 → Fin 64 → Fin 128 → ℝ) (o : Fin 32 → Fin 128 → ℝ) :
    k0_pay115 (F := Ideal) (asWin (R2 (stack y))) (R2 o) = R2 (stack fun n t c => y n t c + o n c) := by
  funext i
  idx_vars i
  pointwise [k0_pay115, asWin]
  change _ + ∑ x : Fin 32, FloatOps.sitofp (F := Ideal) FTy.f32 (BitVec.setWidth 32 (IntOp.cmpi .eq (fdiv (BitVec.ofNat 32 i0.val) 64#32) (BitVec.ofNat 32 x.val)))
    * R2 o (ix2 x i1) = _
  rw [Finset.sum_congr rfl fun x _ => by rw [fdiv64 i0, bit_eq _ _ (by omega) (by omega), R2_apply, ← EReal.coe_mul], coe_sum, R2_apply, R2_apply,
    ← EReal.coe_add]
  congr 1
  simp only [stack]
  congr 1
  rw [Finset.sum_eq_single (⟨i0.val / 64, by omega⟩ : Fin 32)]
  · simp
  · intro b _ hb
    rw [if_neg (fun hh => hb (Fin.ext hh.symm)), zero_mul]
  · intro hh; exact absurd (Finset.mem_univ _) hh

theorem out_real (y : Fin 32 → Fin 64 → Fin 128 → ℝ) (o : Fin 32 → Fin 128 → ℝ) (i1 : Fin 2) (i2 : Fin 8) (i3 : Fin 2) (i4 : Fin 64) (i5 : Fin 128) :
    k0_pay229 (F := Ideal) (asWin (R2 (stack y))) (R2 o) (ix6 0 i1 i2 i3 i4 i5)
      = ((y ⟨i1.val * 16 + i3.val * 8 + i4.val / 8, by omega⟩ ⟨i2.val * 8 + i4.val % 8, by omega⟩ i5
          + o ⟨i1.val * 16 + i3.val * 8 + i4.val / 8, by omega⟩ i5 : ℝ) : EReal) := by
  have e : k0_pay229 (F := Ideal) (asWin (R2 (stack y))) (R2 o)
      = shapeCast S1x2x8x2x64x128 (transpose S2x8x2x8x8x128 [0, 3, 1, 2, 4, 5]
        (shapeCast S2x2x8x8x8x128 (k0_pay115 (F := Ideal) (asWin (R2 (stack y))) (R2 o)) shapeCasts_S2048x128_S2x2x8x8x8x128)
        transposes_S2x2x8x8x8x128_p0_3_1_2_4_5_S2x8x2x8x8x128) shapeCasts_S2x8x2x8x8x128_S1x2x8x2x64x128 := rfl
  rw [e, expand_real]
  pointwise
  rw [R2_apply]
  simp only [stack]
  have e1 : (i1.val * 1024 + i3.val * 512 + i4.val / 8 * 64 + i2.val * 8 + i4.val % 8) / 64 = i1.val * 16 + i3.val * 8 + i4.val / 8 := by omega
  have e2 : (i1.val * 1024 + i3.val * 512 + i4.val / 8 * 64 + i2.val * 8 + i4.val % 8) % 64 = i2.val * 8 + i4.val % 8 := by omega
  simp only [e1, e2]

theorem proj256_real (x : Fin 256 → Fin 128 → ℝ) (w : Model.Mat) : k0_pay78 (F := Ideal) (R2 x) (R2 w) = R2 (Model.proj x w) := by
  funext i
  idx_vars i
  pointwise [k0_pay78]
  simp only [R2_apply, Model.proj, ← EReal.coe_mul, coe_sum]

theorem tmask_real : tmask (F := Ideal) = R2 fun r c => if r.val / 256 = c.val / 16 then 1 else 0 := by
  funext i
  idx_vars i
  pointwise [tmask, k0_pay81, k0_pay82, k0_pay83]
  change FloatOps.sitofp (F := Ideal) FTy.f32 (BitVec.setWidth 32 (IntOp.cmpi .eq (fdiv (BitVec.ofNat 32 i0.val) 256#32) (fdiv (BitVec.ofNat 32 i1.val) 16#32))) = _
  rw [fdiv256 i0, fdiv16 i1, bit_eq _ _ (by omega) (by omega)]
  rfl

/-- Eight copies of a batch's rows, one under another. -/
theorem rep256 (x : FVec Ideal S256x128 .f32) (h : Shape.Concatenates [S256x128, S256x128, S256x128, S256x128, S256x128, S256x128, S256x128, S256x128] S2048x128 0) :
    concatenate S2048x128 0 [⟨S256x128, x⟩, ⟨S256x128, x⟩, ⟨S256x128, x⟩, ⟨S256x128, x⟩, ⟨S256x128, x⟩, ⟨S256x128, x⟩, ⟨S256x128, x⟩, ⟨S256x128, x⟩] h
      = fun i => x (ix2 ⟨(i 0).val % 256, Nat.mod_lt _ (by decide)⟩ (i 1)) := by
  funext i
  have hi : (i 0).val < 2048 := (i 0).isLt
  exact concatenate_ofFn_apply (t := S2048x128) (s₁ := S256x128) 0 (fun _ : Fin 8 => x) h rfl 256 rfl i ⟨(i 0).val / 256, by omega⟩ rfl
    (ix2 ⟨(i 0).val % 256, Nat.mod_lt _ (by decide)⟩ (i 1)) rfl
    (fun b hb => by match b with | ⟨0, _⟩ => exact absurd rfl hb | ⟨1, _⟩ => rfl)

/-- The packed scores: row `256 h + i` holds head `h`'s scores of query `i`. -/
def pack (s : Fin 8 → Fin 256 → Fin 256 → ℝ) : Fin 2048 → Fin 256 → ℝ := fun r => s ⟨r.val / 256, by omega⟩ ⟨r.val % 256, by omega⟩

abbrev tk0 : IVec S2048x128 32 := iota .tc S2048x128 32 [1] iota_S2048x128_d1_w32

theorem scores_real (q k : Fin 256 → Fin 128 → ℝ) :
    k0_pay84 (F := Ideal) (R2 q) (R2 k) tk0 k0_pay81 16#32 k0_pay82 = R2 (pack (Model.score q k)) := by
  have e : k0_pay83 (F := Ideal) tk0 k0_pay81 16#32 k0_pay82 = R2 fun r c => if r.val / 256 = c.val / 16 then 1 else 0 := tmask_real
  unfold k0_pay84
  rw [rep256, e]
  funext i
  idx_vars i
  pointwise
  simp only [R2_apply, lit_quarter, ← EReal.coe_mul, coe_sum, pack, Model.score]
  congr 2
  refine Finset.sum_congr rfl fun c _ => ?_
  simp only [Model.head, Fin.mk.injEq]
  by_cases hc : i0.val / 256 = c.val / 16
  · rw [if_pos hc, if_pos hc.symm]; ring
  · rw [if_neg hc, if_neg (fun hh => hc hh.symm)]; ring

/-- A row's greatest entry. -/
def rmax (s : Fin 256 → ℝ) : ℝ := Finset.univ.sup' ⟨0, Finset.mem_univ _⟩ s

theorem le_rmax (s : Fin 256 → ℝ) (j : Fin 256) : s j ≤ rmax s := Finset.le_sup' s (Finset.mem_univ j)
theorem rmax_mem (s : Fin 256 → ℝ) : ∃ j, s j = rmax s := by
  obtain ⟨j, _, h⟩ := Finset.exists_mem_eq_sup' (⟨0, Finset.mem_univ _⟩ : (Finset.univ : Finset (Fin 256)).Nonempty) s
  exact ⟨j, h.symm⟩

theorem fold_max (n : Nat) (s : Fin n → ℝ) (h : (Finset.univ : Finset (Fin n)).Nonempty) :
    Finset.fold max (⊥ : EReal) (fun x => ((s x : ℝ) : EReal)) Finset.univ = ((Finset.univ.sup' h s : ℝ) : EReal) := by
  apply le_antisymm
  · rw [Finset.fold_max_le]
    exact ⟨bot_le, fun x hx => EReal.coe_le_coe_iff.mpr (Finset.le_sup' s hx)⟩
  · obtain ⟨j, hj, e⟩ := Finset.exists_mem_eq_sup' h s
    rw [e, Finset.le_fold_max]
    exact Or.inr ⟨j, hj, le_rfl⟩

theorem max_real (q k : Fin 256 → Fin 128 → ℝ) :
    k0_pay85 (F := Ideal) (R2 q) (R2 k) tk0 k0_pay81 16#32 k0_pay82 = R2 fun r _ => rmax (pack (Model.score q k) r) := by
  unfold k0_pay85
  rw [scores_real]
  funext i
  idx_vars i
  pointwise
  simp only [R2_apply, lit_bot]
  exact fold_max 256 _ _

/-- A row's gaps below its greatest entry. -/
def gaps (q k : Fin 256 → Fin 128 → ℝ) (r : Fin 2048) (j : Fin 256) : ℝ := rmax (pack (Model.score q k) r) - pack (Model.score q k) r j

theorem gaps_real (q k : Fin 256 → Fin 128 → ℝ) :
    k0_pay86 (F := Ideal) (R2 q) (R2 k) tk0 k0_pay81 16#32 k0_pay82 = R2 (gaps q k) := by
  unfold k0_pay86
  rw [scores_real, max_real]
  funext i
  idx_vars i
  pointwise
  simp only [R2_apply, gaps, ← EReal.coe_sub]

theorem count_real (u : Fin 256 → ℝ) (a : ℝ) :
    (∑ x : Fin 256, if ((u x : ℝ) : EReal) ≤ (a : EReal) then (1 : EReal) else 0) = (((Finset.univ.filter fun x => u x ≤ a).card : ℝ) : EReal) := by
  rw [Finset.card_filter, Nat.cast_sum, ← coe_sum]
  refine Finset.sum_congr rfl fun x _ => ?_
  by_cases h : u x ≤ a
  · rw [if_pos (EReal.coe_le_coe_iff.mpr h), if_pos h]; simp
  · rw [if_neg (fun hh => h (EReal.coe_le_coe_iff.mp hh)), if_neg h]; simp

theorem ofBool_sel {α : Type} (p : Prop) [Decidable p] (a b : α) : Scalar.select (BitVec.ofBool (decide p)) a b = if p then a else b := by
  by_cases h : p <;> simp [h, Scalar.select]

theorem step_real (q k : Fin 256 → Fin 128 → ℝ) (b : Fin 2048 → ℝ × ℝ) :
    bisStep (F := Ideal) (R2 q) (R2 k) (R2 fun r _ => (b r).1, R2 fun r _ => (b r).2)
      = (R2 fun r _ => (Model.bstep (gaps q k r) (b r)).1, R2 fun r _ => (Model.bstep (gaps q k r) (b r)).2) := by
  have hb : ∀ (r : Fin 2048), k0_pay90 (F := Ideal) (R2 q) (R2 k) tk0 k0_pay81 16#32 k0_pay82 (R2 fun r _ => (b r).1) (R2 fun r _ => (b r).2) (ix2 r 0)
      = BitVec.ofBool (decide (50 ≤ (Finset.univ.filter fun j => gaps q k r j ≤ ((b r).1 + (b r).2) * (1 / 2)).card)) := fun r => by
    unfold k0_pay90
    rw [gaps_real]
    pointwise [k0_pay89]
    simp only [R2_apply, lit_half, lit_fifty, ← EReal.coe_add, ← EReal.coe_mul]
    rw [count_real]
    congr 2
    rw [EReal.coe_le_coe_iff]
    exact propext (by exact_mod_cast Iff.rfl)
  unfold bisStep
  refine Prod.ext ?_ ?_
  · funext i
    idx_vars i
    obtain rfl : i1 = 0 := Subsingleton.elim _ _
    show Scalar.select (k0_pay90 (F := Ideal) (R2 q) (R2 k) tk0 k0_pay81 16#32 k0_pay82 (R2 fun r _ => (b r).1) (R2 fun r _ => (b r).2) (ix2 i0 0)) _ _ = _
    rw [hb, ofBool_sel]
    pointwise [k0_pay89]
    simp only [R2_apply, lit_half, ← EReal.coe_add, ← EReal.coe_mul]
    unfold Model.bstep
    split <;> rfl
  · funext i
    idx_vars i
    obtain rfl : i1 = 0 := Subsingleton.elim _ _
    show Scalar.select (k0_pay90 (F := Ideal) (R2 q) (R2 k) tk0 k0_pay81 16#32 k0_pay82 (R2 fun r _ => (b r).1) (R2 fun r _ => (b r).2) (ix2 i0 0)) _ _ = _
    rw [hb, ofBool_sel]
    pointwise [k0_pay89]
    simp only [R2_apply, lit_half, ← EReal.coe_add, ← EReal.coe_mul]
    unfold Model.bstep
    split <;> rfl

theorem foldl_same {α β : Type} (f : α → α) (l : List β) (a : α) : l.foldl (fun acc _ => f acc) a = f^[l.length] a := by
  induction l generalizing a with
  | nil => rfl
  | cons x l ih => rw [List.foldl_cons, ih]; rfl

theorem bis_real (q k : Fin 256 → Fin 128 → ℝ) :
    bis (F := Ideal) (R2 q) (R2 k) = (R2 fun r _ => (Model.bnds (gaps q k r) 22).1, R2 fun r _ => (Model.bnds (gaps q k r) 22).2) := by
  have h0 : ((k0_pay87 (F := Ideal), k0_pay88 (F := Ideal)) : FVec Ideal S2048x1 .f32 × FVec Ideal S2048x1 .f32)
      = (R2 fun r _ => (Model.bnds (gaps q k r) 0).1, R2 fun r _ => (Model.bnds (gaps q k r) 0).2) := by
    refine Prod.ext ?_ ?_
    · funext i
      idx_vars i
      pointwise [k0_pay87]
      rfl
    · funext i
      idx_vars i
      pointwise [k0_pay88]
      exact lit_thirty
  have hn : ∀ n, (bisStep (F := Ideal) (R2 q) (R2 k))^[n] (k0_pay87, k0_pay88)
      = (R2 fun r _ => (Model.bnds (gaps q k r) n).1, R2 fun r _ => (Model.bnds (gaps q k r) n).2) := fun n => by
    induction n with
    | zero => exact h0
    | succ n ih => rw [Function.iterate_succ_apply', ih, step_real]; simp only [Model.bnds_succ]
  unfold bis
  rw [Scf.fold_eq, foldl_same, List.length_finRange]
  exact hn 22

/-- The keys within a row's upper bound are the selected ones. -/
theorem mask_real (q k : Fin 256 → Fin 128 → ℝ) (hs : ∀ h i, Model.Sep (Model.score q k h i)) (r : Fin 2048) (j : Fin 256) :
    k0_pay93 (F := Ideal) (R2 q) (R2 k) tk0 k0_pay81 16#32 k0_pay82 (bis (R2 q) (R2 k)).2 (ix2 r j)
      = BitVec.ofBool (decide (j ∈ Model.sel (pack (Model.score q k) r))) := by
  rw [bis_real]
  unfold k0_pay93
  rw [gaps_real]
  pointwise
  simp only [R2_apply]
  congr 2
  rw [EReal.coe_le_coe_iff]
  exact propext (Model.bnds_sel _ (hs _ _) _ (le_rmax _) (rmax_mem _) j)

theorem exp_real (q k : Fin 256 → Fin 128 → ℝ) :
    k0_pay94 (F := Ideal) (R2 q) (R2 k) tk0 k0_pay81 16#32 k0_pay82
      = R2 fun r j => Real.exp (pack (Model.score q k) r j - rmax (pack (Model.score q k) r)) := by
  unfold k0_pay94
  rw [scores_real, max_real]
  funext i
  idx_vars i
  pointwise
  simp only [R2_apply, ← EReal.coe_sub, Ideal.exp_coe]

/-- The attention's last part, from the packed mask and exponentials. -/
theorem rest_real (wo : Model.Mat) (v : Fin 256 → Fin 128 → ℝ) (T : Fin 2048 → Finset (Fin 256)) (hT : ∀ r, (T r).Nonempty)
    (s : Fin 2048 → Fin 256 → ℝ) (m : IVec S2048x256 1) (hm : ∀ r j, m (ix2 r j) = BitVec.ofBool (decide (j ∈ T r))) :
    k0_pay95 (F := Ideal) (R2 wo) (R2 v) (R2 fun r c => if r.val / 256 = c.val / 16 then 1 else 0) m (R2 fun r j => Real.exp (s r j)) (Scalar.ofBits .f32 0x00000000#32)
      = R2 (Model.proj (fun i c => ∑ j ∈ T ⟨256 * (c.val / 16) + i.val, by omega⟩,
          Real.exp (s ⟨256 * (c.val / 16) + i.val, by omega⟩ j) / (∑ j' ∈ T ⟨256 * (c.val / 16) + i.val, by omega⟩, Real.exp (s ⟨256 * (c.val / 16) + i.val, by omega⟩ j')) * v j c) wo) := by
  have hsel : ∀ r j, Scalar.select (m (ix2 r j)) (R2 (fun r j => Real.exp (s r j)) (ix2 r j)) (0 : EReal)
      = ((if j ∈ T r then Real.exp (s r j) else 0 : ℝ) : EReal) := fun r j => by
    rw [hm, ofBool_sel, R2_apply]
    split <;> simp
  have hrow : ∀ (r : Fin 2048) (c : Fin 128), (∑ x : Fin 256, Ideal.div (Scalar.select (m (ix2 r x)) (R2 (fun r j => Real.exp (s r j)) (ix2 r x)) 0)
      (∑ x_2 : Fin 256, Scalar.select (m (ix2 r x_2)) (R2 (fun r j => Real.exp (s r j)) (ix2 r x_2)) 0) * R2 v (ix2 x c) : EReal)
      = ((∑ j ∈ T r, Real.exp (s r j) / (∑ j' ∈ T r, Real.exp (s r j')) * v j c : ℝ) : EReal) := fun r c => by
    rw [Finset.sum_congr rfl fun (x : Fin 256) _ => hsel r x]
    rw [Finset.sum_congr rfl fun (x : Fin 256) _ => by rw [hsel r x]]
    simp only [coe_sum, R2_apply]
    have hz : (∑ x : Fin 256, if x ∈ T r then Real.exp (s r x) else 0) = ∑ j' ∈ T r, Real.exp (s r j') := by
      rw [← Finset.sum_filter]; congr 1; ext x; simp
    rw [hz]
    rw [Finset.sum_congr rfl fun x _ => by rw [div_real _ _ (soft_nonneg_sum _ (hT r) _), ← EReal.coe_mul], coe_sum]
    congr 1
    symm
    rw [Finset.sum_congr rfl fun j hj => show Real.exp (s r j) / (∑ j' ∈ T r, Real.exp (s r j')) * v j c
      = (if j ∈ T r then Real.exp (s r j) else 0) / (∑ j' ∈ T r, Real.exp (s r j')) * v j c by rw [if_pos hj]]
    exact Finset.sum_subset (Finset.subset_univ _) fun x _ hx => by rw [if_neg hx]; simp
  funext i
  idx_vars i
  pointwise [k0_pay95]
  simp only [hrow]
  simp only [R2_apply, Model.proj, ← EReal.coe_mul, ← EReal.coe_add, coe_sum]
  congr 1
  refine Finset.sum_congr rfl fun c _ => ?_
  congr 1
  have hi : i0.val / 256 = 0 := by omega
  simp only [hi, show (256 + i0.val) / 256 = 1 by omega, show (512 + i0.val) / 256 = 2 by omega, show (768 + i0.val) / 256 = 3 by omega,
    show (1024 + i0.val) / 256 = 4 by omega, show (1280 + i0.val) / 256 = 5 by omega, show (1536 + i0.val) / 256 = 6 by omega,
    show (1792 + i0.val) / 256 = 7 by omega]
  have hg : c.val / 16 = 0 ∨ c.val / 16 = 1 ∨ c.val / 16 = 2 ∨ c.val / 16 = 3 ∨ c.val / 16 = 4 ∨ c.val / 16 = 5 ∨ c.val / 16 = 6
      ∨ c.val / 16 = 7 := by omega
  rcases hg with hg | hg | hg | hg | hg | hg | hg | hg <;> simp [hg]

/-- A row with a fiftieth greatest entry selects some key. -/
theorem sel_nonempty (s : Fin 256 → ℝ) (h : Model.Sep s) : (Model.sel s).Nonempty := by
  obtain ⟨t, h50, _⟩ := h
  rw [Model.sel_eq s t h50, ← Finset.card_pos, h50]
  decide

/-- The pooled layer's attention on one batch, where every row of scores has its fiftieth greatest entry apart. -/
theorem topAttn_real (p : Fin 256 → Fin 128 → ℝ) (wq wk wv wo : Model.Mat) (hs : ∀ h i, Model.Sep (Model.scores p wq wk h i)) :
    topAttn (F := Ideal) (R2 p) (R2 wq) (R2 wk) (R2 wv) (R2 wo) = R2 (Model.top p wq wk wv wo) := by
  have e77 : k0_pay77 (F := Ideal) (R2 wo) = R2 wo := by funext i; idx_vars i; pointwise [k0_pay77]
  have e79 : k0_pay79 (F := Ideal) (R2 p) (R2 wk) = R2 (Model.proj p wk) := proj256_real p wk
  have e80 : k0_pay80 (F := Ideal) (R2 p) (R2 wv) = R2 (Model.proj p wv) := proj256_real p wv
  unfold topAttn
  rw [e77, e79, e80, proj256_real, tmask_real, exp_real,
    rest_real wo _ (fun r => Model.sel (pack (Model.scores p wq wk) r)) (fun r => sel_nonempty _ (hs _ _)) _ _ (mask_real _ _ hs)]
  funext i
  idx_vars i
  rw [R2_apply, R2_apply]
  congr 1
  unfold Model.top
  congr 1
  funext i c
  unfold Model.attn
  have e1 : (256 * (c.val / 16) + i.val) / 256 = c.val / 16 := by omega
  have e2 : (256 * (c.val / 16) + i.val) % 256 = i.val := by omega
  have ep : pack (Model.scores p wq wk) ⟨256 * (c.val / 16) + i.val, by omega⟩ = Model.scores p wq wk (Model.head c) i := by
    simp only [pack, e1, e2, Model.head]
  show (∑ j ∈ Model.sel (pack (Model.scores p wq wk) _), Real.exp (pack (Model.scores p wq wk) _ j - rmax (pack (Model.scores p wq wk) _))
    / (∑ j' ∈ Model.sel (pack (Model.scores p wq wk) _), Real.exp (pack (Model.scores p wq wk) _ j' - rmax (pack (Model.scores p wq wk) _))) * _) = _
  rw [ep]
  simp only [Model.soft_shift]
  rfl

end Cert.KernelIdeal
-- ==== Proof.KernelReal.lean ====
module

public import proofs.«01_k».proof.Proof.State
public import proofs.«01_k».proof.Proof.TopReal

@[expose] public section

set_option maxRecDepth 16384

noncomputable section

/-! The kernel's blocks when its arguments are real numbers. -/

namespace Cert.Model

/-- The windows of batch `b`: window `w`, pixel `t`, channel `c`. -/
def part (x : Fin 2 → Fin 128 → Fin 128 → Fin 128 → ℝ) (b : Fin 2) : Fin 256 → Fin 64 → Fin 128 → ℝ := fun w t c =>
  x b c ⟨w.val / 16 * 8 + t.val / 8, by omega⟩ ⟨w.val % 16 * 8 + t.val % 8, by omega⟩

end Cert.Model

namespace Cert.KernelIdeal

open Cert.KernelIdeal.Gen
open Idealize.ShloMosaic Idealize.ShloMosaic.TcCoe

variable (m : (ℓ : Loc nD τ sig) → Buf (Elt Ideal) ℓ) (c : Dev nD)
variable (x : Fin 2 → Fin 128 → Fin 128 → Fin 128 → ℝ) (P : Fin 2 → Model.Wts)

/-- Two matrices of real numbers, one under another. -/
def R3 (f : Fin 2 → Model.Mat) : FVec Ideal S2x128x128 .f32 := fun i => ((f (i 0) (i 1) (i 2) : ℝ) : EReal)

/-- The feature array of real numbers. -/
def R4 : FVec Ideal S2x128x128x128 .f32 := fun i => ((x (i 0) (i 1) (i 2) (i 3) : ℝ) : EReal)

/-- The arguments the result depends on are the real numbers `x` and `P`. -/
structure Reads : Prop where
  a0 : m ((c.tc : Thread nD τ).loc main_arg0) = R4 x
  a2 : m ((c.tc : Thread nD τ).loc main_arg2) = R3 fun l => (P l).q
  a3 : m ((c.tc : Thread nD τ).loc main_arg3) = R3 fun l => (P l).k
  a4 : m ((c.tc : Thread nD τ).loc main_arg4) = R3 fun l => (P l).v
  a5 : m ((c.tc : Thread nD τ).loc main_arg5) = R3 fun l => (P l).o
  a6 : m ((c.tc : Thread nD τ).loc main_arg6) = R3 fun l => (P l).tq
  a7 : m ((c.tc : Thread nD τ).loc main_arg7) = R3 fun l => (P l).tk
  a8 : m ((c.tc : Thread nD τ).loc main_arg8) = R3 fun l => (P l).tv
  a9 : m ((c.tc : Thread nD τ).loc main_arg9) = R3 fun l => (P l).tp

/-- The first and the second matrix of a pair. -/
theorem first_real (f : Fin 2 → Model.Mat) :
    shapeCast S128x128 (extractStridedSlice S1x128x128 ![0, 0, 0] (R3 f) slices_S2x128x128_S1x128x128_0_0_0) shapeCasts_S1x128x128_S128x128 = R2 (f 0) := by
  funext i
  idx_vars i
  pointwise []
  rfl
theorem second_real (f : Fin 2 → Model.Mat) :
    shapeCast S128x128 (extractStridedSlice S1x128x128 ![1, 0, 0] (R3 f) slices_S2x128x128_S1x128x128_1_0_0) shapeCasts_S1x128x128_S128x128 = R2 (f 1) := by
  funext i
  idx_vars i
  pointwise []
  rfl

/-- The index maps of the feature window, the sixteen weight windows being whole. -/
theorem index0 : ∀ j : Fin 16, win0_0.index (pt1 j) = ![j.val / 8, j.val % 8, 0, 0] := by decide +kernel

/-- The weight arrays the region finds. -/
theorem weights (h : Reads m c x P) :
    (V m c main_v2 = R2 (P 0).q ∧ V m c main_v4 = R2 (P 0).k ∧ V m c main_v6 = R2 (P 0).v ∧ V m c main_v8 = R2 (P 0).o)
    ∧ (V m c main_v10 = R2 (P 1).q ∧ V m c main_v12 = R2 (P 1).k ∧ V m c main_v14 = R2 (P 1).v ∧ V m c main_v16 = R2 (P 1).o)
    ∧ (V m c main_v18 = R2 (P 0).tq ∧ V m c main_v20 = R2 (P 0).tk ∧ V m c main_v22 = R2 (P 0).tv ∧ V m c main_v24 = R2 (P 0).tp)
    ∧ (V m c main_v26 = R2 (P 1).tq ∧ V m c main_v28 = R2 (P 1).tk ∧ V m c main_v30 = R2 (P 1).tv ∧ V m c main_v32 = R2 (P 1).tp) := by
  have r {a : FVec Ideal S2x128x128 .f32} {f : Fin 2 → Model.Mat} (e : a = R3 f) := e ▸ first_real f
  have r' {a : FVec Ideal S2x128x128 .f32} {f : Fin 2 → Model.Mat} (e : a = R3 f) := e ▸ second_real f
  refine ⟨⟨?_, ?_, ?_, ?_⟩, ⟨?_, ?_, ?_, ?_⟩, ⟨?_, ?_, ?_, ?_⟩, ⟨?_, ?_, ?_, ?_⟩⟩ <;>
    (simp only [V, V0, hostOps0, List.flatten_cons, List.flatten_nil, List.append_nil]
     after_results
     first
     | exact r h.a2 | exact r h.a3 | exact r h.a4 | exact r h.a5 | exact r h.a6 | exact r h.a7 | exact r h.a8 | exact r h.a9
     | exact r' h.a2 | exact r' h.a3 | exact r' h.a4 | exact r' h.a5 | exact r' h.a6 | exact r' h.a7 | exact r' h.a8 | exact r' h.a9)

/-- The channels-last features the region finds. -/
theorem features (h : Reads m c x P) : V m c main_v0 = fun i => ((x (i 0) (i 3) (i 1) (i 2) : ℝ) : EReal) := by
  simp only [V, V0, hostOps0, List.flatten_cons, List.flatten_nil, List.append_nil]
  after_results
  rw [h.a0]
  funext i
  idx_vars i
  pointwise []
  rfl

/-- The batch and the window, within the batch, of window `n` of group `j`. -/
def bj (j : Fin 16) : Fin 2 := ⟨j.val / 8, by omega⟩
def wj (j : Fin 16) (n : Fin 32) : Fin 256 := ⟨j.val % 8 * 32 + n.val, by omega⟩

/-- Every weight window is the whole of its array at every point. -/
theorem wholes : ∀ t : Fin cfg0.N, win0_1.index t = ![0, 0] ∧ win0_2.index t = ![0, 0] ∧ win0_3.index t = ![0, 0] ∧ win0_4.index t = ![0, 0]
    ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0] ∧ win0_12.index t = ![0, 0]
    ∧ win0_13.index t = ![0, 0] ∧ win0_14.index t = ![0, 0] ∧ win0_15.index t = ![0, 0] ∧ win0_16.index t = ![0, 0] := by
  decide +kernel

/-- A whole matrix read at the block of index zero is the matrix. -/
theorem whole_read (X : FVec Ideal S128x128 .f32) (e : S128x128.Idx → S128x128.Idx) (h : ∀ y a, (e y a).val = (y a).val) :
    (fun y => X (e y)) = X :=
  funext fun y => congrArg X (funext fun a => Fin.ext (h y a))

set_option maxHeartbeats 4000000 in
/-- The weight blocks at any point. -/
theorem blocks (h : Reads m c x P) (t : Fin cfg0.N) :
    (wb1 m c t = R2 (P 0).q ∧ wb2 m c t = R2 (P 0).k ∧ wb3 m c t = R2 (P 0).v ∧ wb4 m c t = R2 (P 0).o)
    ∧ (wb5 m c t = R2 (P 1).q ∧ wb6 m c t = R2 (P 1).k ∧ wb7 m c t = R2 (P 1).v ∧ wb8 m c t = R2 (P 1).o)
    ∧ (wb9 m c t = R2 (P 0).tq ∧ wb10 m c t = R2 (P 0).tk ∧ wb11 m c t = R2 (P 0).tv ∧ wb12 m c t = R2 (P 0).tp)
    ∧ (wb13 m c t = R2 (P 1).tq ∧ wb14 m c t = R2 (P 1).tk ∧ wb15 m c t = R2 (P 1).tv ∧ wb16 m c t = R2 (P 1).tp) := by
  obtain ⟨⟨h1, h2, h3, h4⟩, ⟨h5, h6, h7, h8⟩, ⟨h9, h10, h11, h12⟩, h13, h14, h15, h16⟩ := weights m c x P h
  obtain ⟨i1, i2, i3, i4, i5, i6, i7, i8, i9, i10, i11, i12, i13, i14, i15, i16⟩ := wholes t
  have z (a : Fin 2) : (![0, 0] : Fin 2 → Nat) a = 0 := by revert a; decide
  have r (w : Pipeline.Window sig grid0) (y) (a) (k : w.index t a = 0) := w.rect_emb_val_of_index_zero t a k y
  refine ⟨⟨?_, ?_, ?_, ?_⟩, ⟨?_, ?_, ?_, ?_⟩, ⟨?_, ?_, ?_, ?_⟩, ⟨?_, ?_, ?_, ?_⟩⟩
  · exact Eq.trans (whole_read (V m c main_v2) (fun y => (win0_1.rect t).emb y) fun y a => r win0_1 y a ((congrFun i1 a).trans (z a))) h1
  · exact Eq.trans (whole_read (V m c main_v4) (fun y => (win0_2.rect t).emb y) fun y a => r win0_2 y a ((congrFun i2 a).trans (z a))) h2
  · exact Eq.trans (whole_read (V m c main_v6) (fun y => (win0_3.rect t).emb y) fun y a => r win0_3 y a ((congrFun i3 a).trans (z a))) h3
  · exact Eq.trans (whole_read (V m c main_v8) (fun y => (win0_4.rect t).emb y) fun y a => r win0_4 y a ((congrFun i4 a).trans (z a))) h4
  · exact Eq.trans (whole_read (V m c main_v10) (fun y => (win0_5.rect t).emb y) fun y a => r win0_5 y a ((congrFun i5 a).trans (z a))) h5
  · exact Eq.trans (whole_read (V m c main_v12) (fun y => (win0_6.rect t).emb y) fun y a => r win0_6 y a ((congrFun i6 a).trans (z a))) h6
  · exact Eq.trans (whole_read (V m c main_v14) (fun y => (win0_7.rect t).emb y) fun y a => r win0_7 y a ((congrFun i7 a).trans (z a))) h7
  · exact Eq.trans (whole_read (V m c main_v16) (fun y => (win0_8.rect t).emb y) fun y a => r win0_8 y a ((congrFun i8 a).trans (z a))) h8
  · exact Eq.trans (whole_read (V m c main_v18) (fun y => (win0_9.rect t).emb y) fun y a => r win0_9 y a ((congrFun i9 a).trans (z a))) h9
  · exact Eq.trans (whole_read (V m c main_v20) (fun y => (win0_10.rect t).emb y) fun y a => r win0_10 y a ((congrFun i10 a).trans (z a))) h10
  · exact Eq.trans (whole_read (V m c main_v22) (fun y => (win0_11.rect t).emb y) fun y a => r win0_11 y a ((congrFun i11 a).trans (z a))) h11
  · exact Eq.trans (whole_read (V m c main_v24) (fun y => (win0_12.rect t).emb y) fun y a => r win0_12 y a ((congrFun i12 a).trans (z a))) h12
  · exact Eq.trans (whole_read (V m c main_v26) (fun y => (win0_13.rect t).emb y) fun y a => r win0_13 y a ((congrFun i13 a).trans (z a))) h13
  · exact Eq.trans (whole_read (V m c main_v28) (fun y => (win0_14.rect t).emb y) fun y a => r win0_14 y a ((congrFun i14 a).trans (z a))) h14
  · exact Eq.trans (whole_read (V m c main_v30) (fun y => (win0_15.rect t).emb y) fun y a => r win0_15 y a ((congrFun i15 a).trans (z a))) h15
  · exact Eq.trans (whole_read (V m c main_v32) (fun y => (win0_16.rect t).emb y) fun y a => r win0_16 y a ((congrFun i16 a).trans (z a))) h16

/-- A group's feature block: sixteen rows of the image of its batch. -/
theorem xb_real (h : Reads m c x P) (j : Fin 16) :
    xb m c (pt1 j) = fun i => ((x (bj j) (i 3) ⟨j.val % 8 * 16 + (i 1).val, by have : (i 1).val < 16 := (i 1).isLt; omega⟩ (i 2) : ℝ) : EReal) := by
  funext y
  have hv := features m c x P h
  have e (a : Fin 4) : ((win0_0.rect (pt1 j)).emb y a : Nat) = win0_0.index (pt1 j) a * win0_0.size a + y a := win0_0.rect_emb_val (pt1 j) y a
  rw [index0 j] at e
  have hy0 : (y 0).val < 1 := (y 0).isLt
  have E0 := e 0; have E1 := e 1; have E2 := e 2; have E3 := e 3
  show V m c main_v0 ((win0_0.rect (pt1 j)).emb y) = _
  rw [hv]
  show ((x ((win0_0.rect (pt1 j)).emb y 0) ((win0_0.rect (pt1 j)).emb y 3) ((win0_0.rect (pt1 j)).emb y 1) ((win0_0.rect (pt1 j)).emb y 2) : ℝ) : EReal) = _
  have F0 : (win0_0.rect (pt1 j)).emb y 0 = bj j := Fin.ext (E0.trans (by show j.val / 8 * 1 + (y 0).val = j.val / 8; omega))
  have F1 : (win0_0.rect (pt1 j)).emb y 1 = (⟨j.val % 8 * 16 + (y 1).val, by have : (y 1).val < 16 := (y 1).isLt; omega⟩ : Fin 128) := Fin.ext E1
  have F2 : (win0_0.rect (pt1 j)).emb y 2 = y 2 := Fin.ext (E2.trans (by show 0 * 128 + (y 2).val = (y 2).val; omega))
  have F3 : (win0_0.rect (pt1 j)).emb y 3 = y 3 := Fin.ext (E3.trans (by show 0 * 128 + (y 3).val = (y 3).val; omega))
  rw [F0, F1, F2, F3]

/-- The group's windows, one under another. -/
theorem rows_real (h : Reads m c x P) (j : Fin 16) : k0_pay5 (xb m c (pt1 j)) = R2 (stack fun n => Model.part x (bj j) (wj j n)) := by
  rw [xb_real m c x P h j]
  funext i
  idx_vars i
  pointwise [k0_pay5]
  simp only [R2_apply, stack, Model.part, bj, wj]
  congr 2 <;> (apply Fin.ext; simp only; omega)

/-- The pooled rows of both batches. -/
def both2 (f : Fin 2 → Fin 256 → Fin 128 → ℝ) : Fin 512 → Fin 128 → ℝ := fun r => f ⟨r.val / 256, by omega⟩ ⟨r.val % 256, by omega⟩

theorem glue_real (f : Fin 2 → Fin 256 → Fin 128 → ℝ) : glue (F := Ideal) (fun j => R2 fun n => f (bj j) (wj j n)) = R2 (both2 f) := by
  funext i
  idx_vars i
  show ((f _ _ i1 : ℝ) : EReal) = ((f _ _ i1 : ℝ) : EReal)
  congr 2 <;> (apply Fin.ext; simp only [ix2, bj, wj]; show _ = _ ; simp; omega)

theorem low_real (f : Fin 2 → Fin 256 → Fin 128 → ℝ) : lowRows (F := Ideal) (R2 (both2 f)) = R2 (f 0) := by
  funext i
  idx_vars i
  show ((f ⟨(0 + 1 * i0.val) / 256, _⟩ ⟨(0 + 1 * i0.val) % 256, _⟩ ⟨0 + 1 * i1.val, _⟩ : ℝ) : EReal) = ((f 0 i0 i1 : ℝ) : EReal)
  congr 2 <;> (apply Fin.ext; simp only; omega)
theorem high_real (f : Fin 2 → Fin 256 → Fin 128 → ℝ) : highRows (F := Ideal) (R2 (both2 f)) = R2 (f 1) := by
  funext i
  idx_vars i
  show ((f ⟨(256 + 1 * i0.val) / 256, _⟩ ⟨(256 + 1 * i0.val) % 256, _⟩ ⟨0 + 1 * i1.val, _⟩ : ℝ) : EReal) = ((f 1 i0 i1 : ℝ) : EReal)
  congr 2 <;> (apply Fin.ext; simp only; omega)

theorem both_real (f : Fin 2 → Fin 256 → Fin 128 → ℝ) : both (F := Ideal) (R2 (f 0)) (R2 (f 1)) = R2 (both2 f) := by
  funext i
  idx_vars i
  unfold both both2
  by_cases hi : i0.val < 256
  · rw [dif_pos (show ((ix2 i0 i1 : (⟨2, ![512, 128]⟩ : Shape).Idx) 0).val < 256 from hi)]
    show ((f 0 ⟨i0.val, _⟩ i1 : ℝ) : EReal) = ((f ⟨i0.val / 256, _⟩ ⟨i0.val % 256, _⟩ i1 : ℝ) : EReal)
    congr 2 <;> (apply Fin.ext; simp only; omega)
  · rw [dif_neg (show ¬((ix2 i0 i1 : (⟨2, ![512, 128]⟩ : Shape).Idx) 0).val < 256 from hi)]
    show ((f 1 ⟨i0.val - 256, _⟩ i1 : ℝ) : EReal) = ((f ⟨i0.val / 256, _⟩ ⟨i0.val % 256, _⟩ i1 : ℝ) : EReal)
    congr 2 <;> (apply Fin.ext; simp only; omega)

theorem prow_real (f : Fin 2 → Fin 256 → Fin 128 → ℝ) (j : Fin 16) : prow (F := Ideal) (R2 (both2 f)) j = R2 fun n => f (bj j) (wj j n) := by
  rw [← glue_real, prow_glue]

/-- The batches' windows after the first layer's own attention, after the first layer, and so on for the second. -/
def X0 (b : Fin 2) := Model.mid (Model.part x b) (P 0)
def X1 (b : Fin 2) := Model.layer (Model.part x b) (P 0)
def X2 (b : Fin 2) := Model.mid (X1 x P b) (P 1)
def X3 (b : Fin 2) := Model.layer (X1 x P b) (P 1)

/-- Each layer's scores have their fiftieth greatest entry apart from the rest. -/
def Apart : Prop := ∀ b h i, Model.Sep (Model.scores (Model.pool (X0 x P b)) (P 0).tq (P 0).tk h i)
  ∧ Model.Sep (Model.scores (Model.pool (X2 x P b)) (P 1).tq (P 1).tk h i)

theorem g1_real (h : Reads m c x P) (j : Fin 16) : g1 m c j = R2 (stack fun n => X0 x P (bj j) (wj j n)) := by
  obtain ⟨⟨e1, e2, e3, e4⟩, -⟩ := blocks m c x P h (pt1 j)
  rw [g1, e1, e2, e3, e4, rows_real m c x P h, wg_real]
  rfl

theorem pool1_real (h : Reads m c x P) : pool1 m c = R2 (both2 fun b => Model.pool (X0 x P b)) := by
  rw [pool1, ← glue_real]
  congr 1
  funext j
  rw [g1_real m c x P h, pooled_real]
  rfl

theorem oa_real (h : Reads m c x P) (s : Apart x P) :
    oa m c = R2 (both2 fun b => Model.top (Model.pool (X0 x P b)) (P 0).tq (P 0).tk (P 0).tv (P 0).tp) := by
  obtain ⟨-, -, ⟨e1, e2, e3, e4⟩, -⟩ := blocks m c x P h ptA
  rw [oa, e1, e2, e3, e4, pool1_real m c x P h, low_real, high_real, topAttn_real _ _ _ _ _ fun a i => (s 0 a i).1,
    topAttn_real _ _ _ _ _ fun a i => (s 1 a i).1]
  exact both_real fun b => Model.top (Model.pool (X0 x P b)) (P 0).tq (P 0).tk (P 0).tv (P 0).tp

theorem g2_real (h : Reads m c x P) (s : Apart x P) (j : Fin 16) : g2 m c j = R2 (stack fun n => X2 x P (bj j) (wj j n)) := by
  obtain ⟨-, ⟨e1, e2, e3, e4⟩, -⟩ := blocks m c x P h (pt2 j)
  rw [g2, e1, e2, e3, e4, g1_real m c x P h, oa_real m c x P h s, prow_real, expand_real, wg_real]
  rfl

theorem pool2_real (h : Reads m c x P) (s : Apart x P) : pool2 m c = R2 (both2 fun b => Model.pool (X2 x P b)) := by
  rw [pool2, ← glue_real]
  congr 1
  funext j
  rw [g2_real m c x P h s, pooled_real]
  rfl

theorem ob_real (h : Reads m c x P) (s : Apart x P) :
    ob m c = R2 (both2 fun b => Model.top (Model.pool (X2 x P b)) (P 1).tq (P 1).tk (P 1).tv (P 1).tp) := by
  obtain ⟨-, -, -, ⟨e1, e2, e3, e4⟩⟩ := blocks m c x P h ptB
  rw [ob, e1, e2, e3, e4, pool2_real m c x P h s, low_real, high_real, topAttn_real _ _ _ _ _ fun a i => (s 0 a i).2,
    topAttn_real _ _ _ _ _ fun a i => (s 1 a i).2]
  exact both_real fun b => Model.top (Model.pool (X2 x P b)) (P 1).tq (P 1).tk (P 1).tv (P 1).tp

/-- The output block of group `j`: the second layer's windows of that group, pixel by pixel. -/
theorem outB_real (h : Reads m c x P) (s : Apart x P) (j : Fin 16) (i1 : Fin 2) (i2 : Fin 8) (i3 : Fin 2) (i4 : Fin 64) (i5 : Fin 128) :
    outB m c j (ix6 0 i1 i2 i3 i4 i5)
      = ((X3 x P (bj j) (wj j ⟨i1.val * 16 + i3.val * 8 + i4.val / 8, by omega⟩) ⟨i2.val * 8 + i4.val % 8, by omega⟩ i5 : ℝ) : EReal) := by
  rw [outB, g2_real m c x P h s, ob_real m c x P h s, prow_real, out_real]
  rfl

end Cert.KernelIdeal
-- ==== Proof.RefReal.lean ====
module

public import proofs.«01_k».proof.Proof.RefOps
public import proofs.«01_k».proof.Proof.KernelReal

@[expose] public section

set_option maxRecDepth 16384

noncomputable section

/-! The reference's steps on arrays of real numbers: the windows' attention, the pooling and the scores. -/

namespace Cert.ReferenceIdeal.Steps

open Cert.ReferenceIdeal Cert.ReferenceIdeal.Gen Idealize.ShloMosaic
open Cert.KernelIdeal (R2 R2_apply R3 R4 coe_sum div_real lit_bot fold_max)

/-- Arrays of real numbers of three and four axes. -/
def A3 {a b c : Nat} (f : Fin a → Fin b → Fin c → ℝ) : FVec Ideal (⟨3, ![a, b, c]⟩ : Shape) .f32 := fun i => ((f (i 0) (i 1) (i 2) : ℝ) : EReal)
def A4 {a b c d : Nat} (f : Fin a → Fin b → Fin c → Fin d → ℝ) : FVec Ideal (⟨4, ![a, b, c, d]⟩ : Shape) .f32 :=
  fun i => ((f (i 0) (i 1) (i 2) (i 3) : ℝ) : EReal)

theorem A3_apply {a b c : Nat} (f : Fin a → Fin b → Fin c → ℝ) (r : Fin a) (s : Fin b) (t : Fin c) : A3 f (ix3 r s t) = ((f r s t : ℝ) : EReal) := rfl
theorem A4_apply {a b c d : Nat} (f : Fin a → Fin b → Fin c → Fin d → ℝ) (r : Fin a) (s : Fin b) (t : Fin c) (u : Fin d) :
    A4 f (ix4 r s t u) = ((f r s t u : ℝ) : EReal) := rfl

theorem lit_four : (Ideal.ofBits .f32 0x40800000#32 : EReal) = ((4 : ℝ) : EReal) := by
  simp [Ideal.ofBits, Ideal.ieee, -EReal.coe_mul]; norm_num
theorem lit_sixtyfour : (Ideal.ofBits .f32 0x42800000#32 : EReal) = ((64 : ℝ) : EReal) := by
  simp [Ideal.ofBits, Ideal.ieee, -EReal.coe_mul]; norm_num

/-- A greatest entry along the last axis. -/
theorem maxLast {a b c n : Nat} (s : FVec Ideal (⟨4, ![a, b, c, n]⟩ : Shape) .f32) (z : FVec Ideal S_ .f32)
    (h : (⟨4, ![a, b, c, n]⟩ : Shape).ReducesTo [3] ⟨3, ![a, b, c]⟩) (hu : 0 < S_.numel) (i0 : Fin a) (i1 : Fin b) (i2 : Fin c) :
    Host.reduce FloatOps.maximumf s z h hu (ix3 i0 i1 i2) = Finset.fold max (z (Shape.Idx.first hu)) (fun j => s (ix4 i0 i1 i2 j)) Finset.univ := by
  pointwise

theorem maxLast_real {a b c n : Nat} (s : Fin a → Fin b → Fin c → Fin n → ℝ) (hn : (Finset.univ : Finset (Fin n)).Nonempty)
    (h : (⟨4, ![a, b, c, n]⟩ : Shape).ReducesTo [3] ⟨3, ![a, b, c]⟩) (hu : 0 < S_.numel) (i0 : Fin a) (i1 : Fin b) (i2 : Fin c) :
    Host.reduce FloatOps.maximumf (A4 s) (constant S_ .f32 0xFF800000#32) h hu (ix3 i0 i1 i2) = ((Finset.univ.sup' hn (s i0 i1 i2) : ℝ) : EReal) := by
  rw [maxLast]
  show Finset.fold max (Ideal.ofBits .f32 0xFF800000#32 : EReal) _ _ = _
  rw [lit_bot]
  exact fold_max n (s i0 i1 i2) hn

theorem wt0_real (f : Fin 2 → Model.Mat) : wt0 (R3 f) = R2 (f 0) := KernelIdeal.first_real f
theorem wt1_real (f : Fin 2 → Model.Mat) : wt1 (R3 f) = R2 (f 1) := KernelIdeal.second_real f

/-- The windows of both images, one after the other. -/
abbrev join (y : Fin 2 → Fin 256 → Fin 64 → Fin 128 → ℝ) : Fin 512 → Fin 64 → Fin 128 → ℝ :=
  fun r t c => y ⟨r.val / 256, by omega⟩ ⟨r.val % 256, by omega⟩ t c

theorem score_eq {n : Nat} (q k : Fin n → Fin 128 → ℝ) (h : Fin 8) (i j : Fin n) :
    (∑ e : Fin 16, q i ⟨h.val * 16 + e.val, by omega⟩ * k j ⟨h.val * 16 + e.val, by omega⟩) / 4 = Model.score q k h i j := by
  unfold Model.score
  rw [Model.sum_head (fun c => q i c * k j c), div_eq_mul_one_div]

/-- The heads of a matrix of rows. -/
abbrev split {m n : Nat} (x : Fin m → Fin n → Fin 128 → ℝ) : Fin m → Fin 8 → Fin n → Fin 16 → ℝ :=
  fun r h i e => x r i ⟨h.val * 16 + e.val, by omega⟩

theorem heads_real (x : Fin 512 → Fin 64 → Fin 128 → ℝ) (w : Model.Mat) :
    heads (A3 x) (R2 w) = A4 (split fun r => Model.proj (x r) w) := by
  funext i
  idx_vars i
  pointwise [heads]
  simp only [A3_apply, R2_apply, A4_apply, ← EReal.coe_mul, coe_sum, Model.proj, split]

theorem scoreW_real (q k : Fin 512 → Fin 64 → Fin 128 → ℝ) :
    scoreW (A4 (split q)) (A4 (split k)) = A4 fun r h i j => Model.score (q r) (k r) h i j := by
  funext i
  idx_vars i
  pointwise [scoreW]
  simp only [A4_apply, ← EReal.coe_mul, coe_sum, lit_four, div_real _ _ (show (4 : ℝ) ≠ 0 by norm_num), score_eq]

theorem expW_at (s : FVec Ideal S512x8x64x64 .f32) (M : FVec Ideal S512x8x64 .f32) (i0 : Fin 512) (i1 : Fin 8) (i2 i3 : Fin 64) :
    Host.exp (subf s (broadcastInDim S512x8x64x64 ![0, 1, 2, 3] bcast_S512x8x64x1_S512x8x64x64_0_1_2_3 (broadcastInDim S512x8x64x1 ![0, 1, 2] bcast_S512x8x64_S512x8x64x1_0_1_2 M))) (ix4 i0 i1 i2 i3)
      = Ideal.exp (s (ix4 i0 i1 i2 i3) - M (ix3 i0 i1 i2)) := by
  pointwise

theorem top_at (M : FVec Ideal S512x8x64 .f32) (i0 : Fin 512) (i1 : Fin 8) (i2 : Fin 64) :
    maximumf (broadcastInDim S512x8x64 ![] bcast_S_S512x8x64 (constant (F := Ideal) S_ .f32 0xFF800000#32)) M (ix3 i0 i1 i2) = M (ix3 i0 i1 i2) := by
  pointwise
  rw [lit_bot]
  exact max_eq_right bot_le

theorem maxW (s : Fin 512 → Fin 8 → Fin 64 → Fin 64 → ℝ) (i0 : Fin 512) (i1 : Fin 8) (i2 : Fin 64) :
    Host.reduce FloatOps.maximumf (A4 s) (constant S_ .f32 0xFF800000#32) reducesTo_S512x8x64x64_S512x8x64_d3 h_S_ (ix3 i0 i1 i2)
      = ((Finset.univ.sup' ⟨0, Finset.mem_univ _⟩ (s i0 i1 i2) : ℝ) : EReal) :=
  maxLast_real s _ _ _ i0 i1 i2

theorem expW_real (s : Fin 512 → Fin 8 → Fin 64 → Fin 64 → ℝ) :
    ∃ m : Fin 512 → Fin 8 → Fin 64 → ℝ, expW (A4 s) = A4 fun r h i j => Real.exp (s r h i j - m r h i) := by
  refine ⟨fun r h i => Finset.univ.sup' ⟨0, Finset.mem_univ _⟩ (s r h i), ?_⟩
  unfold expW
  funext i
  idx_vars i
  rw [expW_at, top_at, maxW]
  simp only [A4_apply, ← EReal.coe_sub, Ideal.exp_coe]

theorem mixW_real (e : Fin 512 → Fin 8 → Fin 64 → Fin 64 → ℝ) (he : ∀ r h i, (∑ j, e r h i j) ≠ 0) (v : Fin 512 → Fin 64 → Fin 128 → ℝ) :
    mixW (A4 e) (A4 (split v))
      = A4 (split fun r i c => ∑ j, e r (Model.head c) i j / (∑ j', e r (Model.head c) i j') * v r j c) := by
  funext i
  idx_vars i
  pointwise [mixW]
  have hh : Model.head ⟨i1.val * 16 + i3.val, by omega⟩ = i1 := by
    apply Fin.ext; show (i1.val * 16 + i3.val) / 16 = i1.val; omega
  simp only [A4_apply, coe_sum, div_real _ _ (he _ _ _), ← EReal.coe_mul, split, hh]

theorem outW_real (o : Fin 512 → Fin 64 → Fin 128 → ℝ) (w : Model.Mat) :
    outW (A4 (split o)) (R2 w) = A3 fun r => Model.proj (o r) w := by
  funext i
  idx_vars i
  pointwise [outW]
  have hd : ∀ x : Fin 128, x.val / 16 * 16 + x.val % 16 = x.val := fun x => by omega
  simp only [A3_apply, R2_apply, A4_apply, ← EReal.coe_mul, coe_sum, Model.proj, split, hd]

theorem winStep_real (x : Fin 512 → Fin 64 → Fin 128 → ℝ) (wq wk wv wo : Model.Mat) :
    winStep (A3 x) (R2 wq) (R2 wk) (R2 wv) (R2 wo) = A3 fun r => Model.win (x r) wq wk wv wo := by
  unfold winStep
  rw [heads_real, heads_real, heads_real, scoreW_real]
  obtain ⟨m, hm⟩ := expW_real fun r h i j => Model.score (Model.proj (x r) wq) (Model.proj (x r) wk) h i j
  rw [hm, mixW_real _ (fun r h i => KernelIdeal.soft_nonneg_sum Finset.univ ⟨0, Finset.mem_univ _⟩ _), outW_real]
  funext i
  idx_vars i
  pointwise
  simp only [A3_apply, ← EReal.coe_add, Model.soft_shift, Model.win]
  rfl

theorem poolStep_real (y : Fin 2 → Fin 256 → Fin 64 → Fin 128 → ℝ) :
    poolStep (A3 (join y)) = A3 fun b => Model.pool (y b) := by
  funext i
  idx_vars i
  pointwise [poolStep]
  have e1 : (i0.val * 256 + i1.val) / 256 = i0.val := by omega
  have e2 : (i0.val * 256 + i1.val) % 256 = i1.val := by omega
  simp only [A3_apply, join, e1, e2, coe_sum, lit_sixtyfour, div_real _ _ (show (64 : ℝ) ≠ 0 by norm_num), Model.pool]
  rw [div_eq_mul_one_div]

theorem headsT_real (x : Fin 2 → Fin 256 → Fin 128 → ℝ) (w : Model.Mat) :
    headsT (A3 x) (R2 w) = A4 (split fun r => Model.proj (x r) w) := by
  funext i
  idx_vars i
  pointwise [headsT]
  simp only [A3_apply, R2_apply, A4_apply, ← EReal.coe_mul, coe_sum, Model.proj, split]

theorem scoreT_real (q k : Fin 2 → Fin 256 → Fin 128 → ℝ) :
    scoreT (A4 (split q)) (A4 (split k)) = A4 fun r h i j => Model.score (q r) (k r) h i j := by
  funext i
  idx_vars i
  pointwise [scoreT]
  simp only [A4_apply, ← EReal.coe_mul, coe_sum, lit_four, div_real _ _ (show (4 : ℝ) ≠ 0 by norm_num), score_eq]

theorem outT_real (o : Fin 2 → Fin 256 → Fin 128 → ℝ) (w : Model.Mat) :
    outT (A4 (split o)) (R2 w) = A3 fun r => Model.proj (o r) w := by
  funext i
  idx_vars i
  pointwise [outT]
  have hd : ∀ x : Fin 128, x.val / 16 * 16 + x.val % 16 = x.val := fun x => by omega
  simp only [A3_apply, R2_apply, A4_apply, ← EReal.coe_mul, coe_sum, Model.proj, split, hd]

theorem addStep_real (y : Fin 2 → Fin 256 → Fin 64 → Fin 128 → ℝ) (o : Fin 2 → Fin 256 → Fin 128 → ℝ) :
    addStep (A3 (join y)) (A3 o) = A3 (join fun b w t c => y b w t c + o b w c) := by
  funext i
  idx_vars i
  pointwise [addStep]
  simp only [A3_apply, ← EReal.coe_add, join]

theorem parts_real (x : Fin 2 → Fin 128 → Fin 128 → Fin 128 → ℝ) :
    parts (R4 x) = A3 (join fun b => Model.part x b) := by
  funext i
  idx_vars i
  pointwise [parts]
  have e1 : i0.val / 16 % 16 = i0.val % 256 / 16 := by omega
  have e2 : i0.val % 16 = i0.val % 256 % 16 := by omega
  simp only [A3_apply, join, Model.part, e1, e2]
  rfl

theorem flat_back (y : Fin 2 → Fin 256 → Fin 64 → Fin 128 → ℝ) (b : Fin 2) (p : Fin 16384) (ch : Fin 128) :
    flat (back (A3 (join y))) (ix3 b p ch)
      = ((y b ⟨p.val / 1024 * 16 + p.val % 128 / 8, by omega⟩ ⟨p.val / 128 % 8 * 8 + p.val % 8, by omega⟩ ch : ℝ) : EReal) := by
  pointwise [flat, back]
  have e1 : (b.val * 256 + p.val / 1024 * 16 + p.val / 8 % 16) / 256 = b.val := by omega
  have e2 : (b.val * 256 + p.val / 1024 * 16 + p.val / 8 % 16) % 256 = p.val / 1024 * 16 + p.val % 128 / 8 := by omega
  simp only [A3_apply, join, e1, e2]

theorem parts_back (y : Fin 2 → Fin 256 → Fin 64 → Fin 128 → ℝ) : parts (back (A3 (join y))) = A3 (join y) := by
  funext i
  idx_vars i
  pointwise [parts, back]

end Cert.ReferenceIdeal.Steps
-- ==== Proof.Order.lean ====
module

public import proofs.«01_k».proof.Proof.Model
public import Idealize.ShloMosaic.Lib.SortFacts

@[expose] public section

noncomputable section

/-! A row of scores in descending order, and its first fifty places. -/

namespace Cert.Model

open Finset Idealize.ShloMosaic

/-- The places of a row from the greatest entry down. -/
def ord (s : Fin 256 → ℝ) : Fin 256 → Fin 256 := sortedFrom fun a b => decide (s b < s a)

theorem ord_inj (s : Fin 256 → ℝ) : Function.Injective (ord s) := sortedFrom_injective _

theorem ord_anti (s : Fin 256 → ℝ) (i j : Fin 256) (h : i ≤ j) : s (ord s j) ≤ s (ord s i) := by
  rcases h.eq_or_lt with e | hlt
  · rw [e]
  · have hn := sortedFrom_noInversion (fun a b => decide (s b < s a)) (fun a b => decide (s b < s a))
      (fun a b hab => by simp only [decide_eq_true_eq, decide_eq_false_iff_not] at hab ⊢; exact not_lt.mpr hab.le)
      (fun a b hab => hab)
      (fun a b c h1 h2 => by simp only [decide_eq_false_iff_not, not_lt] at h1 h2 ⊢; exact h1.trans h2)
      i j hlt
    simp only [decide_eq_false_iff_not, not_lt] at hn
    exact hn

/-- A place among the first fifty. -/
abbrev fst50 (k : Fin 50) : Fin 256 := ⟨k.val, by omega⟩

theorem fst50_inj (s : Fin 256 → ℝ) : Function.Injective fun k : Fin 50 => ord s (fst50 k) := fun a b h => by
  have := ord_inj s h
  simp only [Fin.mk.injEq] at this
  exact Fin.ext this

theorem fst50_card (s : Fin 256 → ℝ) : (univ.image fun k : Fin 50 => ord s (fst50 k)).card = 50 := by
  rw [card_image_of_injective _ (fst50_inj s)]; simp

/-- Under separation the first fifty places are the selected entries. -/
theorem image_fst50 (s : Fin 256 → ℝ) (hs : Sep s) : (univ.image fun k : Fin 50 => ord s (fst50 k)) = sel s := by
  obtain ⟨t, h50, _, _, _⟩ := hs
  rw [sel_eq s t h50]
  refine eq_of_subset_of_card_le ?_ (by rw [h50, fst50_card])
  intro x hx
  obtain ⟨k, _, rfl⟩ := mem_image.mp hx
  simp only [mem_filter, mem_univ, true_and]
  by_contra hlt
  have hsub : (univ.filter fun j => t ≤ s j) ⊆ (univ.filter fun l : Fin 256 => l < fst50 k).image (ord s) := by
    intro j hj
    simp only [mem_filter, mem_univ, true_and] at hj
    obtain ⟨l, rfl⟩ := (Finite.injective_iff_surjective.mp (ord_inj s)) j
    refine mem_image.mpr ⟨l, ?_, rfl⟩
    simp only [mem_filter, mem_univ, true_and]
    by_contra hl
    have := ord_anti s (fst50 k) l (not_lt.mp hl)
    linarith [not_le.mp hlt]
  have h1 := card_le_card hsub
  rw [h50, card_image_of_injective _ (ord_inj s)] at h1
  have h2 : (univ.filter fun l : Fin 256 => l < fst50 k).card = k.val := by
    have : (univ.filter fun l : Fin 256 => l < fst50 k) = Iio (fst50 k) := by ext; simp
    rw [this, Fin.card_Iio]
  omega

/-- A sum over the first fifty places is a sum over the selected entries. -/
theorem sum_fst50 (s : Fin 256 → ℝ) (hs : Sep s) (f : Fin 256 → ℝ) : (∑ k : Fin 50, f (ord s (fst50 k))) = ∑ j ∈ sel s, f j := by
  rw [← image_fst50 s hs, sum_image fun a _ b _ h => fst50_inj s h]

/-- A row is separated when at most fifty entries come within the bisection's last step of the entry at the fiftieth
    place, and no entry exceeds that one by more than 30. -/
theorem sep_of_count (s : Fin 256 → ℝ) (hc : (univ.filter fun j => s (ord s (fst50 49)) - 30 / 4194304 ≤ s j).card ≤ 50)
    (hm : ∀ j, s j - s (ord s (fst50 49)) ≤ 30) : Sep s := by
  have h1 : (univ.image fun k : Fin 50 => ord s (fst50 k)) ⊆ univ.filter fun j => s (ord s (fst50 49)) ≤ s j := by
    intro x hx
    obtain ⟨k, _, rfl⟩ := mem_image.mp hx
    simp only [mem_filter, mem_univ, true_and]
    exact ord_anti s _ _ (by rw [Fin.le_def]; show k.val ≤ 49; omega)
  have h2 : (univ.filter fun j => s (ord s (fst50 49)) ≤ s j) ⊆ univ.filter fun j => s (ord s (fst50 49)) - 30 / 4194304 ≤ s j := by
    intro j hj
    simp only [mem_filter, mem_univ, true_and] at hj ⊢
    linarith
  have c1 := card_le_card h1
  have c2 := card_le_card h2
  rw [fst50_card] at c1
  refine ⟨s (ord s (fst50 49)), by omega, ⟨_, rfl⟩, ?_, hm⟩
  intro j hj
  have e := eq_of_subset_of_card_le h2 (by omega)
  by_contra hle
  have : j ∈ univ.filter fun j => s (ord s (fst50 49)) ≤ s j := by
    rw [e]; simp only [mem_filter, mem_univ, true_and]; exact not_lt.mp hle
  simp only [mem_filter, mem_univ, true_and] at this
  linarith

end Cert.Model
-- ==== Proof.TopRef.lean ====
module

public import proofs.«01_k».proof.Proof.RefReal
public import proofs.«01_k».proof.Proof.Order

@[expose] public section

set_option maxRecDepth 16384

noncomputable section

/-! The reference's attention over the fifty best keys, on arrays of real numbers. -/

namespace Cert.ReferenceIdeal.Steps

open Cert.ReferenceIdeal Cert.ReferenceIdeal.Gen Idealize.ShloMosaic
open Cert.KernelIdeal (R2 R2_apply R3 R4 coe_sum div_real lit_bot fold_max)
open Cert.Model (ord fst50)

/-- The comparison of two reals from the greatest down. -/
theorem gt_real (x y : ℝ) : ((FloatOps.cmpfTotal (F := Ideal) (φ := .f32) .gt ((x : ℝ) : EReal) ((y : ℝ) : EReal) : BitVec 1) == 1#1) = decide (y < x) := by
  show (BitVec.ofBool (decide ((y : EReal) < (x : EReal))) == 1#1) = _
  by_cases h : y < x
  · rw [decide_eq_true h, decide_eq_true (EReal.coe_lt_coe_iff.mpr h)]; rfl
  · rw [decide_eq_false h, decide_eq_false (fun hh => h (EReal.coe_lt_coe_iff.mp hh))]; rfl

theorem along_last {a b c n : Nat} (i0 : Fin a) (i1 : Fin b) (i2 : Fin c) (j k : Fin n) :
    Shape.Idx.along (s := ⟨4, ![a, b, c, n]⟩) (ix4 i0 i1 i2 j) 3 k = ix4 i0 i1 i2 k := by
  funext d
  unfold Shape.Idx.along
  match d with
  | ⟨0, _⟩ => rfl
  | ⟨1, _⟩ => rfl
  | ⟨2, _⟩ => rfl
  | ⟨3, _⟩ => rfl

/-- An index of the leading part as an index of the whole. -/
def lead {s t : Shape} (h : s.Slices (fun _ => 0) t) (i : t.Idx) : s.Idx := fun d =>
  ⟨0 + (i (d.cast h.1.symm)).val, Nat.lt_of_lt_of_le (Nat.add_lt_add_left (i _).isLt _) (h.2 d)⟩

theorem lead_at {a b c n k : Nat} (h : (⟨4, ![a, b, c, n]⟩ : Shape).Slices (fun _ => 0) ⟨4, ![a, b, c, k]⟩) (hk : k ≤ n)
    (i0 : Fin a) (i1 : Fin b) (i2 : Fin c) (i3 : Fin k) : lead h (ix4 i0 i1 i2 i3) = ix4 i0 i1 i2 ⟨i3.val, by omega⟩ := by
  funext d
  apply Fin.ext
  match d with
  | ⟨0, _⟩ => exact Nat.zero_add _
  | ⟨1, _⟩ => exact Nat.zero_add _
  | ⟨2, _⟩ => exact Nat.zero_add _
  | ⟨3, _⟩ => exact Nat.zero_add _

/-- The order along the last axis at an index. -/
def place {a b c n : Nat} (x : FVec Ideal (⟨4, ![a, b, c, n]⟩ : Shape) .f32) (J : (⟨4, ![a, b, c, n]⟩ : Shape).Idx) : Fin n :=
  sortedFrom (fun p q : Fin n => FloatOps.cmpfTotal (F := Ideal) (φ := .f32) .gt (x (J.along 3 p)) (x (J.along 3 q)) == 1#1) (J 3)

theorem place_at {a b c n : Nat} (s : Fin a → Fin b → Fin c → Fin n → ℝ) (i0 : Fin a) (i1 : Fin b) (i2 : Fin c) (j : Fin n) :
    place (A4 s) (ix4 i0 i1 i2 j) = sortedFrom (fun x y => decide (s i0 i1 i2 y < s i0 i1 i2 x)) j := by
  unfold place
  have hB : (fun p q : Fin n => FloatOps.cmpfTotal (F := Ideal) (φ := .f32) .gt (A4 s (Shape.Idx.along (s := ⟨4, ![a, b, c, n]⟩) (ix4 i0 i1 i2 j) 3 p))
      (A4 s (Shape.Idx.along (s := ⟨4, ![a, b, c, n]⟩) (ix4 i0 i1 i2 j) 3 q)) == 1#1) = fun x y => decide (s i0 i1 i2 y < s i0 i1 i2 x) := by
    funext x y
    rw [along_last, along_last, A4_apply, A4_apply, gt_real]
  rw [hB]
  rfl

theorem topK_place {a b c n k : Nat} (x : FVec Ideal (⟨4, ![a, b, c, n]⟩ : Shape) .f32)
    (h : (⟨4, ![a, b, c, n]⟩ : Shape).Slices (fun _ => 0) ⟨4, ![a, b, c, k]⟩) (i : (⟨4, ![a, b, c, k]⟩ : Shape).Idx) :
    (Host.topK ⟨4, ![a, b, c, k]⟩ 3 (FloatOps.cmpfTotal (F := Ideal) (φ := .f32) .gt) x h).1 i = x ((lead h i).along 3 (place (n := n) x (lead h i)))
      ∧ (Host.topK ⟨4, ![a, b, c, k]⟩ 3 (FloatOps.cmpfTotal (F := Ideal) (φ := .f32) .gt) x h).2 i
        = BitVec.ofNat 32 (((lead h i).along 3 (place (n := n) x (lead h i))) 3).val := ⟨rfl, rfl⟩

/-- The values and the places of the `k` greatest along the last axis. -/
theorem topK_at {a b c n k : Nat} (s : Fin a → Fin b → Fin c → Fin n → ℝ)
    (h : (⟨4, ![a, b, c, n]⟩ : Shape).Slices (fun _ => 0) ⟨4, ![a, b, c, k]⟩) (hk : k ≤ n) (i0 : Fin a) (i1 : Fin b) (i2 : Fin c) (i3 : Fin k) :
    (Host.topK ⟨4, ![a, b, c, k]⟩ 3 (FloatOps.cmpfTotal (F := Ideal) (φ := .f32) .gt) (A4 s) h).1 (ix4 i0 i1 i2 i3)
        = ((s i0 i1 i2 (sortedFrom (fun x y => decide (s i0 i1 i2 y < s i0 i1 i2 x)) ⟨i3.val, by omega⟩) : ℝ) : EReal)
      ∧ (Host.topK ⟨4, ![a, b, c, k]⟩ 3 (FloatOps.cmpfTotal (F := Ideal) (φ := .f32) .gt) (A4 s) h).2 (ix4 i0 i1 i2 i3)
        = BitVec.ofNat 32 (sortedFrom (fun x y => decide (s i0 i1 i2 y < s i0 i1 i2 x)) ⟨i3.val, by omega⟩).val := by
  rw [(topK_place _ _ _).1, (topK_place _ _ _).2, lead_at h hk, place_at, along_last]
  exact ⟨rfl, rfl⟩

/-- Places as words. -/
def W4 (P : Fin 2 → Fin 8 → Fin 256 → Fin 50 → Fin 256) : IVec S2x8x256x50 32 := fun i => BitVec.ofNat 32 (P (i 0) (i 1) (i 2) (i 3)).val

theorem best_real (s : Fin 2 → Fin 8 → Fin 256 → Fin 256 → ℝ) :
    (best (A4 s)).1 = A4 (fun b h i k => s b h i (ord (s b h i) (fst50 k)))
      ∧ (best (A4 s)).2 = W4 (fun b h i k => ord (s b h i) (fst50 k)) := by
  constructor
  · funext i
    idx_vars i
    exact (topK_at s sliceFits_S2x8x256x256_S2x8x256x50 (by decide) i0 i1 i2 i3).1
  · funext i
    idx_vars i
    exact (topK_at s sliceFits_S2x8x256x256_S2x8x256x50 (by decide) i0 i1 i2 i3).2

theorem word_facts : ∀ n : Fin 256, IntOp.cmpi .slt (BitVec.ofNat 32 n.val) 0#32 = 0#1
    ∧ IntOp.cmpi .sge (BitVec.ofNat 32 n.val) 0#32 = 1#1 ∧ IntOp.cmpi .sle (BitVec.ofNat 32 n.val) 255#32 = 1#1
    ∧ (BitVec.ofNat 32 n.val).toInt.toNat = n.val := by decide +kernel

theorem wrap_real (P : Fin 2 → Fin 8 → Fin 256 → Fin 50 → Fin 256) (i0 : Fin 2) (i1 : Fin 8) (i2 : Fin 256) (i3 : Fin 50) (i4 : Fin 1) :
    wrap (column (W4 P)) (ix5 i0 i1 i2 i3 i4) = BitVec.ofNat 32 (P i0 i1 i2 i3).val := by
  pointwise [wrap, column]
  show Scalar.select (IntOp.cmpi .slt (BitVec.ofNat 32 (P i0 i1 i2 i3).val) 0#32) _ _ = _
  rw [(word_facts _).1]
  rfl

theorem andLast {a b c n : Nat} (s : IVec (⟨5, ![a, b, c, n, 1]⟩ : Shape) 1) (z : IVec S_ 1)
    (h : (⟨5, ![a, b, c, n, 1]⟩ : Shape).ReducesTo [4] ⟨4, ![a, b, c, n]⟩) (hu : 0 < S_.numel) (i0 : Fin a) (i1 : Fin b) (i2 : Fin c) (i3 : Fin n) :
    Host.reduce IntOp.andi s z h hu (ix4 i0 i1 i2 i3) = Finset.fold IntOp.andi (z (Shape.Idx.first hu)) (fun j => s (ix5 i0 i1 i2 i3 j)) Finset.univ := by
  pointwise

theorem inside_real (w : IVec S2x8x256x50x1 32) (P : Fin 2 → Fin 8 → Fin 256 → Fin 50 → Fin 256)
    (hw : ∀ i0 i1 i2 i3 i4, w (ix5 i0 i1 i2 i3 i4) = BitVec.ofNat 32 (P i0 i1 i2 i3).val)
    (i0 : Fin 2) (i1 : Fin 8) (i2 : Fin 256) (i3 : Fin 50) :
    inside w (ix4 i0 i1 i2 i3) = 1#1 := by
  unfold inside
  refine (andLast _ _ _ _ i0 i1 i2 i3).trans ?_
  rw [Finset.univ_unique, Finset.fold_singleton]
  pointwise
  rw [hw, (word_facts _).2.1, (word_facts _).2.2.1]
  rfl

theorem gather_real (v : FVec Ideal S2x8x256x256x16 .f32) (w : IVec S2x8x256x50x1 32) (P : Fin 2 → Fin 8 → Fin 256 → Fin 50 → Fin 256)
    (hw : ∀ i0 i1 i2 i3 i4, w (ix5 i0 i1 i2 i3 i4) = BitVec.ofNat 32 (P i0 i1 i2 i3).val)
    (i0 : Fin 2) (i1 : Fin 8) (i2 : Fin 256) (i3 : Fin 50) (i4 : Fin 16) :
    Host.gather gather_S2x8x256x256x16_S2x8x256x50x1_S2x8x256x50x16_4_3_012_012_3_4_111116 v w (ix5 i0 i1 i2 i3 i4) = v (ix5 i0 i1 i2 (P i0 i1 i2 i3) i4) := by
  unfold Host.gather
  congr 1
  funext a
  apply Fin.ext
  match a with
  | ⟨0, _⟩ => exact Nat.zero_add _
  | ⟨1, _⟩ => exact Nat.zero_add _
  | ⟨2, _⟩ => exact Nat.zero_add _
  | ⟨3, _⟩ =>
    have hsi : gather_S2x8x256x256x16_S2x8x256x50x1_S2x8x256x50x16_4_3_012_012_3_4_111116.siIdx (ix5 i0 i1 i2 i3 i4) ⟨0, by decide⟩ = ix5 i0 i1 i2 i3 0 := by
      funext b
      apply Fin.ext
      match b with
      | ⟨0, _⟩ => rfl
      | ⟨1, _⟩ => rfl
      | ⟨2, _⟩ => rfl
      | ⟨3, _⟩ => rfl
      | ⟨4, _⟩ => rfl
    show min (w (gather_S2x8x256x256x16_S2x8x256x50x1_S2x8x256x50x16_4_3_012_012_3_4_111116.siIdx (ix5 i0 i1 i2 i3 i4) ⟨0, by decide⟩)).toInt.toNat (256 - 1) + 0 + 0 = (P i0 i1 i2 i3).val
    rw [hsi, hw, (word_facts _).2.2.2]
    omega
  | ⟨4, _⟩ => exact Nat.zero_add _

theorem spread_at (v : FVec Ideal S2x8x256x16 .f32) (i0 : Fin 2) (i1 : Fin 8) (i2 i3 : Fin 256) (i4 : Fin 16) :
    spread v (ix5 i0 i1 i2 i3 i4) = v (ix4 i0 i1 i3 i4) := by
  pointwise [spread]

theorem fetch_real (v : FVec Ideal S2x8x256x16 .f32) (w : IVec S2x8x256x50x1 32) (P : Fin 2 → Fin 8 → Fin 256 → Fin 50 → Fin 256)
    (hw : ∀ i0 i1 i2 i3 i4, w (ix5 i0 i1 i2 i3 i4) = BitVec.ofNat 32 (P i0 i1 i2 i3).val)
    (i0 : Fin 2) (i1 : Fin 8) (i2 : Fin 256) (i3 : Fin 50) (i4 : Fin 16) :
    fetch v w (ix5 i0 i1 i2 i3 i4) = v (ix4 i0 i1 (P i0 i1 i2 i3) i4) := by
  have hi := inside_real w P hw
  have hg := fun i0 i1 i2 i3 i4 => (gather_real (spread v) w P hw i0 i1 i2 i3 i4).trans (spread_at v i0 i1 i2 (P i0 i1 i2 i3) i4)
  unfold fetch
  show Scalar.select (broadcastInDim S2x8x256x50x16 ![0, 1, 2, 3] bcast_S2x8x256x50_S2x8x256x50x16_0_1_2_3 (inside w) (ix5 i0 i1 i2 i3 i4)) _ _ = _
  rw [hg]
  have hb : broadcastInDim S2x8x256x50x16 ![0, 1, 2, 3] bcast_S2x8x256x50_S2x8x256x50x16_0_1_2_3 (inside w) (ix5 i0 i1 i2 i3 i4) = inside w (ix4 i0 i1 i2 i3) := by
    pointwise
  rw [hb, hi]
  rfl

theorem expT_at (s : FVec Ideal S2x8x256x50 .f32) (M : FVec Ideal S2x8x256 .f32) (i0 : Fin 2) (i1 : Fin 8) (i2 : Fin 256) (i3 : Fin 50) :
    Host.exp (subf s (broadcastInDim S2x8x256x50 ![0, 1, 2, 3] bcast_S2x8x256x1_S2x8x256x50_0_1_2_3 (broadcastInDim S2x8x256x1 ![0, 1, 2] bcast_S2x8x256_S2x8x256x1_0_1_2 M))) (ix4 i0 i1 i2 i3)
      = Ideal.exp (s (ix4 i0 i1 i2 i3) - M (ix3 i0 i1 i2)) := by
  pointwise

theorem topT_at (M : FVec Ideal S2x8x256 .f32) (i0 : Fin 2) (i1 : Fin 8) (i2 : Fin 256) :
    maximumf (broadcastInDim S2x8x256 ![] bcast_S_S2x8x256 (constant (F := Ideal) S_ .f32 0xFF800000#32)) M (ix3 i0 i1 i2) = M (ix3 i0 i1 i2) := by
  pointwise
  rw [lit_bot]
  exact max_eq_right bot_le

theorem maxT (s : Fin 2 → Fin 8 → Fin 256 → Fin 50 → ℝ) (i0 : Fin 2) (i1 : Fin 8) (i2 : Fin 256) :
    Host.reduce FloatOps.maximumf (A4 s) (constant S_ .f32 0xFF800000#32) reducesTo_S2x8x256x50_S2x8x256_d3 h_S_ (ix3 i0 i1 i2)
      = ((Finset.univ.sup' ⟨0, Finset.mem_univ _⟩ (s i0 i1 i2) : ℝ) : EReal) :=
  maxLast_real s _ _ _ i0 i1 i2

theorem expT_real (s : Fin 2 → Fin 8 → Fin 256 → Fin 50 → ℝ) :
    ∃ m : Fin 2 → Fin 8 → Fin 256 → ℝ, expT (A4 s) = A4 fun r h i j => Real.exp (s r h i j - m r h i) := by
  refine ⟨fun r h i => Finset.univ.sup' ⟨0, Finset.mem_univ _⟩ (s r h i), ?_⟩
  unfold expT
  funext i
  idx_vars i
  rw [expT_at, topT_at, maxT]
  simp only [A4_apply, ← EReal.coe_sub, Ideal.exp_coe]

theorem mixT_real (e : Fin 2 → Fin 8 → Fin 256 → Fin 50 → ℝ) (he : ∀ r h i, (∑ j, e r h i j) ≠ 0) (g : FVec Ideal S2x8x256x50x16 .f32)
    (v : Fin 2 → Fin 8 → Fin 256 → Fin 50 → Fin 16 → ℝ) (hg : ∀ i0 i1 i2 i3 i4, g (ix5 i0 i1 i2 i3 i4) = ((v i0 i1 i2 i3 i4 : ℝ) : EReal)) :
    mixT (A4 e) g = A4 fun b h i d => ∑ j, e b h i j / (∑ j', e b h i j') * v b h i j d := by
  funext i
  idx_vars i
  pointwise [mixT]
  simp only [A4_apply, hg, coe_sum, div_real _ _ (he _ _ _), ← EReal.coe_mul]

/-- The attention over the fifty best keys is the attention over the selected ones. -/
theorem topStep_real (p : Fin 2 → Fin 256 → Fin 128 → ℝ) (wq wk wv wo : Model.Mat) (hs : ∀ b h i, Model.Sep (Model.scores (p b) wq wk h i)) :
    topStep (A3 p) (A3 p) (R2 wq) (R2 wk) (R2 wv) (R2 wo) = A3 fun b => Model.top (p b) wq wk wv wo := by
  unfold topStep
  rw [headsT_real, headsT_real, headsT_real, scoreT_real, (best_real _).1, (best_real _).2]
  obtain ⟨m, hm⟩ := expT_real fun b h i k => Model.score (Model.proj (p b) wq) (Model.proj (p b) wk) h i
    (ord (Model.score (Model.proj (p b) wq) (Model.proj (p b) wk) h i) (fst50 k))
  rw [hm, mixT_real _ (fun r h i => KernelIdeal.soft_nonneg_sum Finset.univ ⟨0, Finset.mem_univ _⟩ _) _ _
    (fun i0 i1 i2 i3 i4 => (fetch_real _ _ _ (wrap_real _) i0 i1 i2 i3 i4).trans (A4_apply _ _ _ _ _))]
  have e : (fun (b : Fin 2) (h : Fin 8) (i : Fin 256) (d : Fin 16) => ∑ j : Fin 50,
      Real.exp (Model.score (Model.proj (p b) wq) (Model.proj (p b) wk) h i (ord (Model.score (Model.proj (p b) wq) (Model.proj (p b) wk) h i) (fst50 j)) - m b h i)
        / (∑ j' : Fin 50, Real.exp (Model.score (Model.proj (p b) wq) (Model.proj (p b) wk) h i (ord (Model.score (Model.proj (p b) wq) (Model.proj (p b) wk) h i) (fst50 j')) - m b h i))
        * split (fun r => Model.proj (p r) wv) b h (ord (Model.score (Model.proj (p b) wq) (Model.proj (p b) wk) h i) (fst50 j)) d)
      = split fun b => Model.attn (fun h i => Model.sel (Model.scores (p b) wq wk h i)) (Model.proj (p b) wq) (Model.proj (p b) wk) (Model.proj (p b) wv) := by
    funext b h i d
    have hh : Model.head ⟨h.val * 16 + d.val, by omega⟩ = h := by
      apply Fin.ext; show (h.val * 16 + d.val) / 16 = h.val; omega
    have hs' := hs b h i
    simp only [split, Model.attn, hh, ← Model.soft_shift _ _ (m b h i), Model.scores] at hs' ⊢
    rw [Model.sum_fst50 _ hs' fun j' => Real.exp (Model.score (Model.proj (p b) wq) (Model.proj (p b) wk) h i j' - m b h i)]
    exact Model.sum_fst50 _ hs' fun j => Real.exp (Model.score (Model.proj (p b) wq) (Model.proj (p b) wk) h i j - m b h i)
      / (∑ j' ∈ Model.sel (Model.score (Model.proj (p b) wq) (Model.proj (p b) wk) h i), Real.exp (Model.score (Model.proj (p b) wq) (Model.proj (p b) wk) h i j' - m b h i))
      * Model.proj (p b) wv j ⟨h.val * 16 + d.val, by omega⟩
  rw [e, outT_real]
  rfl

end Cert.ReferenceIdeal.Steps
-- ==== Proof.KernelOut.lean ====
module

public import proofs.«01_k».proof.Proof.KernelReal
public import proofs.«01_k».proof.Proof.Frames

@[expose] public section

set_option maxRecDepth 16384

noncomputable section

/-! What the kernel's program leaves in its result array when its arguments are real numbers. -/

namespace Cert.KernelIdeal

open Cert.KernelIdeal.Gen
open Idealize.ShloMosaic Idealize.ShloMosaic.TcCoe
open Idealize.SL Idealize.SL.Sem

variable (m : (ℓ : Loc nD τ sig) → Buf (Elt Ideal) ℓ) (c : Dev nD)
variable (x : Fin 2 → Fin 128 → Fin 128 → Fin 128 → ℝ) (P : Fin 2 → Model.Wts)

/-- The result pixel by pixel, as the region's output array lays it out: batch, pair of window rows, pixel row, half of the
    window row, pixel column, channel. -/
def outArr : FVec Ideal S2x16x8x2x64x128 .f32 := fun i =>
  ((X3 x P (i 0) ⟨(i 1).val * 16 + (i 3).val * 8 + (i 4).val / 8, by
      have h1 : (i 1).val < 16 := (i 1).isLt; have h3 : (i 3).val < 2 := (i 3).isLt; have h4 : (i 4).val < 64 := (i 4).isLt; omega⟩
    ⟨(i 2).val * 8 + (i 4).val % 8, by have h2 : (i 2).val < 8 := (i 2).isLt; omega⟩ (i 5) : ℝ) : EReal)

theorem index17 : ∀ j : Fin 16, win0_17.index (pt3 j) = ![j.val / 8, j.val % 8, 0, 0, 0, 0] := by decide +kernel
theorem flush17' : ∀ j : Fin 16, (cfg0.win 17).flush (pt3 j) = true := by decide +kernel

/-- Where an element of group `j`'s block lies in the output array. -/
theorem emb17 (j : Fin 16) (y : S1x2x8x2x64x128.Idx) :
    (((win0_17.rect (pt3 j)).emb y 0).val = j.val / 8 ∧ ((win0_17.rect (pt3 j)).emb y 1).val = j.val % 8 * 2 + (y 1).val)
    ∧ ((win0_17.rect (pt3 j)).emb y 2).val = (y 2).val ∧ ((win0_17.rect (pt3 j)).emb y 3).val = (y 3).val
    ∧ ((win0_17.rect (pt3 j)).emb y 4).val = (y 4).val ∧ ((win0_17.rect (pt3 j)).emb y 5).val = (y 5).val := by
  have e (a : Fin 6) : ((win0_17.rect (pt3 j)).emb y a : Nat) = win0_17.index (pt3 j) a * win0_17.size a + y a := win0_17.rect_emb_val (pt3 j) y a
  rw [index17 j] at e
  have hy0 : (y 0).val < 1 := (y 0).isLt
  have E0 := e 0; have E1 := e 1; have E2 := e 2; have E3 := e 3; have E4 := e 4; have E5 := e 5
  refine ⟨⟨E0.trans (by show j.val / 8 * 1 + (y 0).val = _; omega), E1⟩, E2.trans (by show 0 * 8 + (y 2).val = _; omega),
    E3.trans (by show 0 * 2 + (y 3).val = _; omega), E4.trans (by show 0 * 64 + (y 4).val = _; omega), E5.trans (by show 0 * 128 + (y 5).val = _; omega)⟩

/-- Equal places hold equal numbers. -/
theorem at_congr {a b c d : Nat} (f : Fin a → Fin b → Fin c → Fin d → ℝ) {i i' : Fin a} {j j' : Fin b} {k k' : Fin c} {l l' : Fin d}
    (h1 : i.val = i'.val) (h2 : j.val = j'.val) (h3 : k.val = k'.val) (h4 : l.val = l'.val) : f i j k l = f i' j' k' l' := by
  rw [Fin.ext h1, Fin.ext h2, Fin.ext h3, Fin.ext h4]

/-- A group's block is the output array read where the block lies. -/
theorem outB_read (h : Reads m c x P) (s : Apart x P) (j : Fin 16) : outB m c j = fun y => outArr x P ((win0_17.rect (pt3 j)).emb y) := by
  funext y
  obtain ⟨⟨e0, e1⟩, e2, e3, e4, e5⟩ := emb17 j y
  idx_vars y
  rw [show y0 = 0 from Subsingleton.elim _ _] at *
  rw [outB_real m c x P h s]
  exact congrArg _ (at_congr (X3 x P) e0.symm
    (by show j.val % 8 * 32 + (y1.val * 16 + y3.val * 8 + y4.val / 8) = ((win0_17.rect (pt3 j)).emb (ix6 0 y1 y2 y3 y4 y5) 1).val * 16 + ((win0_17.rect (pt3 j)).emb (ix6 0 y1 y2 y3 y4 y5) 3).val * 8 + ((win0_17.rect (pt3 j)).emb (ix6 0 y1 y2 y3 y4 y5) 4).val / 8; rw [e1, e3, e4]; show _ = (j.val % 8 * 2 + y1.val) * 16 + y3.val * 8 + y4.val / 8; omega)
    (by show y2.val * 8 + y4.val % 8 = ((win0_17.rect (pt3 j)).emb (ix6 0 y1 y2 y3 y4 y5) 2).val * 8 + ((win0_17.rect (pt3 j)).emb (ix6 0 y1 y2 y3 y4 y5) 4).val % 8; rw [e2, e4]) e5.symm)

/-- The region's output array after the run. -/
theorem arr17 (h : Reads m c x P) (s : Apart x P) : (dats m 0 c).arrAt 17 cfg0.N = outArr x P := by
  refine (dats m 0 c).arrAt_eq_of_cover 17 (outArr x P) (fun t ht => ?_) fun i => ?_
  · have h34 : 34 ≤ t.val := by
      by_contra hlt
      rw [flush17 t (by omega)] at ht
      exact absurd ht (by decide)
    have h50 : t.val < 50 := t.isLt
    obtain ⟨j, rfl⟩ : ∃ j : Fin 16, t = pt3 j := ⟨⟨t.val - 34, by omega⟩, Fin.ext (by show t.val = 34 + (t.val - 34); omega)⟩
    have e : outAt m c (pt3 j) = outB m c j := congrArg (outB m c) (Fin.ext (by show 34 + j.val - 34 = j.val; omega))
    show outAt m c (pt3 j) = _
    rw [e, outB_read m c x P h s]
    rfl
  · idx_vars i
    refine ⟨pt3 ⟨i0.val * 8 + i1.val / 2, by omega⟩, flush17' _, ?_⟩
    obtain ⟨⟨e0, e1⟩, e2, e3, e4, e5⟩ := emb17 ⟨i0.val * 8 + i1.val / 2, by omega⟩ (ix6 0 ⟨i1.val % 2, by omega⟩ i2 i3 i4 i5)
    have e : (ix6 i0 i1 i2 i3 i4 i5 : S2x16x8x2x64x128.Idx)
        = (win0_17.rect (pt3 ⟨i0.val * 8 + i1.val / 2, by omega⟩)).emb (ix6 0 ⟨i1.val % 2, by omega⟩ i2 i3 i4 i5) := by
      funext a
      match a with
      | ⟨0, _⟩ => exact Fin.ext (Eq.trans (by show i0.val = (i0.val * 8 + i1.val / 2) / 8; omega) e0.symm)
      | ⟨1, _⟩ => exact Fin.ext (Eq.trans (by show i1.val = (i0.val * 8 + i1.val / 2) % 8 * 2 + i1.val % 2; omega) e1.symm)
      | ⟨2, _⟩ => exact Fin.ext e2.symm
      | ⟨3, _⟩ => exact Fin.ext e3.symm
      | ⟨4, _⟩ => exact Fin.ext e4.symm
      | ⟨5, _⟩ => exact Fin.ext e5.symm
    rw [e]
    exact View.emb_mem_set _ _

theorem arrRef_inj : ∀ a b, Pipeline.arrRef spec0 a = Pipeline.arrRef spec0 b → a = b := by decide +kernel

/-- The result array: the output array read as two images of 16384 pixels. -/
theorem result_real (h : Reads m c x P) (s : Apart x P) :
    Pipeline.afterTail₀ cfgs (dats m) 0 (V0 m) [hostOps1] c main_v34
      = shapeCast S2x16384x128 (outArr x P) shapeCasts_S2x16x8x2x64x128_S2x16384x128 := by
  unfold Pipeline.afterTail₀
  simp only [hostOps1, List.flatten_cons, List.flatten_nil, List.append_nil]
  after_results
  rw [← arr17 m c x P h s]
  exact congrArg (fun X => shapeCast S2x16384x128 X shapeCasts_S2x16x8x2x64x128_S2x16384x128)
    (Pipeline.withArrays_arr spec0 (fun a b => arrRef_inj a b) c (V0 m c) _ 17)

/-- The result as two images of 16384 pixels. -/
def outFlat : FVec Ideal S2x16384x128 .f32 := shapeCast S2x16384x128 (outArr x P) shapeCasts_S2x16x8x2x64x128_S2x16384x128

/-- Pixel `p` of image `b`: its window and its place in it. -/
theorem outFlat_apply (b : Fin 2) (p : Fin 16384) (ch : Fin 128) :
    outFlat x P (ix3 b p ch) = ((X3 x P b ⟨p.val / 1024 * 16 + p.val % 128 / 8, by omega⟩ ⟨p.val / 128 % 8 * 8 + p.val % 8, by omega⟩ ch : ℝ) : EReal) := by
  pointwise [outFlat, outArr]
  exact congrArg _ (at_congr (X3 x P) (by simp) (by simp <;> omega) (by simp <;> omega) (by simp))

/-- The program's run: its result array is the second layer's windows, pixel by pixel, and its arguments are as they were. -/
theorem run_value (ρ : Dev nD → PrngReg) (x : Dev nD → Fin 2 → Fin 128 → Fin 128 → Fin 128 → ℝ) (P : Dev nD → Fin 2 → Model.Wts)
    (hr : ∀ c, Reads m c (x c) (P c)) (hs : ∀ c, Apart (x c) (P c)) :
    θ_run (defs (F := Ideal)) (onTc (τ := τ) (main (F := Ideal))) ⟨m, fun _ => 0, ρ⟩ (fun r => ∀ c : Dev nD,
          r.2.mem ((c.tc : Thread nD τ).loc main_v34) = outFlat (x c) (P c)
          ∧ r.2.mem ((c.tc : Thread nD τ).loc main_v34) = outFlat (x c) (P c)
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3)
          ∧ r.2.mem ((c.tc : Thread nD τ).loc main_arg4) = m ((c.tc : Thread nD τ).loc main_arg4)
          ∧ r.2.mem ((c.tc : Thread nD τ).loc main_arg5) = m ((c.tc : Thread nD τ).loc main_arg5)
          ∧ r.2.mem ((c.tc : Thread nD τ).loc main_arg6) = m ((c.tc : Thread nD τ).loc main_arg6)
          ∧ r.2.mem ((c.tc : Thread nD τ).loc main_arg7) = m ((c.tc : Thread nD τ).loc main_arg7)
          ∧ r.2.mem ((c.tc : Thread nD τ).loc main_arg8) = m ((c.tc : Thread nD τ).loc main_arg8)
          ∧ r.2.mem ((c.tc : Thread nD τ).loc main_arg9) = m ((c.tc : Thread nD τ).loc main_arg9)) :=
  (θ_run (defs (F := Ideal)) _ _).mono (fun _ (h : _ ∧ _) c =>
    have e := ((h.1 c).2 main_v34 (Pipeline.mem_restRefs_of main_v34 (by decide) (by decide))).trans (result_real m c (x c) (P c) (hr c) (hs c))
    ⟨e, e,
      ((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c),
      ((h.1 c).2 main_arg2 (Pipeline.mem_restRefs_of main_arg2 (by decide) (by decide))).trans (W_main_arg2 m (dats m) c),
      ((h.1 c).2 main_arg3 (Pipeline.mem_restRefs_of main_arg3 (by decide) (by decide))).trans (W_main_arg3 m (dats m) c),
      ((h.1 c).2 main_arg4 (Pipeline.mem_restRefs_of main_arg4 (by decide) (by decide))).trans (W_main_arg4 m (dats m) c),
      ((h.1 c).2 main_arg5 (Pipeline.mem_restRefs_of main_arg5 (by decide) (by decide))).trans (W_main_arg5 m (dats m) c),
      ((h.1 c).2 main_arg6 (Pipeline.mem_restRefs_of main_arg6 (by decide) (by decide))).trans (W_main_arg6 m (dats m) c),
      ((h.1 c).2 main_arg7 (Pipeline.mem_restRefs_of main_arg7 (by decide) (by decide))).trans (W_main_arg7 m (dats m) c),
      ((h.1 c).2 main_arg8 (Pipeline.mem_restRefs_of main_arg8 (by decide) (by decide))).trans (W_main_arg8 m (dats m) c),
      ((h.1 c).2 main_arg9 (Pipeline.mem_restRefs_of main_arg9 (by decide) (by decide))).trans (W_main_arg9 m (dats m) c)⟩) (run_main m ρ)

end Cert.KernelIdeal
-- ==== Proof.RefWhole.lean ====
module

public import proofs.«01_k».proof.Proof.TopRef
public import proofs.«01_k».proof.Proof.KernelOut

@[expose] public section

set_option maxRecDepth 16384

noncomputable section

/-! The whole reference on arrays of real numbers. -/

namespace Cert.ReferenceIdeal.Steps

open Cert.ReferenceIdeal Cert.ReferenceIdeal.Gen Idealize.ShloMosaic
open Cert.KernelIdeal (R2 R2_apply R3 R4 X0 X1 X2 X3 Apart outFlat outFlat_apply)

variable (x : Fin 2 → Fin 128 → Fin 128 → Fin 128 → ℝ) (P : Fin 2 → Model.Wts)

theorem mid1_real : mid1 (R4 x) (R3 fun l => (P l).q) (R3 fun l => (P l).k) (R3 fun l => (P l).v) (R3 fun l => (P l).o)
    = A3 (join (X0 x P)) := by
  unfold mid1
  rw [wt0_real, wt0_real, wt0_real, wt0_real, parts_real, winStep_real]
  rfl

theorem full1_real (hs : ∀ b h i, Model.Sep (Model.scores (Model.pool (X0 x P b)) (P 0).tq (P 0).tk h i)) :
    full1 (A3 (join (X0 x P))) (R3 fun l => (P l).tq) (R3 fun l => (P l).tk) (R3 fun l => (P l).tv) (R3 fun l => (P l).tp)
      = A3 (join (X1 x P)) := by
  unfold full1
  rw [wt0_real, wt0_real, wt0_real, wt0_real, poolStep_real, topStep_real _ _ _ _ _ hs, addStep_real]
  rfl

theorem mid2_real : mid2 (back (A3 (join (X1 x P)))) (R3 fun l => (P l).q) (R3 fun l => (P l).k) (R3 fun l => (P l).v) (R3 fun l => (P l).o)
    = A3 (join (X2 x P)) := by
  unfold mid2
  rw [wt1_real, wt1_real, wt1_real, wt1_real, parts_back, winStep_real]
  rfl

theorem full2_real (hs : ∀ b h i, Model.Sep (Model.scores (Model.pool (X2 x P b)) (P 1).tq (P 1).tk h i)) :
    full2 (A3 (join (X2 x P))) (R3 fun l => (P l).tq) (R3 fun l => (P l).tk) (R3 fun l => (P l).tv) (R3 fun l => (P l).tp)
      = A3 (join (X3 x P)) := by
  unfold full2
  rw [wt1_real, wt1_real, wt1_real, wt1_real, poolStep_real, topStep_real _ _ _ _ _ hs, addStep_real]
  rfl

/-- On real arguments whose rows of scores are separated the reference's results are the kernel's. -/
theorem whole_real (hs : Apart x P) :
    whole (R4 x) (R3 fun l => (P l).q) (R3 fun l => (P l).k) (R3 fun l => (P l).v) (R3 fun l => (P l).o)
      (R3 fun l => (P l).tq) (R3 fun l => (P l).tk) (R3 fun l => (P l).tv) (R3 fun l => (P l).tp) = outFlat x P := by
  unfold whole
  rw [mid1_real, full1_real x P fun b h i => (hs b h i).1, mid2_real, full2_real x P fun b h i => (hs b h i).2]
  funext i
  idx_vars i
  exact (flat_back _ _ _ _).trans (outFlat_apply x P _ _ _).symm

end Cert.ReferenceIdeal.Steps
-- ==== Proof.PreReal.lean ====
module

public import proofs.«01_k».proof.Proof.PreMasks
public import proofs.«01_k».proof.Proof.RefWhole

@[expose] public section

noncomputable section

/-! The precondition over the extended reals: every array it reads is of real numbers, and the scores of both layers
leave room between the fiftieth and the next. -/

namespace Cert.Pre_separated.Masks

open Cert.ReferenceIdeal Cert.ReferenceIdeal.Gen Cert.ReferenceIdeal.Steps Idealize.ShloMosaic Idealize.ShloMosaic.TcCoe Finset
open Cert.KernelIdeal (R3 R4 X0 X1 X2 Apart)
open Cert.Model (ord fst50)

theorem lit_top : (Ideal.ofBits .f32 0x7F800000#32 : EReal) = ⊤ := by
  simp [Ideal.ofBits, Ideal.ieee]
theorem lit_margin : (Ideal.ofBits .f32 0x36F00000#32 : EReal) = ((30 / 4194304 : ℝ) : EReal) := by
  simp [Ideal.ofBits, Ideal.ieee, -EReal.coe_mul]; norm_num

theorem ofBool_one {p : Prop} [Decidable p] (h : BitVec.ofBool (decide p) = 1#1) : p := by
  by_contra hp
  simp [hp] at h

/-- An extended real whose absolute value is below the top is a real number. -/
theorem real_of_abs (e : EReal) (h : max e (-e) < ⊤) : ((e.toReal : ℝ) : EReal) = e := by
  refine EReal.coe_toReal (fun he => ?_) (fun he => ?_)
  · subst he; simp at h
  · subst he; simp at h

theorem finImg_at (x : Img) (i0 : Fin 2) (i1 i2 i3 : Fin 128) (h : finImg x (ix4 i0 i1 i2 i3) = 1#1) :
    (((x (ix4 i0 i1 i2 i3)).toReal : ℝ) : EReal) = x (ix4 i0 i1 i2 i3) := by
  revert h
  pointwise [finImg]
  intro h
  have h' := ofBool_one h
  rw [lit_top] at h'
  exact real_of_abs _ h'

theorem finWt_at (x : FVec Ideal S2x128x128 .f32) (i0 : Fin 2) (i1 i2 : Fin 128) (h : finWt x (ix3 i0 i1 i2) = 1#1) :
    (((x (ix3 i0 i1 i2)).toReal : ℝ) : EReal) = x (ix3 i0 i1 i2) := by
  revert h
  pointwise [finWt]
  intro h
  have h' := ofBool_one h
  rw [lit_top] at h'
  exact real_of_abs _ h'

/-- The real numbers of the images and of two weight matrices. -/
def numImg (x : Img) (i0 : Fin 2) (i1 i2 i3 : Fin 128) : ℝ := (x (ix4 i0 i1 i2 i3)).toReal
def numWt (a : FVec Ideal S2x128x128 .f32) (l : Fin 2) : Model.Mat := fun i j => (a (ix3 l i j)).toReal

theorem img_real (x : Img) (h : finImg x = fun _ => 1#1) : x = R4 (numImg x) := by
  funext i
  idx_vars i
  exact (finImg_at x i0 i1 i2 i3 (congrFun h _)).symm
theorem wt_real (a : FVec Ideal S2x128x128 .f32) (h : finWt a = fun _ => 1#1) : a = R3 (numWt a) := by
  funext i
  idx_vars i
  exact (finWt_at a i0 i1 i2 (congrFun h _)).symm

/-- The slice that takes the fiftieth of the fifty. -/
theorem last_real (v : Fin 2 → Fin 8 → Fin 256 → Fin 50 → ℝ) : last (A4 v) = A4 fun b h i _ => v b h i 49 := by
  funext i
  idx_vars i
  pointwise [last]
  rfl

theorem uitofp_one : (FloatOps.uitofp (F := Ideal) FTy.f32 (BitVec.ofBool true) : EReal) = (((1 : ℕ) : ℝ) : EReal) := by
  show (((BitVec.ofBool true).toNat : ℝ) : EReal) = _
  simp
theorem uitofp_zero : (FloatOps.uitofp (F := Ideal) FTy.f32 (BitVec.ofBool false) : EReal) = (((0 : ℕ) : ℝ) : EReal) := by
  show (((BitVec.ofBool false).toNat : ℝ) : EReal) = _
  simp

/-- The count of the scores at least a row's `t` less the margin. -/
theorem near_real (s : Fin 2 → Fin 8 → Fin 256 → Fin 256 → ℝ) (t : Fin 2 → Fin 8 → Fin 256 → ℝ) :
    near (A4 s) (A4 fun b h i (_ : Fin 1) => t b h i)
      = A3 fun b h i => ((univ.filter fun j => t b h i - 30 / 4194304 ≤ s b h i j).card : ℝ) := by
  funext i
  idx_vars i
  pointwise [near]
  simp only [A3_apply, A4_apply, lit_margin, ← EReal.coe_sub]
  rw [Finset.card_filter, Nat.cast_sum, ← KernelIdeal.coe_sum]
  refine Finset.sum_congr rfl fun j _ => ?_
  by_cases hj : t i0 i1 i2 - 30 / 4194304 ≤ s i0 i1 i2 j
  · rw [if_pos hj, decide_eq_true (EReal.coe_le_coe_iff.mpr hj)]; exact uitofp_one
  · rw [if_neg hj, decide_eq_false (fun hh => hj (EReal.coe_le_coe_iff.mp hh))]; exact uitofp_zero

theorem atMost_at (i0 : Fin 2) (i1 : Fin 8) (i2 : Fin 256)
    (n : FVec Ideal S2x8x256 .f32) (h : (cmpf .ole n (broadcastInDim S2x8x256 ![] bcast_S_S2x8x256 (constant S_ .f32 0x42480000#32)) : IVec S2x8x256 1) (ix3 i0 i1 i2) = 1#1) :
    n (ix3 i0 i1 i2) ≤ ((50 : ℝ) : EReal) := by
  revert h
  pointwise
  intro h
  have h' := ofBool_one h
  rwa [KernelIdeal.lit_fifty] at h'

theorem within_at (g : FVec Ideal S2x8x256 .f32) (t : FVec Ideal S2x8x256x1 .f32) (i0 : Fin 2) (i1 : Fin 8) (i2 : Fin 256)
    (h : within g t (ix3 i0 i1 i2) = 1#1) : g (ix3 i0 i1 i2) - t (ix4 i0 i1 i2 0) ≤ ((30 : ℝ) : EReal) := by
  revert h
  pointwise [within]
  intro h
  have h' := ofBool_one h
  rwa [KernelIdeal.lit_thirty] at h'

/-- Where both masks are all ones, every row of scores is separated. -/
theorem sep_of_masks (s : Fin 2 → Fin 8 → Fin 256 → Fin 256 → ℝ) (hc : countMask (A4 s) = fun _ => 1#1)
    (hm : spanMask (A4 s) = fun _ => 1#1) (b : Fin 2) (h : Fin 8) (i : Fin 256) : Model.Sep (s b h i) := by
  have e : last (best (A4 s)).1 = A4 fun b h i (_ : Fin 1) => s b h i (ord (s b h i) (fst50 49)) := by
    rw [(best_real s).1, last_real]
  refine Model.sep_of_count (s b h i) ?_ fun j => ?_
  · have h1 := atMost_at b h i _ (congrFun hc (ix3 b h i))
    rw [e, near_real, A3_apply, EReal.coe_le_coe_iff] at h1
    exact_mod_cast h1
  · have h2 := within_at _ _ b h i (congrFun hm (ix3 b h i))
    unfold greatest at h2
    rw [e, A4_apply, maxLast_real s ⟨0, mem_univ _⟩ _ _ b h i, ← EReal.coe_sub, EReal.coe_le_coe_iff] at h2
    exact (sub_le_sub_right (le_sup' (s b h i) (mem_univ j)) _).trans h2

theorem scores_real (y : Fin 2 → Fin 256 → Fin 64 → Fin 128 → ℝ) (wq wk : Model.Mat) :
    scores (A3 (join y)) (KernelIdeal.R2 wq) (KernelIdeal.R2 wk) = A4 fun b => Model.scores (Model.pool (y b)) wq wk := by
  unfold scores
  rw [poolStep_real, headsT_real, headsT_real, scoreT_real]
  rfl

variable (x : Fin 2 → Fin 128 → Fin 128 → Fin 128 → ℝ) (P : Fin 2 → Model.Wts)

theorem s1_real : s1 (R4 x) (R3 fun l => (P l).q) (R3 fun l => (P l).k) (R3 fun l => (P l).v) (R3 fun l => (P l).o)
    (R3 fun l => (P l).tq) (R3 fun l => (P l).tk) = A4 fun b => Model.scores (Model.pool (X0 x P b)) (P 0).tq (P 0).tk := by
  unfold s1
  rw [mid1_real, wt0_real, wt0_real, scores_real]

theorem s2_real (hs : ∀ b h i, Model.Sep (Model.scores (Model.pool (X0 x P b)) (P 0).tq (P 0).tk h i)) :
    s2 (R4 x) (R3 fun l => (P l).q) (R3 fun l => (P l).k) (R3 fun l => (P l).v) (R3 fun l => (P l).o)
      (R3 fun l => (P l).tq) (R3 fun l => (P l).tk) (R3 fun l => (P l).tv) (R3 fun l => (P l).tp)
      = A4 fun b => Model.scores (Model.pool (X2 x P b)) (P 1).tq (P 1).tk := by
  unfold s2
  rw [mid1_real, full1_real x P hs, mid2_real, wt1_real, wt1_real, scores_real]

/-- The real numbers of the eight pairs of weight matrices. -/
def nums (a2 a3 a4 a5 a6 a7 a8 a9 : FVec Ideal S2x128x128 .f32) (l : Fin 2) : Model.Wts where
  q := numWt a2 l
  k := numWt a3 l
  v := numWt a4 l
  o := numWt a5 l
  tq := numWt a6 l
  tk := numWt a7 l
  tv := numWt a8 l
  tp := numWt a9 l

/-- Where the four masks of the scores are all ones, the scores of both layers are separated. -/
theorem apart_of_masks
    (c1 : countMask (s1 (R4 x) (R3 fun l => (P l).q) (R3 fun l => (P l).k) (R3 fun l => (P l).v) (R3 fun l => (P l).o)
      (R3 fun l => (P l).tq) (R3 fun l => (P l).tk)) = fun _ => 1#1)
    (m1 : spanMask (s1 (R4 x) (R3 fun l => (P l).q) (R3 fun l => (P l).k) (R3 fun l => (P l).v) (R3 fun l => (P l).o)
      (R3 fun l => (P l).tq) (R3 fun l => (P l).tk)) = fun _ => 1#1)
    (c2 : countMask (s2 (R4 x) (R3 fun l => (P l).q) (R3 fun l => (P l).k) (R3 fun l => (P l).v) (R3 fun l => (P l).o)
      (R3 fun l => (P l).tq) (R3 fun l => (P l).tk) (R3 fun l => (P l).tv) (R3 fun l => (P l).tp)) = fun _ => 1#1)
    (m2 : spanMask (s2 (R4 x) (R3 fun l => (P l).q) (R3 fun l => (P l).k) (R3 fun l => (P l).v) (R3 fun l => (P l).o)
      (R3 fun l => (P l).tq) (R3 fun l => (P l).tk) (R3 fun l => (P l).tv) (R3 fun l => (P l).tp)) = fun _ => 1#1) :
    Apart x P := by
  rw [s1_real] at c1 m1
  have h1 := sep_of_masks _ c1 m1
  rw [s2_real x P h1] at c2 m2
  exact fun b h i => ⟨h1 b h i, sep_of_masks _ c2 m2 b h i⟩

/-- What the precondition says of the ten arrays: the nine that are read are of real numbers, and the scores of both
layers are separated. -/
theorem of_pre (x0 : Img) (a2 a3 a4 a5 a6 a7 a8 a9 : FVec Ideal S2x128x128 .f32)
    (h0 : finImg x0 = fun _ => 1#1) (h2 : finWt a2 = fun _ => 1#1) (h3 : finWt a3 = fun _ => 1#1) (h4 : finWt a4 = fun _ => 1#1)
    (h5 : finWt a5 = fun _ => 1#1) (h6 : finWt a6 = fun _ => 1#1) (h7 : finWt a7 = fun _ => 1#1) (h8 : finWt a8 = fun _ => 1#1)
    (h9 : finWt a9 = fun _ => 1#1)
    (c1 : countMask (s1 x0 a2 a3 a4 a5 a6 a7) = fun _ => 1#1) (m1 : spanMask (s1 x0 a2 a3 a4 a5 a6 a7) = fun _ => 1#1)
    (c2 : countMask (s2 x0 a2 a3 a4 a5 a6 a7 a8 a9) = fun _ => 1#1) (m2 : spanMask (s2 x0 a2 a3 a4 a5 a6 a7 a8 a9) = fun _ => 1#1) :
    Apart (numImg x0) (nums a2 a3 a4 a5 a6 a7 a8 a9) := by
  rw [img_real x0 h0, wt_real a2 h2, wt_real a3 h3, wt_real a4 h4, wt_real a5 h5, wt_real a6 h6, wt_real a7 h7] at c1 m1
  rw [img_real x0 h0, wt_real a2 h2, wt_real a3 h3, wt_real a4 h4, wt_real a5 h5, wt_real a6 h6, wt_real a7 h7, wt_real a8 h8, wt_real a9 h9] at c2 m2
  exact apart_of_masks (numImg x0) (nums a2 a3 a4 a5 a6 a7 a8 a9) c1 m1 c2 m2

end Cert.Pre_separated.Masks
-- ==== Proof.Value.lean ====
module

public import proofs.«01_k».proof.Defs
public import proofs.«01_k».proof.Proof.PreReal
public import proofs.«01_k».proof.Proof.KernelOut
public import Idealize.ShloMosaic.Adequacy
public import Idealize.ShloMosaic.Init

@[expose] public section

noncomputable section

/-! The two programs end with equal results. -/

namespace Cert.Value

open Idealize.ShloMosaic Idealize.ShloMosaic.TcCoe Idealize.SL.Sem
open Cert.Pre_separated.Masks Cert.ReferenceIdeal.Steps

variable (m : (ℓ : Loc Cert.KernelIdeal.nD Cert.KernelIdeal.τ Cert.KernelIdeal.sig) → Buf (Elt Ideal) ℓ) (c : Dev Cert.KernelIdeal.nD)

/-- An argument of the kernel, as the launch holds it. -/
abbrev arg (b : Ref Cert.KernelIdeal.sig .tc) := m ((c.tc : Thread Cert.KernelIdeal.nD Cert.KernelIdeal.τ).loc b)

/-- The real numbers of the images and of the weights. -/
def imgs : Fin 2 → Fin 128 → Fin 128 → Fin 128 → ℝ := numImg (arg m c Cert.KernelIdeal.main_arg0)
def wts : Fin 2 → Model.Wts :=
  nums (arg m c Cert.KernelIdeal.main_arg2) (arg m c Cert.KernelIdeal.main_arg3) (arg m c Cert.KernelIdeal.main_arg4)
    (arg m c Cert.KernelIdeal.main_arg5) (arg m c Cert.KernelIdeal.main_arg6) (arg m c Cert.KernelIdeal.main_arg7)
    (arg m c Cert.KernelIdeal.main_arg8) (arg m c Cert.KernelIdeal.main_arg9)

/-- Under the precondition the arguments are those numbers and both layers' scores are separated. -/
theorem reads_apart (h : Pre_KernelIdeal_separated (hPre_separated := facts) m) :
    Cert.KernelIdeal.Reads m c (imgs m c) (wts m c) ∧ Cert.KernelIdeal.Apart (imgs m c) (wts m c) := by
  obtain ⟨h0, h2, h3, h4, h5, h6, h7, h8, h9, c1, m1, c2, m2⟩ := h c
  rw [fn_masks] at h0 h2 h3 h4 h5 h6 h7 h8 h9 c1 m1 c2 m2
  exact ⟨⟨img_real _ h0, wt_real _ h2, wt_real _ h3, wt_real _ h4, wt_real _ h5, wt_real _ h6, wt_real _ h7, wt_real _ h8, wt_real _ h9⟩,
    of_pre _ _ _ _ _ _ _ _ _ h0 h2 h3 h4 h5 h6 h7 h8 h9 c1 m1 c2 m2⟩

/-- Under the precondition, and from equal arguments, both programs run and end with equal results. -/
theorem algebraic : Cert.algebraic_KernelIdeal_ReferenceIdeal_pre_separated (hKernelIdeal := Cert.KernelIdeal.Gen.facts)
    (hReferenceIdeal := Cert.ReferenceIdeal.Gen.facts) (hPre_separated := facts) := by
  intro m g m' g' hp ha
  have hra := fun c => reads_apart m c hp
  refine ⟨fun c => Cert.KernelIdeal.outFlat (imgs m c) (wts m c), fun c => Cert.KernelIdeal.outFlat (imgs m c) (wts m c),
    Cert.KernelIdeal.run_value m g _ _ (fun c => (hra c).1) (fun c => (hra c).2), ?_⟩
  refine (θ_run _ _ _).mono (fun r h c => ?_) (run_whole m' g')
  obtain ⟨e0, e1, e2, e3, e4, e5, e6, e7, e8, e9⟩ := ha c
  obtain ⟨r0, r1, rest⟩ := h c
  have hw : whole (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9))
      = Cert.KernelIdeal.outFlat (imgs m c) (wts m c) := by
    rw [e0, e2, e3, e4, e5, e6, e7, e8, e9, (hra c).1.a0, (hra c).1.a2, (hra c).1.a3, (hra c).1.a4, (hra c).1.a5, (hra c).1.a6, (hra c).1.a7, (hra c).1.a8, (hra c).1.a9]
    exact whole_real (imgs m c) (wts m c) (hra c).2
  exact ⟨r0.trans hw, r1.trans hw, rest⟩

end Cert.Value
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Words.Frames
public import proofs.«01_k».proof.Proof.Value
public import Idealize.ShloMosaic.Adequacy
public import Idealize.ShloMosaic.Init

@[expose] public section

noncomputable section

namespace Cert.Proof

open Idealize.ShloMosaic Idealize.SL.Sem Cert.Kernel

/-- The word program runs, leaves its arguments as they were and every semaphore counter at zero. -/
theorem frame_kernel : Cert.quiescent_Kernel (hKernel := Cert.Kernel.Gen.facts) := fun m g _ => Cert.Kernel.frame_main m g

/-- The same of the program read over the extended reals. -/
theorem frame_kernelIdeal : Cert.quiescent_KernelIdeal (hKernelIdeal := Cert.KernelIdeal.Gen.facts) := fun m g _ => Cert.KernelIdeal.frame_main m g

/-- The reference runs, leaves its arguments as they were; it has no semaphore. -/
theorem frame_reference : Cert.quiescent_ReferenceIdeal (hReferenceIdeal := Cert.ReferenceIdeal.Gen.facts) := fun m g _ =>
  (θ_run _ _ _).mono (fun r h => ⟨fun c => (h c).2.2, Idealize.ShloMosaic.sem_eq_zero_of_no_sems (by decide) r.2⟩) (Cert.ReferenceIdeal.Value.run (F := Ideal) m g)

/-- The same two under the precondition, which they do not need. -/
theorem frame_kernelIdeal_pre : Cert.quiescent_KernelIdeal_pre_separated (hKernelIdeal := Cert.KernelIdeal.Gen.facts)
    (hPre_separated := Cert.Pre_separated.Masks.facts) := fun m g _ => frame_kernelIdeal m g trivial
theorem frame_reference_pre : Cert.quiescent_ReferenceIdeal_pre_separated (hReferenceIdeal := Cert.ReferenceIdeal.Gen.facts)
    (hPre_separated := Cert.Pre_separated.Masks.facts) := fun m g _ => frame_reference m g trivial

/-- Every claim of the certificate. -/
theorem claim : Cert.Claim := ⟨Cert.Kernel.Gen.facts, Cert.KernelIdeal.Gen.facts, Cert.ReferenceIdeal.Gen.facts,
  Cert.Pre_separated.Masks.facts, frame_kernel, frame_kernelIdeal, frame_kernelIdeal_pre, frame_reference, frame_reference_pre,
  trivial, Cert.Value.algebraic⟩

end Cert.Proof

end
